-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_tables3 : Cert.Pre_tables3.Facts] (m : (ℓ : Loc Cert.Kernel3.nD Cert.Kernel3.τ Cert.Kernel3.sig) → Buf (Elt Bits) ℓ) : Prop :=
  ∀ c : Dev Cert.Kernel3.nD,
    (Cert.Pre_tables3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_tables3 : Cert.Pre_tables3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_tables3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_tables3 [hPre_tables3 : Cert.Pre_tables3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_tables3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 [hPre_tables4 : Cert.Pre_tables4.Facts] (m : (ℓ : Loc Cert.Kernel4.nD Cert.Kernel4.τ Cert.Kernel4.sig) → Buf (Elt Bits) ℓ) : Prop :=
  ∀ c : Dev Cert.Kernel4.nD,
    (Cert.Pre_tables4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_tables4 : Cert.Pre_tables4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tables4 [hPre_tables4 : Cert.Pre_tables4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_tables3 : Cert.Pre_tables3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_tables3 : Cert.Pre_tables3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_tables3 [hReference3Ideal : Cert.Reference3Ideal.Facts] [hPre_tables3 : Cert.Pre_tables3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_tables3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] [hPre_tables4 : Cert.Pre_tables4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_tables4 : Cert.Pre_tables4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_tables4 [hReference4Ideal : Cert.Reference4Ideal.Facts] [hPre_tables4 : Cert.Pre_tables4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tables4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_used3 [hKernel3Ideal : Cert.Kernel3Ideal.Facts] [hReference3Ideal : Cert.Reference3Ideal.Facts] [hPre_tables3 : Cert.Pre_tables3.Facts] [hOn_used3 : Cert.On_used3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![40960, 1024]⟩ : Shape).Idx, (Cert.On_used3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v4) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![40960, 1024]⟩ : Shape).Idx, (Cert.On_used3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v39) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_on_used4 [hKernel4Ideal : Cert.Kernel4Ideal.Facts] [hReference4Ideal : Cert.Reference4Ideal.Facts] [hPre_tables4 : Cert.Pre_tables4.Facts] [hOn_used4 : Cert.On_used4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![40960, 4096]⟩ : Shape).Idx, (Cert.On_used4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) i = 1#1 → r.2.mem ((c.tc : Thread Cert.Kernel4Ideal.nD Cert.Kernel4Ideal.τ).loc Cert.Kernel4Ideal.main_v4) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![40960, 4096]⟩ : Shape).Idx, (Cert.On_used4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) i = 1#1 → r.2.mem ((c.tc : Thread Cert.Reference4Ideal.nD Cert.Reference4Ideal.τ).loc Cert.Reference4Ideal.main_v22) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "q_scale" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v88) = v0 c
          ∧ r.2.mem ((c.tc : Thread Cert.Reference5Ideal.nD Cert.Reference5Ideal.τ).loc Cert.Reference5Ideal.main_v90) = v1 c
          ∧ r.2.mem ((c.tc : Thread Cert.Reference5Ideal.nD Cert.Reference5Ideal.τ).loc Cert.Reference5Ideal.main_v91) = v2 c
          ∧ r.2.mem ((c.tc : Thread Cert.Reference5Ideal.nD Cert.Reference5Ideal.τ).loc Cert.Reference5Ideal.main_v93) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v49) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v9) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v10_0)) (v1 : (c : Dev Cert.Kernel8Ideal.nD) → Buf (Elt Ideal) ((c.tc : Thread Cert.Kernel8Ideal.nD Cert.Kernel8Ideal.τ).loc Cert.Kernel8Ideal.main_v10_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10_0) = v0 c
          ∧ r.2.mem ((c.tc : Thread Cert.Kernel8Ideal.nD Cert.Kernel8Ideal.τ).loc Cert.Kernel8Ideal.main_v10_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v28) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_tables3 : Cert.Pre_tables3.Facts) (hPre_tables4 : Cert.Pre_tables4.Facts) (hPre_finite8 : Cert.Pre_finite8.Facts) (hOn_used3 : Cert.On_used3.Facts) (hOn_used4 : Cert.On_used4.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_tables3 := hPre_tables3)
    ∧ quiescent_Kernel3Ideal (hKernel3Ideal := hKernel3Ideal) (hPre_tables3 := hPre_tables3)
    ∧ quiescent_Reference3Ideal (hReference3Ideal := hReference3Ideal)
    ∧ quiescent_Reference3Ideal_pre_tables3 (hReference3Ideal := hReference3Ideal) (hPre_tables3 := hPre_tables3)
    ∧ quiescent_Kernel4 (hKernel4 := hKernel4) (hPre_tables4 := hPre_tables4)
    ∧ quiescent_Kernel4Ideal (hKernel4Ideal := hKernel4Ideal) (hPre_tables4 := hPre_tables4)
    ∧ quiescent_Reference4Ideal (hReference4Ideal := hReference4Ideal)
    ∧ quiescent_Reference4Ideal_pre_tables4 (hReference4Ideal := hReference4Ideal) (hPre_tables4 := hPre_tables4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_on_used3 (hKernel3Ideal := hKernel3Ideal) (hReference3Ideal := hReference3Ideal) (hPre_tables3 := hPre_tables3) (hOn_used3 := hOn_used3)
    ∧ preserves_Kernel4_Kernel4Ideal
    ∧ algebraic_Kernel4Ideal_Reference4Ideal_on_used4 (hKernel4Ideal := hKernel4Ideal) (hReference4Ideal := hReference4Ideal) (hPre_tables4 := hPre_tables4) (hOn_used4 := hOn_used4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== On_used3.lean ====
abbrev S160 : Shape := ⟨1, ![160]⟩
abbrev S1 : Shape := ⟨1, ![1]⟩
abbrev S40960x4096 : Shape := ⟨2, ![40960, 4096]⟩
abbrev S1x32x4096x2048 : Shape := ⟨4, ![1, 32, 4096, 2048]⟩
abbrev S1x32x2048 : Shape := ⟨3, ![1, 32, 2048]⟩
abbrev S40960x1024 : Shape := ⟨2, ![40960, 1024]⟩
abbrev S_ : Shape := ⟨0, ![]⟩

class Facts : Prop where
  shapeCasts_S1_S_ : S1.ShapeCasts S_
  bcast_S_S40960x1024 : S_.BroadcastsInDim S40960x1024 (![] : Fin 0 → Fin S40960x1024.rank)

variable [Facts]

def fn {F : FTy → Type} [FloatOps F] (main_arg0 : IVec S160 32) (main_arg1 : IVec S1 32) (main_arg2 : FVec F S40960x4096 .f32) (main_arg3 : FVec F S1x32x4096x2048 .f32) (main_arg4 : FVec F S1x32x2048 .f32) : IVec S40960x1024 1 :=
  let main_v0 : IVec S40960x1024 32 := iotaInDim S40960x1024 32 0
  let main_v1 : IVec S_ 32 := shapeCast S_ main_arg1 shapeCasts_S1_S_
  let main_c : IVec S_ 32 := constantI S_ 32 256#32
  let main_v2 : IVec S_ 32 := muli main_v1 main_c
  let main_v3 : IVec S40960x1024 32 := broadcastInDim S40960x1024 ![] bcast_S_S40960x1024 main_v2
  let main_v4 : IVec S40960x1024 1 := cmpi .slt main_v0 main_v3
  main_v4
-- ==== On_used4.lean ====
abbrev S160 : Shape := ⟨1, ![160]⟩
abbrev S1 : Shape := ⟨1, ![1]⟩
abbrev S40960x1024 : Shape := ⟨2, ![40960, 1024]⟩
abbrev S1x32x1024x4096 : Shape := ⟨4, ![1, 32, 1024, 4096]⟩
abbrev S1x32x4096 : Shape := ⟨3, ![1, 32, 4096]⟩
abbrev S40960x4096 : Shape := ⟨2, ![40960, 4096]⟩
abbrev S_ : Shape := ⟨0, ![]⟩

class Facts : Prop where
  shapeCasts_S1_S_ : S1.ShapeCasts S_
  bcast_S_S40960x4096 : S_.BroadcastsInDim S40960x4096 (![] : Fin 0 → Fin S40960x4096.rank)

variable [Facts]

def fn {F : FTy → Type} [FloatOps F] (main_arg0 : IVec S160 32) (main_arg1 : IVec S1 32) (main_arg2 : FVec F S40960x1024 .bf16) (main_arg3 : FVec F S1x32x1024x4096 .f32) (main_arg4 : FVec F S1x32x4096 .f32) : IVec S40960x4096 1 :=
  let main_v0 : IVec S40960x4096 32 := iotaInDim S40960x4096 32 0
  let main_v1 : IVec S_ 32 := shapeCast S_ main_arg1 shapeCasts_S1_S_
  let main_c : IVec S_ 32 := constantI S_ 32 256#32
  let main_v2 : IVec S_ 32 := muli main_v1 main_c
  let main_v3 : IVec S40960x4096 32 := broadcastInDim S40960x4096 ![] bcast_S_S40960x4096 main_v2
  let main_v4 : IVec S40960x4096 1 := cmpi .slt main_v0 main_v3
  main_v4
-- ==== Pre_finite8.lean ====
abbrev S8192x4096 : Shape := ⟨2, ![8192, 4096]⟩
abbrev S1x4096 : Shape := ⟨2, ![1, 4096]⟩
abbrev S1x24576 : Shape := ⟨2, ![1, 24576]⟩
abbrev S1x4096x32 : Shape := ⟨3, ![1, 4096, 32]⟩
abbrev S1x32 : Shape := ⟨2, ![1, 32]⟩
abbrev S_ : Shape := ⟨0, ![]⟩
abbrev S1x8192 : Shape := ⟨2, ![1, 8192]⟩

class Facts : Prop where
  bcast_S_S1x4096 : S_.BroadcastsInDim S1x4096 (![] : Fin 0 → Fin S1x4096.rank)
  reducesTo_S1x4096_S_d0_1 : S1x4096.ReducesTo [0, 1] S_
  h_S_ : 0 < S_.numel
  slices_S1x24576_S1x8192_0_12288 : S1x24576.Slices ![0, 12288] S1x8192
  bcast_S_S1x8192 : S_.BroadcastsInDim S1x8192 (![] : Fin 0 → Fin S1x8192.rank)
  reducesTo_S1x8192_S_d0_1 : S1x8192.ReducesTo [0, 1] S_
  bcast_S_S1x4096x32 : S_.BroadcastsInDim S1x4096x32 (![] : Fin 0 → Fin S1x4096x32.rank)
  reducesTo_S1x4096x32_S_d0_1_2 : S1x4096x32.ReducesTo [0, 1, 2] S_

variable [Facts]

def fn {F : FTy → Type} [FloatOps F] (main_arg0 : FVec F S8192x4096 .f32) (main_arg1 : FVec F S1x4096 .f32) (main_arg2 : FVec F S1x24576 .f32) (main_arg3 : FVec F S1x4096x32 .f32) (main_arg4 : FVec F S1x32 .f32) : IVec S_ 1 :=
  let main_v0 : FVec F S1x4096 .f32 := Host.absf main_arg1
  let main_cst : FVec F S_ .f32 := constant S_ .f32 0x7F800000#32
  let main_v1 : FVec F S1x4096 .f32 := broadcastInDim S1x4096 ![] bcast_S_S1x4096 main_cst
  let main_v2 : IVec S1x4096 1 := cmpf .olt main_v0 main_v1
  let main_c : IVec S_ 1 := constantI S_ 1 1#1
  let main_v3 : IVec S_ 1 := (fun x v => Host.reduce IntOp.andi x v reducesTo_S1x4096_S_d0_1 h_S_) main_v2 main_c
  let main_v4 : FVec F S1x8192 .f32 := (extractStridedSlice S1x8192 ![0, 12288] · slices_S1x24576_S1x8192_0_12288) main_arg2
  let main_v5 : FVec F S1x8192 .f32 := Host.absf main_v4
  let main_cst_0 : FVec F S_ .f32 := constant S_ .f32 0x7F800000#32
  let main_v6 : FVec F S1x8192 .f32 := broadcastInDim S1x8192 ![] bcast_S_S1x8192 main_cst_0
  let main_v7 : IVec S1x8192 1 := cmpf .olt main_v5 main_v6
  let main_c_1 : IVec S_ 1 := constantI S_ 1 1#1
  let main_v8 : IVec S_ 1 := (fun x v => Host.reduce IntOp.andi x v reducesTo_S1x8192_S_d0_1 h_S_) main_v7 main_c_1
  let main_v9 : IVec S_ 1 := andi main_v3 main_v8
  let main_v10 : FVec F S1x4096x32 .f32 := Host.absf main_arg3
  let main_cst_2 : FVec F S_ .f32 := constant S_ .f32 0x7F800000#32
  let main_v11 : FVec F S1x4096x32 .f32 := broadcastInDim S1x4096x32 ![] bcast_S_S1x4096x32 main_cst_2
  let main_v12 : IVec S1x4096x32 1 := cmpf .olt main_v10 main_v11
  let main_c_3 : IVec S_ 1 := constantI S_ 1 1#1
  let main_v13 : IVec S_ 1 := (fun x v => Host.reduce IntOp.andi x v reducesTo_S1x4096x32_S_d0_1_2 h_S_) main_v12 main_c_3
  let main_v14 : IVec S_ 1 := andi main_v9 main_v13
  main_v14
-- ==== Pre_finite_qk.lean ====
abbrev S2048x8192 : Shape := ⟨2, ![2048, 8192]⟩
abbrev S8192x512 : Shape := ⟨2, ![8192, 512]⟩
abbrev S512x8192 : Shape := ⟨2, ![512, 8192]⟩
abbrev S_ : Shape := ⟨0, ![]⟩

class Facts : Prop where
  bitsLt_bf16_f32 : FTy.bits .bf16 < FTy.bits .f32
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S2048x8192 .bf16) (main_arg1 : FVec F S8192x512 .bf16) (main_arg2 : FVec F S512x8192 .bf16) : IVec S_ 1 :=
  let main_v0 : FVec F S2048x8192 .f32 := (extf .f32 · bitsLt_bf16_f32) main_arg0
  let main_v1 : FVec F S2048x8192 .f32 := Host.absf main_v0
  let main_cst : FVec F S_ .f32 := constant S_ .f32 0x7F800000#32
  let main_v2 : FVec F S2048x8192 .f32 := broadcastInDim S2048x8192 ![] bcast_S_S2048x8192 main_cst
  let main_v3 : IVec S2048x8192 1 := cmpf .olt main_v1 main_v2
  let main_c : IVec S_ 1 := constantI S_ 1 1#1
  let main_v4 : IVec S_ 1 := (fun x v => Host.reduce IntOp.andi x v reducesTo_S2048x8192_S_d0_1 h_S_) main_v3 main_c
  let main_v5 : FVec F S8192x512 .f32 := (extf .f32 · bitsLt_bf16_f32) main_arg1
  let main_v6 : FVec F S8192x512 .f32 := Host.absf main_v5
  let main_cst_0 : FVec F S_ .f32 := constant S_ .f32 0x7F800000#32
  let main_v7 : FVec F S8192x512 .f32 := broadcastInDim S8192x512 ![] bcast_S_S8192x512 main_cst_0
  let main_v8 : IVec S8192x512 1 := cmpf .olt main_v6 main_v7
  let main_c_1 : IVec S_ 1 := constantI S_ 1 1#1
  let main_v9 : IVec S_ 1 := (fun x v => Host.reduce IntOp.andi x v reducesTo_S8192x512_S_d0_1 h_S_) main_v8 main_c_1
  let main_v10 : IVec S_ 1 := andi main_v4 main_v9
  main_v10
-- ==== Pre_tables3.lean ====
abbrev S160 : Shape := ⟨1, ![160]⟩
abbrev S1 : Shape := ⟨1, ![1]⟩
abbrev S40960x4096 : Shape := ⟨2, ![40960, 4096]⟩
abbrev S1x32x4096x2048 : Shape := ⟨4, ![1, 32, 4096, 2048]⟩
abbrev S1x32x2048 : Shape := ⟨3, ![1, 32, 2048]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : FVec F S40960x4096 .f32) (main_arg3 : FVec F S1x32x4096x2048 .f32) (main_arg4 : FVec F S1x32x2048 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 160#32
  let main_v10 : IVec S_ 1 := cmpi .sle main_v9 main_c_3
  let main_v11 : IVec S_ 1 := andi main_v8 main_v10
  main_v11
-- ==== Pre_tables4.lean ====
abbrev S160 : Shape := ⟨1, ![160]⟩
abbrev S1 : Shape := ⟨1, ![1]⟩
abbrev S40960x1024 : Shape := ⟨2, ![40960, 1024]⟩
abbrev S1x32x1024x4096 : Shape := ⟨4, ![1, 32, 1024, 4096]⟩
abbrev S1x32x4096 : Shape := ⟨3, ![1, 32, 4096]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel
  shapeCasts_S1_S_ : S1.ShapeCasts S_

variable [Facts]

def fn {F : FTy → Type} [FloatOps F] (main_arg0 : IVec S160 32) (main_arg1 : IVec S1 32) (main_arg2 : FVec F S40960x1024 .bf16) (main_arg3 : FVec F S1x32x1024x4096 .f32) (main_arg4 : FVec F S1x32x4096 .f32) : IVec S_ 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 160#32
  let main_v10 : IVec S_ 1 := cmpi .sle main_v9 main_c_3
  let main_v11 : IVec S_ 1 := andi main_v8 main_v10
  main_v11
-- ==== Kernel.lean ====
abbrev S2048x8192 : Shape := ⟨2, ![2048, 8192]⟩
abbrev S8192x512 : Shape := ⟨2, ![8192, 512]⟩
abbrev S512x8192 : Shape := ⟨2, ![512, 8192]⟩
abbrev S8192x2048 : Shape := ⟨2, ![8192, 2048]⟩
abbrev S128x512 : Shape := ⟨2, ![128, 512]⟩
abbrev S8192x128 : Shape := ⟨2, ![8192, 128]⟩
abbrev S128x8192 : Shape := ⟨2, ![128, 8192]⟩
abbrev S512x128 : Shape := ⟨2, ![512, 128]⟩
abbrev S1x512 : Shape := ⟨2, ![1, 512]⟩
abbrev S512x512 : Shape := ⟨2, ![512, 512]⟩
abbrev S512 : Shape := ⟨1, ![512]⟩

abbrev nBuf : Space → Nat
  | .hbm => 4
  | .vmem => 8
  | .smem => 0
  | _ => 0

abbrev bufTy : (tb : Table) → Fin (tcTables nBuf tb) → BufTy
  | .hbm, ⟨0, _⟩ => ⟨S2048x8192, .bf16⟩
  | .hbm, ⟨1, _⟩ => ⟨S8192x512, .bf16⟩
  | .hbm, ⟨2, _⟩ => ⟨S512x8192, .bf16⟩
  | .hbm, ⟨3, _⟩ => ⟨S8192x2048, .bf16⟩
  | .local _ .vmem, ⟨0, _⟩ => ⟨S128x512, .bf16⟩
  | .local _ .vmem, ⟨1, _⟩ => ⟨S128x512, .bf16⟩
  | .local _ .vmem, ⟨2, _⟩ => ⟨S8192x128, .bf16⟩
  | .local _ .vmem, ⟨3, _⟩ => ⟨S8192x128, .bf16⟩
  | .local _ .vmem, ⟨4, _⟩ => ⟨S128x8192, .bf16⟩
  | .local _ .vmem, ⟨5, _⟩ => ⟨S128x8192, .bf16⟩
  | .local _ .vmem, ⟨6, _⟩ => ⟨S512x128, .bf16⟩
  | .local _ .vmem, ⟨7, _⟩ => ⟨S512x128, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c512_i32 : BitVec 32 := 512#32
  let v11 : BitVec 32 := Scalar.muli arg6 c512_i32
  v11
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c512_i32 : BitVec 32 := 512#32
  let v11 : BitVec 32 := Scalar.muli arg6 c512_i32
  let v12 : BitVec 32 := v11
  let v13 : Index := Scalar.indexCast v12
  let c0_6 : Index := 0#32
  ![v13.toNat, 0]
def k0_off2 (k0_t1 : Fin k0_t1_loop.trips) : Fin 2 → Nat :=
  let c0_10 : Index := 0#32
  let c0_i32 : BitVec 32 := 0#32
  let c1_i32 : BitVec 32 := 1#32
  let arg6 : BitVec 32 := Scf.iv c0_i32 c1_i32 k0_t1
  let c512_i32 : BitVec 32 := 512#32
  let v11 : BitVec 32 := Scalar.muli arg6 c512_i32
  let v12 : BitVec 32 := v11
  let v28 : Index := Scalar.indexCast v12
  ![0, v28.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![c0_i32_4.toNat, v16.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2048x8192 : Shape := ⟨2, ![2048, 8192]⟩
abbrev S8192x512 : Shape := ⟨2, ![8192, 512]⟩
abbrev S512x8192 : Shape := ⟨2, ![512, 8192]⟩
abbrev S8192x2048 : Shape := ⟨2, ![8192, 2048]⟩
abbrev S_ : Shape := ⟨0, ![]⟩
abbrev S8192x4x4x128 : Shape := ⟨4, ![8192, 4, 4, 128]⟩
abbrev S8192x4x128 : Shape := ⟨3, ![8192, 4, 128]⟩
abbrev S4x8192x8192x4 : Shape := ⟨4, ![4, 8192, 8192, 4]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S4x4x8192x128 : Shape := ⟨4, ![4, 4, 8192, 128]⟩

abbrev nBuf : Space → Nat
  | .hbm => 42
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x512, .bf16⟩
  | .hbm, ⟨2, _⟩ => ⟨S512x8192, .bf16⟩
  | .hbm, ⟨3, _⟩ => ⟨S8192x2048, .bf16⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S8192x4x4x128, .f32⟩
  | .hbm, ⟨13, _⟩ => ⟨S8192x512, .f32⟩
  | .hbm, ⟨14, _⟩ => ⟨S8192x4x128, .f32⟩
  | .hbm, ⟨15, _⟩ => ⟨S8192x512, .bf16⟩
  | .hbm, ⟨16, _⟩ => ⟨S8192x512, .f32⟩
  | .hbm, ⟨17, _⟩ => ⟨S8192x4x128, .f32⟩
  | .hbm, ⟨18, _⟩ => ⟨S4x8192x8192x4, .f32⟩
  | .hbm, ⟨19, _⟩ => ⟨S4x4x8192x8192, .f32⟩
  | .hbm, ⟨20, _⟩ => ⟨S_, .f32⟩
  | .hbm, ⟨21, _⟩ => ⟨S_, .f32⟩
  | .hbm, ⟨22, _⟩ => ⟨S4x4x8192x8192, .f32⟩
  | .hbm, ⟨23, _⟩ => ⟨S4x4x8192x8192, .f32⟩
  | .hbm, ⟨24, _⟩ => ⟨S_, .f32⟩
  | .hbm, ⟨25, _⟩ => ⟨S4x4x8192, .f32⟩
  | .hbm, ⟨26, _⟩ => ⟨S_, .f32⟩
  | .hbm, ⟨27, _⟩ => ⟨S4x4x8192, .f32⟩
  | .hbm, ⟨28, _⟩ => ⟨S4x4x8192, .f32⟩
  | .hbm, ⟨29, _⟩ => ⟨S4x4x8192x1, .f32⟩
  | .hbm, ⟨30, _⟩ => ⟨S4x4x8192x8192, .f32⟩
  | .hbm, ⟨31, _⟩ => ⟨S4x4x8192x8192, .f32⟩
  | .hbm, ⟨32, _⟩ => ⟨S4x4x8192x8192, .f32⟩
  | .hbm, ⟨33, _⟩ => ⟨S_, .f32⟩
  | .hbm, ⟨34, _⟩ => ⟨S4x4x8192, .f32⟩
  | .hbm, ⟨35, _⟩ => ⟨S4x4x8192x1, .f32⟩
  | .hbm, ⟨36, _⟩ => ⟨S4x4x8192x8192, .f32⟩
  | .hbm, ⟨37, _⟩ => ⟨S4x4x8192x8192, .f32⟩
  | .hbm, ⟨38, _⟩ => ⟨S4x4x8192x128, .f32⟩
  | .hbm, ⟨39, _⟩ => ⟨S8192x4x4x128, .f32⟩
  | .hbm, ⟨40, _⟩ => ⟨S8192x2048, .f32⟩
  | .hbm, ⟨41, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel2.lean ====
abbrev S8192x2048 : Shape := ⟨2, ![8192, 2048]⟩
abbrev S1x4096x4096 : Shape := ⟨3, ![1, 4096, 4096]⟩
abbrev S1x8192x4096 : Shape := ⟨3, ![1, 8192, 4096]⟩
abbrev S1x24576 : Shape := ⟨2, ![1, 24576]⟩
abbrev S8192x4096 : Shape := ⟨2, ![8192, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S1x8192x4096, .f32⟩
  | .hbm, ⟨4, _⟩ => ⟨S1x24576, .f32⟩
  | .hbm, ⟨5, _⟩ => ⟨S8192x4096, .f32⟩
  | .hbm, ⟨6, _⟩ => ⟨S4096x4096, .f32⟩
  | .hbm, ⟨7, _⟩ => ⟨S4096x4096, .bf16⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8192x2048 : Shape := ⟨2, ![8192, 2048]⟩
abbrev S1x4096x4096 : Shape := ⟨3, ![1, 4096, 4096]⟩
abbrev S1x8192x4096 : Shape := ⟨3, ![1, 8192, 4096]⟩
abbrev S1x24576 : Shape := ⟨2, ![1, 24576]⟩
abbrev S1x4096 : Shape := ⟨2, ![1, 4096]⟩
abbrev S1x1x4096 : Shape := ⟨3, ![1, 1, 4096]⟩
abbrev S8192x4096 : Shape := ⟨2, ![8192, 4096]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S1x8192x4096, .f32⟩
  | .hbm, ⟨4, _⟩ => ⟨S1x24576, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x1x4096, .f32⟩
  | .hbm, ⟨12, _⟩ => ⟨S8192x2048, .f32⟩
  | .hbm, ⟨13, _⟩ => ⟨S8192x2048, .f32⟩
  | .hbm, ⟨14, _⟩ => ⟨S8192x4096, .f32⟩
  | .hbm, ⟨15, _⟩ => ⟨S1x8192x4096, .f32⟩
  | .hbm, ⟨16, _⟩ => ⟨S4096x4096, .f32⟩
  | .hbm, ⟨17, _⟩ => ⟨S1x8192x4096, .f32⟩
  | .hbm, ⟨18, _⟩ => ⟨S1x8192x4096, .f32⟩
  | .hbm, ⟨19, _⟩ => ⟨S1x8192x4096, .f32⟩
  | .hbm, ⟨20, _⟩ => ⟨S1x8192x4096, .f32⟩
  | .hbm, ⟨21, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S40960x4096 : Shape := ⟨2, ![40960, 4096]⟩
abbrev S1x32x4096x2048 : Shape := ⟨4, ![1, 32, 4096, 2048]⟩
abbrev S1x32x2048 : Shape := ⟨3, ![1, 32, 2048]⟩
abbrev S32x4096x2048 : Shape := ⟨3, ![32, 4096, 2048]⟩
abbrev S32x2048 : Shape := ⟨2, ![32, 2048]⟩
abbrev S32x1x2048 : Shape := ⟨3, ![32, 1, 2048]⟩
abbrev S40960x1024 : Shape := ⟨2, ![40960, 1024]⟩
abbrev S256x4096 : Shape := ⟨2, ![256, 4096]⟩
abbrev S1x4096x512 : Shape := ⟨3, ![1, 4096, 512]⟩
abbrev S1x1x512 : Shape := ⟨3, ![1, 1, 512]⟩
abbrev S256x512 : Shape := ⟨2, ![256, 512]⟩
abbrev S4096x512 : Shape := ⟨2, ![4096, 512]⟩
abbrev S1x512 : Shape := ⟨2, ![1, 512]⟩

abbrev nBuf : Space → Nat
  | .hbm => 8
  | .vmem => 12
  | .smem => 2
  | _ => 0

abbrev bufTy : (tb : Table) → Fin (tcTables nBuf tb) → BufTy
  | .hbm, ⟨0, _⟩ => ⟨S40960x4096, .f32⟩
  | .hbm, ⟨1, _⟩ => ⟨S1x32x4096x2048, .f32⟩
  | .hbm, ⟨2, _⟩ => ⟨S1x32x2048, .f32⟩
  | .hbm, ⟨3, _⟩ => ⟨S32x4096x2048, .f32⟩
  | .hbm, ⟨4, _⟩ => ⟨S32x4096x2048, .bf16⟩
  | .hbm, ⟨5, _⟩ => ⟨S32x2048, .f32⟩
  | .hbm, ⟨6, _⟩ => ⟨S32x1x2048, .f32⟩
  | .hbm, ⟨7, _⟩ => ⟨S40960x1024, .bf16⟩
  | .local _ .vmem, ⟨0, _⟩ => ⟨S256x4096, .f32⟩
  | .local _ .vmem, ⟨1, _⟩ => ⟨S256x4096, .f32⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S256x512, .bf16⟩
  | .local _ .vmem, ⟨11, _⟩ => ⟨S256x512, .bf16⟩
  | .local _ .smem, ⟨0, _⟩ => ⟨S160, .i32⟩
  | .local _ .smem, ⟨1, _⟩ => ⟨S1, .i32⟩
  | _, _ => ⟨S40960x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S160 : Shape := ⟨1, ![160]⟩
abbrev S1 : Shape := ⟨1, ![1]⟩
abbrev S40960x4096 : Shape := ⟨2, ![40960, 4096]⟩
abbrev S1x32x4096x2048 : Shape := ⟨4, ![1, 32, 4096, 2048]⟩
abbrev S1x32x2048 : Shape := ⟨3, ![1, 32, 2048]⟩
abbrev S160x256x4096 : Shape := ⟨3, ![160, 256, 4096]⟩
abbrev S32x4096x2048 : Shape := ⟨3, ![32, 4096, 2048]⟩
abbrev S_ : Shape := ⟨0, ![]⟩
abbrev S160x1 : Shape := ⟨2, ![160, 1]⟩
abbrev S160x4096x2048 : Shape := ⟨3, ![160, 4096, 2048]⟩
abbrev S160x256x2048 : Shape := ⟨3, ![160, 256, 2048]⟩
abbrev S32x2048 : Shape := ⟨2, ![32, 2048]⟩
abbrev S160x2048 : Shape := ⟨2, ![160, 2048]⟩
abbrev S160x1x2048 : Shape := ⟨3, ![160, 1, 2048]⟩
abbrev S160x256x1024 : Shape := ⟨3, ![160, 256, 1024]⟩
abbrev S40960x1024 : Shape := ⟨2, ![40960, 1024]⟩

abbrev nBuf : Space → Nat
  | .hbm => 61
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x4096, .f32⟩
  | .hbm, ⟨3, _⟩ => ⟨S1x32x4096x2048, .f32⟩
  | .hbm, ⟨4, _⟩ => ⟨S1x32x2048, .f32⟩
  | .hbm, ⟨5, _⟩ => ⟨S160x256x4096, .f32⟩
  | .hbm, ⟨6, _⟩ => ⟨S32x4096x2048, .f32⟩
  | .hbm, ⟨7, _⟩ => ⟨S_, .i32⟩
  | .hbm, ⟨8, _⟩ => ⟨S160, .i32⟩
  | .hbm, ⟨9, _⟩ => ⟨S160, .i1⟩
  | .hbm, ⟨10, _⟩ => ⟨S_, .i32⟩
  | .hbm, ⟨11, _⟩ => ⟨S160, .i32⟩
  | .hbm, ⟨12, _⟩ => ⟨S160, .i32⟩
  | .hbm, ⟨13, _⟩ => ⟨S160, .i32⟩
  | .hbm, ⟨14, _⟩ => ⟨S160x1, .i32⟩
  | .hbm, ⟨15, _⟩ => ⟨S160x4096x2048, .f32⟩
  | .hbm, ⟨16, _⟩ => ⟨S160x256x2048, .f32⟩
  | .hbm, ⟨17, _⟩ => ⟨S32x2048, .f32⟩
  | .hbm, ⟨18, _⟩ => ⟨S_, .i32⟩
  | .hbm, ⟨19, _⟩ => ⟨S160, .i32⟩
  | .hbm, ⟨20, _⟩ => ⟨S160, .i1⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S160x1, .i32⟩
  | .hbm, ⟨26, _⟩ => ⟨S160x2048, .f32⟩
  | .hbm, ⟨27, _⟩ => ⟨S160x1x2048, .f32⟩
  | .hbm, ⟨28, _⟩ => ⟨S160x256x2048, .f32⟩
  | .hbm, ⟨29, _⟩ => ⟨S160x256x2048, .f32⟩
  | .hbm, ⟨30, _⟩ => ⟨S160x256x1024, .f32⟩
  | .hbm, ⟨31, _⟩ => ⟨S_, .f32⟩
  | .hbm, ⟨32, _⟩ => ⟨S160x256x1024, .f32⟩
  | .hbm, ⟨33, _⟩ => ⟨S160x256x1024, .f32⟩
  | .hbm, ⟨34, _⟩ => ⟨S160x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S160x256x1024, .f32⟩
  | .hbm, ⟨39, _⟩ => ⟨S160x256x1024, .f32⟩
  | .hbm, ⟨40, _⟩ => ⟨S_, .f32⟩
  | .hbm, ⟨41, _⟩ => ⟨S160x256x1024, .f32⟩
  | .hbm, ⟨42, _⟩ => ⟨S160x256x1024, .f32⟩
  | .hbm, ⟨43, _⟩ => ⟨S_, .f32⟩
  | .hbm, ⟨44, _⟩ => ⟨S160x256x1024, .f32⟩
  | .hbm, ⟨45, _⟩ => ⟨S160x256x1024, .f32⟩
  | .hbm, ⟨46, _⟩ => ⟨S160x256x1024, .f32⟩
  | .hbm, ⟨47, _⟩ => ⟨S160x256x1024, .f32⟩
  | .hbm, ⟨48, _⟩ => ⟨S_, .f32⟩
  | .hbm, ⟨49, _⟩ => ⟨S160x256x1024, .f32⟩
  | .hbm, ⟨50, _⟩ => ⟨S160x256x1024, .f32⟩
  | .hbm, ⟨51, _⟩ => ⟨S_, .f32⟩
  | .hbm, ⟨52, _⟩ => ⟨S160x256x1024, .f32⟩
  | .hbm, ⟨53, _⟩ => ⟨S160x256x1024, .f32⟩
  | .hbm, ⟨54, _⟩ => ⟨S160x256x1024, .f32⟩
  | .hbm, ⟨55, _⟩ => ⟨S_, .f32⟩
  | .hbm, ⟨56, _⟩ => ⟨S160x256x1024, .f32⟩
  | .hbm, ⟨57, _⟩ => ⟨S160x256x1024, .f32⟩
  | .hbm, ⟨58, _⟩ => ⟨S160x256x1024, .f32⟩
  | .hbm, ⟨59, _⟩ => ⟨S40960x1024, .f32⟩
  | .hbm, ⟨60, _⟩ => ⟨S40960x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩

abbrev nD : Nat := 1
abbrev τ : Topo := Topo.v7x

variable {F : FTy → Type} [FloatOps F]
-- ==== Kernel4.lean ====
abbrev S160 : Shape := ⟨1, ![160]⟩
abbrev S1 : Shape := ⟨1, ![1]⟩
abbrev S40960x1024 : Shape := ⟨2, ![40960, 1024]⟩
abbrev S1x32x1024x4096 : Shape := ⟨4, ![1, 32, 1024, 4096]⟩
abbrev S1x32x4096 : Shape := ⟨3, ![1, 32, 4096]⟩
abbrev S32x1024x4096 : Shape := ⟨3, ![32, 1024, 4096]⟩
abbrev S32x4096 : Shape := ⟨2, ![32, 4096]⟩
abbrev S32x1x4096 : Shape := ⟨3, ![32, 1, 4096]⟩
abbrev S40960x4096 : Shape := ⟨2, ![40960, 4096]⟩
abbrev S256x1024 : Shape := ⟨2, ![256, 1024]⟩
abbrev S1x1024x2048 : Shape := ⟨3, ![1, 1024, 2048]⟩
abbrev S1x1x2048 : Shape := ⟨3, ![1, 1, 2048]⟩
abbrev S256x2048 : Shape := ⟨2, ![256, 2048]⟩
abbrev S1024x2048 : Shape := ⟨2, ![1024, 2048]⟩
abbrev S1x2048 : Shape := ⟨2, ![1, 2048]⟩

abbrev nBuf : Space → Nat
  | .hbm => 8
  | .vmem => 8
  | .smem => 2
  | _ => 0

abbrev bufTy : (tb : Table) → Fin (tcTables nBuf tb) → BufTy
  | .hbm, ⟨0, _⟩ => ⟨S40960x1024, .bf16⟩
  | .hbm, ⟨1, _⟩ => ⟨S1x32x1024x4096, .f32⟩
  | .hbm, ⟨2, _⟩ => ⟨S1x32x4096, .f32⟩
  | .hbm, ⟨3, _⟩ => ⟨S32x1024x4096, .f32⟩
  | .hbm, ⟨4, _⟩ => ⟨S32x1024x4096, .bf16⟩
  | .hbm, ⟨5, _⟩ => ⟨S32x4096, .f32⟩
  | .hbm, ⟨6, _⟩ => ⟨S32x1x4096, .f32⟩
  | .hbm, ⟨7, _⟩ => ⟨S40960x4096, .f32⟩
  | .local _ .vmem, ⟨0, _⟩ => ⟨S256x1024, .bf16⟩
  | .local _ .vmem, ⟨1, _⟩ => ⟨S256x1024, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .smem, ⟨0, _⟩ => ⟨S160, .i32⟩
  | .local _ .smem, ⟨1, _⟩ => ⟨S1, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 160], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S160) ![v0.toNat] S1.size (k0_off1_inb i)) numel1_S1
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S160 : Shape := ⟨1, ![160]⟩
abbrev S1 : Shape := ⟨1, ![1]⟩
abbrev S40960x1024 : Shape := ⟨2, ![40960, 1024]⟩
abbrev S1x32x1024x4096 : Shape := ⟨4, ![1, 32, 1024, 4096]⟩
abbrev S1x32x4096 : Shape := ⟨3, ![1, 32, 4096]⟩
abbrev S160x256x1024 : Shape := ⟨3, ![160, 256, 1024]⟩
abbrev S32x1024x4096 : Shape := ⟨3, ![32, 1024, 4096]⟩
abbrev S_ : Shape := ⟨0, ![]⟩
abbrev S160x1 : Shape := ⟨2, ![160, 1]⟩
abbrev S160x1024x4096 : Shape := ⟨3, ![160, 1024, 4096]⟩
abbrev S160x256x4096 : Shape := ⟨3, ![160, 256, 4096]⟩
abbrev S32x4096 : Shape := ⟨2, ![32, 4096]⟩
abbrev S160x4096 : Shape := ⟨2, ![160, 4096]⟩
abbrev S160x1x4096 : Shape := ⟨3, ![160, 1, 4096]⟩
abbrev S40960x4096 : Shape := ⟨2, ![40960, 4096]⟩

abbrev nBuf : Space → Nat
  | .hbm => 32
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S40960x1024, .bf16⟩
  | .hbm, ⟨3, _⟩ => ⟨S1x32x1024x4096, .f32⟩
  | .hbm, ⟨4, _⟩ => ⟨S1x32x4096, .f32⟩
  | .hbm, ⟨5, _⟩ => ⟨S40960x1024, .f32⟩
  | .hbm, ⟨6, _⟩ => ⟨S160x256x1024, .f32⟩
  | .hbm, ⟨7, _⟩ => ⟨S32x1024x4096, .f32⟩
  | .hbm, ⟨8, _⟩ => ⟨S_, .i32⟩
  | .hbm, ⟨9, _⟩ => ⟨S160, .i32⟩
  | .hbm, ⟨10, _⟩ => ⟨S160, .i1⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S160, .i32⟩
  | .hbm, ⟨15, _⟩ => ⟨S160x1, .i32⟩
  | .hbm, ⟨16, _⟩ => ⟨S160x1024x4096, .f32⟩
  | .hbm, ⟨17, _⟩ => ⟨S160x256x4096, .f32⟩
  | .hbm, ⟨18, _⟩ => ⟨S32x4096, .f32⟩
  | .hbm, ⟨19, _⟩ => ⟨S_, .i32⟩
  | .hbm, ⟨20, _⟩ => ⟨S160, .i32⟩
  | .hbm, ⟨21, _⟩ => ⟨S160, .i1⟩
  | .hbm, ⟨22, _⟩ => ⟨S_, .i32⟩
  | .hbm, ⟨23, _⟩ => ⟨S160, .i32⟩
  | .hbm, ⟨24, _⟩ => ⟨S160, .i32⟩
  | .hbm, ⟨25, _⟩ => ⟨S160, .i32⟩
  | .hbm, ⟨26, _⟩ => ⟨S160x1, .i32⟩
  | .hbm, ⟨27, _⟩ => ⟨S160x4096, .f32⟩
  | .hbm, ⟨28, _⟩ => ⟨S160x1x4096, .f32⟩
  | .hbm, ⟨29, _⟩ => ⟨S160x256x4096, .f32⟩
  | .hbm, ⟨30, _⟩ => ⟨S160x256x4096, .f32⟩
  | .hbm, ⟨31, _⟩ => ⟨S40960x4096, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel5.lean ====
abbrev S8192x4096 : Shape := ⟨2, ![8192, 4096]⟩
abbrev S1x24576 : Shape := ⟨2, ![1, 24576]⟩
abbrev S1x4096 : Shape := ⟨2, ![1, 4096]⟩
abbrev S4096x5120 : Shape := ⟨2, ![4096, 5120]⟩
abbrev S8192x128 : Shape := ⟨2, ![8192, 128]⟩
abbrev S1x128 : Shape := ⟨2, ![1, 128]⟩
abbrev S8192x2048 : Shape := ⟨2, ![8192, 2048]⟩
abbrev S2048x8192 : Shape := ⟨2, ![2048, 8192]⟩
abbrev S8192x512 : Shape := ⟨2, ![8192, 512]⟩
abbrev S512x8192 : Shape := ⟨2, ![512, 8192]⟩
abbrev S512x4096 : Shape := ⟨2, ![512, 4096]⟩
abbrev S4096x512 : Shape := ⟨2, ![4096, 512]⟩
abbrev S512x128 : Shape := ⟨2, ![512, 128]⟩
abbrev S512x512 : Shape := ⟨2, ![512, 512]⟩
abbrev S16x4096 : Shape := ⟨2, ![16, 4096]⟩
abbrev S16 : Shape := ⟨1, ![16]⟩
abbrev S16x1 : Shape := ⟨2, ![16, 1]⟩
abbrev S512 : Shape := ⟨1, ![512]⟩
abbrev S512x1 : Shape := ⟨2, ![512, 1]⟩
abbrev S128x512 : Shape := ⟨2, ![128, 512]⟩

abbrev nBuf : Space → Nat
  | .hbm => 12
  | .vmem => 22
  | .smem => 0
  | _ => 0

abbrev bufTy : (tb : Table) → Fin (tcTables nBuf tb) → BufTy
  | .hbm, ⟨0, _⟩ => ⟨S8192x4096, .f32⟩
  | .hbm, ⟨1, _⟩ => ⟨S1x24576, .f32⟩
  | .hbm, ⟨2, _⟩ => ⟨S1x4096, .f32⟩
  | .hbm, ⟨3, _⟩ => ⟨S4096x5120, .bf16⟩
  | .hbm, ⟨4, _⟩ => ⟨S8192x128, .f32⟩
  | .hbm, ⟨5, _⟩ => ⟨S8192x128, .f32⟩
  | .hbm, ⟨6, _⟩ => ⟨S1x128, .f32⟩
  | .hbm, ⟨7, _⟩ => ⟨S1x128, .f32⟩
  | .hbm, ⟨8, _⟩ => ⟨S8192x2048, .bf16⟩
  | .hbm, ⟨9, _⟩ => ⟨S2048x8192, .bf16⟩
  | .hbm, ⟨10, _⟩ => ⟨S8192x512, .bf16⟩
  | .hbm, ⟨11, _⟩ => ⟨S512x8192, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x512, .bf16⟩
  | .local _ .vmem, ⟨6, _⟩ => ⟨S4096x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x128, .f32⟩
  | .local _ .vmem, ⟨12, _⟩ => ⟨S1x128, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c32_i32 : BitVec 32 := 32#32
  let v20 : BitVec 32 := Scalar.addi c0_i32_10 c32_i32
  let c1_i32 : BitVec 32 := 1#32
  ⟨c0_i32_10, v20, c1_i32⟩
def k0_mult1 (k0_t1 : Fin k0_t1_loop.trips) : BitVec 32 :=
  let c0_i32_10 : BitVec 32 := 0#32
  let c1_i32 : BitVec 32 := 1#32
  let arg16 : BitVec 32 := Scf.iv c0_i32_10 c1_i32 k0_t1
  let c16_i32 : BitVec 32 := 16#32
  let v21 : BitVec 32 := Scalar.muli arg16 c16_i32
  v21
def k0_off1 (k0_t1 : Fin k0_t1_loop.trips) : Fin 2 → Nat :=
  let c0_i32_10 : BitVec 32 := 0#32
  let c1_i32 : BitVec 32 := 1#32
  let arg16 : BitVec 32 := Scf.iv c0_i32_10 c1_i32 k0_t1
  let c16_i32 : BitVec 32 := 16#32
  let v21 : BitVec 32 := Scalar.muli arg16 c16_i32
  let v22 : BitVec 32 := v21
  let v23 : Index := Scalar.indexCast v22
  let c0_12 : Index := 0#32
  ![v23.toNat, 0]
def k0_cond2 (i : grid0.Coords) : BitVec 1 :=
  let arg1 : BitVec 32 := BitVec.ofNat 32 (i 1).val
  let c4_i32 : BitVec 32 := 4#32
  let v6 : BitVec 1 := Scalar.cmpi .slt arg1 c4_i32
  let v7 : BitVec 32 := Scalar.extui v6
  let c0_i32_4 : BitVec 32 := 0#32
  let v8 : BitVec 1 := Scalar.cmpi .ne v7 c0_i32_4
  v8

def k0_cond3 (i : grid0.Coords) : BitVec 1 :=
  let arg1 : BitVec 32 := BitVec.ofNat 32 (i 1).val
  let c4_i32_5 : BitVec 32 := 4#32
  let v9 : BitVec 1 := Scalar.cmpi .sge arg1 c4_i32_5
  let c8_i32 : BitVec 32 := 8#32
  let v10 : BitVec 1 := Scalar.cmpi .slt arg1 c8_i32
  let v11 : BitVec 1 := Scalar.andi v9 v10
  let v12 : BitVec 32 := Scalar.extui v11
  let c0_i32_6 : BitVec 32 := 0#32
  let v13 : BitVec 1 := Scalar.cmpi .ne v12 c0_i32_6
  v13

def k0_cond4 (i : grid0.Coords) : BitVec 1 :=
  let arg1 : BitVec 32 := BitVec.ofNat 32 (i 1).val
  let c8_i32_7 : BitVec 32 := 8#32
  let v14 : BitVec 1 := Scalar.cmpi .eq arg1 c8_i32_7
  let v15 : BitVec 32 := Scalar.extui v14
  let c0_i32_8 : BitVec 32 := 0#32
  let v16 : BitVec 1 := Scalar.cmpi .ne v15 c0_i32_8
  v16

def k0_cond5 (i : grid0.Coords) : BitVec 1 :=
  let arg1 : BitVec 32 := BitVec.ofNat 32 (i 1).val
  let c9_i32 : BitVec 32 := 9#32
  let v17 : BitVec 1 := Scalar.cmpi .eq arg1 c9_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![v2.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Kernel5Ideal.lean ====
variable {F : FTy → Type} [FloatOps F] [Named F]
def κ : String → Option EReal := fun
  | "q_scale" => some (((Real.sqrt 128)⁻¹ * (Real.log 2)⁻¹ : ℝ) : EReal)
  | _ => none
-- ==== Reference5Ideal.lean ====
abbrev S8192x4096 : Shape := ⟨2, ![8192, 4096]⟩
abbrev S1x24576 : Shape := ⟨2, ![1, 24576]⟩
abbrev S1x4096 : Shape := ⟨2, ![1, 4096]⟩
abbrev S4096x5120 : Shape := ⟨2, ![4096, 5120]⟩
abbrev S8192x128 : Shape := ⟨2, ![8192, 128]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S8192x5120 : Shape := ⟨2, ![8192, 5120]⟩
abbrev S8192x2048 : Shape := ⟨2, ![8192, 2048]⟩
abbrev S8192x512 : Shape := ⟨2, ![8192, 512]⟩
abbrev S8192x16x128 : Shape := ⟨3, ![8192, 16, 128]⟩
abbrev S128 : Shape := ⟨1, ![128]⟩
abbrev S8192x16 : Shape := ⟨2, ![8192, 16]⟩
abbrev S8192x16x1 : Shape := ⟨3, ![8192, 16, 1]⟩
abbrev S1x1x128 : Shape := ⟨3, ![1, 1, 128]⟩
abbrev S8192x16x2x2x32 : Shape := ⟨5, ![8192, 16, 2, 2, 32]⟩
abbrev S8192x1x128 : Shape := ⟨3, ![8192, 1, 128]⟩
abbrev S8192x4x128 : Shape := ⟨3, ![8192, 4, 128]⟩
abbrev S8192x4 : Shape := ⟨2, ![8192, 4]⟩
abbrev S8192x4x1 : Shape := ⟨3, ![8192, 4, 1]⟩
abbrev S8192x4x2x2x32 : Shape := ⟨5, ![8192, 4, 2, 2, 32]⟩
abbrev S2048x8192 : Shape := ⟨2, ![2048, 8192]⟩
abbrev S512x8192 : Shape := ⟨2, ![512, 8192]⟩

abbrev nBuf : Space → Nat
  | .hbm => 115
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x24576, .f32⟩
  | .hbm, ⟨2, _⟩ => ⟨S1x4096, .f32⟩
  | .hbm, ⟨3, _⟩ => ⟨S4096x5120, .bf16⟩
  | .hbm, ⟨4, _⟩ => ⟨S8192x128, .f32⟩
  | .hbm, ⟨5, _⟩ => ⟨S8192x128, .f32⟩
  | .hbm, ⟨6, _⟩ => ⟨S1x128, .f32⟩
  | .hbm, ⟨7, _⟩ => ⟨S1x128, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S8192x4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S1x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S4096x5120, .f32⟩
  | .hbm, ⟨37, _⟩ => ⟨S8192x5120, .f32⟩
  | .hbm, ⟨38, _⟩ => ⟨S8192x2048, .f32⟩
  | .hbm, ⟨39, _⟩ => ⟨S8192x2048, .f32⟩
  | .hbm, ⟨40, _⟩ => ⟨S8192x512, .f32⟩
  | .hbm, ⟨41, _⟩ => ⟨S8192x512, .f32⟩
  | .hbm, ⟨42, _⟩ => ⟨S8192x16x128, .f32⟩
  | .hbm, ⟨43, _⟩ => ⟨S128, .f32⟩
  | .hbm, ⟨44, _⟩ => ⟨S8192x16x128, .f32⟩
  | .hbm, ⟨45, _⟩ => ⟨S_, .f32⟩
  | .hbm, ⟨46, _⟩ => ⟨S8192x16, .f32⟩
  | .hbm, ⟨47, _⟩ => ⟨S8192x16x1, .f32⟩
  | .hbm, ⟨48, _⟩ => ⟨S_, .f32⟩
  | .hbm, ⟨49, _⟩ => ⟨S8192x16x1, .f32⟩
  | .hbm, ⟨50, _⟩ => ⟨S8192x16x1, .f32⟩
  | .hbm, ⟨51, _⟩ => ⟨S_, .f32⟩
  | .hbm, ⟨52, _⟩ => ⟨S8192x16x1, .f32⟩
  | .hbm, ⟨53, _⟩ => ⟨S8192x16x1, .f32⟩
  | .hbm, ⟨54, _⟩ => ⟨S8192x16x1, .f32⟩
  | .hbm, ⟨55, _⟩ => ⟨S8192x16x128, .f32⟩
  | .hbm, ⟨56, _⟩ => ⟨S8192x16x128, .f32⟩
  | .hbm, ⟨57, _⟩ => ⟨S1x1x128, .f32⟩
  | .hbm, ⟨58, _⟩ => ⟨S8192x16x128, .f32⟩
  | .hbm, ⟨59, _⟩ => ⟨S8192x16x128, .f32⟩
  | .hbm, ⟨60, _⟩ => ⟨S8192x16x2x2x32, .f32⟩
  | .hbm, ⟨61, _⟩ => ⟨S8192x16x2x2x32, .f32⟩
  | .hbm, ⟨62, _⟩ => ⟨S8192x16x128, .f32⟩
  | .hbm, ⟨63, _⟩ => ⟨S8192x1x128, .f32⟩
  | .hbm, ⟨64, _⟩ => ⟨S8192x16x128, .f32⟩
  | .hbm, ⟨65, _⟩ => ⟨S8192x16x128, .f32⟩
  | .hbm, ⟨66, _⟩ => ⟨S8192x1x128, .f32⟩
  | .hbm, ⟨67, _⟩ => ⟨S8192x16x128, .f32⟩
  | .hbm, ⟨68, _⟩ => ⟨S8192x16x128, .f32⟩
  | .hbm, ⟨69, _⟩ => ⟨S8192x16x128, .f32⟩
  | .hbm, ⟨70, _⟩ => ⟨S8192x2048, .f32⟩
  | .hbm, ⟨71, _⟩ => ⟨S8192x4x128, .f32⟩
  | .hbm, ⟨72, _⟩ => ⟨S128, .f32⟩
  | .hbm, ⟨73, _⟩ => ⟨S8192x4x128, .f32⟩
  | .hbm, ⟨74, _⟩ => ⟨S_, .f32⟩
  | .hbm, ⟨75, _⟩ => ⟨S8192x4, .f32⟩
  | .hbm, ⟨76, _⟩ => ⟨S8192x4x1, .f32⟩
  | .hbm, ⟨77, _⟩ => ⟨S_, .f32⟩
  | .hbm, ⟨78, _⟩ => ⟨S8192x4x1, .f32⟩
  | .hbm, ⟨79, _⟩ => ⟨S8192x4x1, .f32⟩
  | .hbm, ⟨80, _⟩ => ⟨S_, .f32⟩
  | .hbm, ⟨81, _⟩ => ⟨S8192x4x1, .f32⟩
  | .hbm, ⟨82, _⟩ => ⟨S8192x4x1, .f32⟩
  | .hbm, ⟨83, _⟩ => ⟨S8192x4x1, .f32⟩
  | .hbm, ⟨84, _⟩ => ⟨S8192x4x128, .f32⟩
  | .hbm, ⟨85, _⟩ => ⟨S8192x4x128, .f32⟩
  | .hbm, ⟨86, _⟩ => ⟨S1x1x128, .f32⟩
  | .hbm, ⟨87, _⟩ => ⟨S8192x4x128, .f32⟩
  | .hbm, ⟨88, _⟩ => ⟨S8192x4x128, .f32⟩
  | .hbm, ⟨89, _⟩ => ⟨S8192x4x2x2x32, .f32⟩
  | .hbm, ⟨90, _⟩ => ⟨S8192x4x2x2x32, .f32⟩
  | .hbm, ⟨91, _⟩ => ⟨S8192x4x128, .f32⟩
  | .hbm, ⟨92, _⟩ => ⟨S8192x1x128, .f32⟩
  | .hbm, ⟨93, _⟩ => ⟨S8192x4x128, .f32⟩
  | .hbm, ⟨94, _⟩ => ⟨S8192x4x128, .f32⟩
  | .hbm, ⟨95, _⟩ => ⟨S8192x1x128, .f32⟩
  | .hbm, ⟨96, _⟩ => ⟨S8192x4x128, .f32⟩
  | .hbm, ⟨97, _⟩ => ⟨S8192x4x128, .f32⟩
  | .hbm, ⟨98, _⟩ => ⟨S8192x4x128, .f32⟩
  | .hbm, ⟨99, _⟩ => ⟨S8192x512, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S8192x2048, .f32⟩
  | .hbm, ⟨108, _⟩ => ⟨S8192x2048, .f32⟩
  | .hbm, ⟨109, _⟩ => ⟨S8192x2048, .bf16⟩
  | .hbm, ⟨110, _⟩ => ⟨S2048x8192, .f32⟩
  | .hbm, ⟨111, _⟩ => ⟨S2048x8192, .bf16⟩
  | .hbm, ⟨112, _⟩ => ⟨S8192x512, .bf16⟩
  | .hbm, ⟨113, _⟩ => ⟨S512x8192, .f32⟩
  | .hbm, ⟨114, _⟩ => ⟨S512x8192, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_6 : Ref sig .tc := ⟨.hbm, 74, rfl⟩
abbrev main_v59 : Ref sig .tc := ⟨.hbm, 75, rfl⟩
abbrev main_v60 : Ref sig .tc := ⟨.hbm, 76, rfl⟩
abbrev main_cst_7 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_9 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_cst_11 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩

abbrev nD : Nat := 1
abbrev τ : Topo := Topo.v7x

variable {F : FTy → Type} [FloatOps F]
-- ==== Kernel6.lean ====
abbrev S8192x2048 : Shape := ⟨2, ![8192, 2048]⟩
abbrev S1x4x512x512 : Shape := ⟨4, ![1, 4, 512, 512]⟩
abbrev S1x2048 : Shape := ⟨2, ![1, 2048]⟩
abbrev S4x512x512 : Shape := ⟨3, ![4, 512, 512]⟩
abbrev S16x2048 : Shape := ⟨2, ![16, 2048]⟩
abbrev S256x2048 : Shape := ⟨2, ![256, 2048]⟩
abbrev S288x2048 : Shape := ⟨2, ![288, 2048]⟩
abbrev S256x1 : Shape := ⟨2, ![256, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x4x512x512, .f32⟩
  | .hbm, ⟨2, _⟩ => ⟨S1x2048, .f32⟩
  | .hbm, ⟨3, _⟩ => ⟨S4x512x512, .f32⟩
  | .hbm, ⟨4, _⟩ => ⟨S4x512x512, .bf16⟩
  | .hbm, ⟨5, _⟩ => ⟨S8192x2048, .bf16⟩
  | .local _ .vmem, ⟨0, _⟩ => ⟨S16x2048, .bf16⟩
  | .local _ .vmem, ⟨1, _⟩ => ⟨S16x2048, .bf16⟩
  | .local _ .vmem, ⟨2, _⟩ => ⟨S256x2048, .bf16⟩
  | .local _ .vmem, ⟨3, _⟩ => ⟨S256x2048, .bf16⟩
  | .local _ .vmem, ⟨4, _⟩ => ⟨S16x2048, .bf16⟩
  | .local _ .vmem, ⟨5, _⟩ => ⟨S16x2048, .bf16⟩
  | .local _ .vmem, ⟨6, _⟩ => ⟨S4x512x512, .bf16⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S288x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x2048 : Shape := ⟨2, ![8192, 2048]⟩
abbrev S1x4x512x512 : Shape := ⟨4, ![1, 4, 512, 512]⟩
abbrev S1x2048 : Shape := ⟨2, ![1, 2048]⟩
abbrev S4 : Shape := ⟨1, ![4]⟩
abbrev S8192x4x512 : Shape := ⟨3, ![8192, 4, 512]⟩
abbrev S8192 : Shape := ⟨1, ![8192]⟩
abbrev S4x1 : Shape := ⟨2, ![4, 1]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1x1x8192 : Shape := ⟨3, ![1, 1, 8192]⟩
abbrev S4x8192x8192 : Shape := ⟨3, ![4, 8192, 8192]⟩
abbrev S4x512x8192 : Shape := ⟨3, ![4, 512, 8192]⟩
abbrev S8192x4 : Shape := ⟨2, ![8192, 4]⟩
abbrev S8192x4x1 : Shape := ⟨3, ![8192, 4, 1]⟩
abbrev S4x512x512 : Shape := ⟨3, ![4, 512, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x4x512x512, .f32⟩
  | .hbm, ⟨2, _⟩ => ⟨S1x2048, .f32⟩
  | .hbm, ⟨3, _⟩ => ⟨S4, .i32⟩
  | .hbm, ⟨4, _⟩ => ⟨S8192x2048, .f32⟩
  | .hbm, ⟨5, _⟩ => ⟨S8192x4x512, .f32⟩
  | .hbm, ⟨6, _⟩ => ⟨S8192, .i32⟩
  | .hbm, ⟨7, _⟩ => ⟨S4x1, .i32⟩
  | .hbm, ⟨8, _⟩ => ⟨S1x8192, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S_, .i32⟩
  | .hbm, ⟨13, _⟩ => ⟨S4x8192, .i32⟩
  | .hbm, ⟨14, _⟩ => ⟨S4x8192, .i32⟩
  | .hbm, ⟨15, _⟩ => ⟨S1x8192, .i32⟩
  | .hbm, ⟨16, _⟩ => ⟨S4x8192, .i32⟩
  | .hbm, ⟨17, _⟩ => ⟨S4x8192, .i32⟩
  | .hbm, ⟨18, _⟩ => ⟨S4x8192, .i32⟩
  | .hbm, ⟨19, _⟩ => ⟨S_, .i32⟩
  | .hbm, ⟨20, _⟩ => ⟨S4x8192, .i32⟩
  | .hbm, ⟨21, _⟩ => ⟨S4x8192, .i32⟩
  | .hbm, ⟨22, _⟩ => ⟨S_, .i32⟩
  | .hbm, ⟨23, _⟩ => ⟨S4x8192, .i32⟩
  | .hbm, ⟨24, _⟩ => ⟨S4x8192, .i32⟩
  | .hbm, ⟨25, _⟩ => ⟨S4x8192x1, .i32⟩
  | .hbm, ⟨26, _⟩ => ⟨S1x1x8192, .i32⟩
  | .hbm, ⟨27, _⟩ => ⟨S4x8192x8192, .i32⟩
  | .hbm, ⟨28, _⟩ => ⟨S4x8192x8192, .i32⟩
  | .hbm, ⟨29, _⟩ => ⟨S4x8192x8192, .i1⟩
  | .hbm, ⟨30, _⟩ => ⟨S4x8192x1, .i32⟩
  | .hbm, ⟨31, _⟩ => ⟨S1x1x8192, .i32⟩
  | .hbm, ⟨32, _⟩ => ⟨S4x8192x8192, .i32⟩
  | .hbm, ⟨33, _⟩ => ⟨S4x8192x8192, .i32⟩
  | .hbm, ⟨34, _⟩ => ⟨S4x8192x8192, .i1⟩
  | .hbm, ⟨35, _⟩ => ⟨S4x8192x8192, .i1⟩
  | .hbm, ⟨36, _⟩ => ⟨S4x8192x8192, .f32⟩
  | .hbm, ⟨37, _⟩ => ⟨S4x512x8192, .f32⟩
  | .hbm, ⟨38, _⟩ => ⟨S8192x4x512, .f32⟩
  | .hbm, ⟨39, _⟩ => ⟨S4x8192, .i32⟩
  | .hbm, ⟨40, _⟩ => ⟨S_, .i32⟩
  | .hbm, ⟨41, _⟩ => ⟨S4x8192, .i32⟩
  | .hbm, ⟨42, _⟩ => ⟨S4x8192, .i32⟩
  | .hbm, ⟨43, _⟩ => ⟨S4x8192, .f32⟩
  | .hbm, ⟨44, _⟩ => ⟨S8192x4, .f32⟩
  | .hbm, ⟨45, _⟩ => ⟨S8192x4x1, .f32⟩
  | .hbm, ⟨46, _⟩ => ⟨S8192x4x512, .f32⟩
  | .hbm, ⟨47, _⟩ => ⟨S8192x4x512, .f32⟩
  | .hbm, ⟨48, _⟩ => ⟨S8192x4x512, .f32⟩
  | .hbm, ⟨49, _⟩ => ⟨S8192x4x512, .bf16⟩
  | .hbm, ⟨50, _⟩ => ⟨S8192x4x512, .f32⟩
  | .hbm, ⟨51, _⟩ => ⟨S4x512x512, .f32⟩
  | .hbm, ⟨52, _⟩ => ⟨S4x512x8192, .f32⟩
  | .hbm, ⟨53, _⟩ => ⟨S8192x4x512, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩

abbrev nD : Nat := 1
abbrev τ : Topo := Topo.v7x

variable {F : FTy → Type} [FloatOps F]
-- ==== Kernel7.lean ====
abbrev S1x4096 : Shape := ⟨2, ![1, 4096]⟩
abbrev S1x4096x24576 : Shape := ⟨3, ![1, 4096, 24576]⟩
abbrev S1x24576 : Shape := ⟨2, ![1, 24576]⟩
abbrev S4096x1 : Shape := ⟨2, ![4096, 1]⟩
abbrev S4096x24576 : Shape := ⟨2, ![4096, 24576]⟩
abbrev S4096x512 : Shape := ⟨2, ![4096, 512]⟩
abbrev S1x512 : Shape := ⟨2, ![1, 512]⟩
abbrev S8x512 : Shape := ⟨2, ![8, 512]⟩
abbrev S256x1 : Shape := ⟨2, ![256, 1]⟩
abbrev S256x512 : Shape := ⟨2, ![256, 512]⟩
abbrev S32x8x512 : Shape := ⟨3, ![32, 8, 512]⟩
abbrev S512 : Shape := ⟨1, ![512]⟩

abbrev nBuf : Space → Nat
  | .hbm => 6
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S4096x1, .f32⟩
  | .hbm, ⟨4, _⟩ => ⟨S4096x24576, .f32⟩
  | .hbm, ⟨5, _⟩ => ⟨S1x24576, .f32⟩
  | .local _ .vmem, ⟨0, _⟩ => ⟨S4096x1, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  v8
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v10 : Index := Scalar.indexCast v9
  let c0_5 : Index := 0#32
  ![v10.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v15 : Index := Scalar.indexCast v9
  let c0_6 : Index := 0#32
  ![v15.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S1x4096 : Shape := ⟨2, ![1, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩

abbrev nBuf : Space → Nat
  | .hbm => 15
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096x24576, .f32⟩
  | .hbm, ⟨2, _⟩ => ⟨S1x24576, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S1x4096, .f32⟩
  | .hbm, ⟨12, _⟩ => ⟨S4096x24576, .f32⟩
  | .hbm, ⟨13, _⟩ => ⟨S1x24576, .f32⟩
  | .hbm, ⟨14, _⟩ => ⟨S1x24576, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel8.lean ====
abbrev S8192x4096 : Shape := ⟨2, ![8192, 4096]⟩
abbrev S1x4096 : Shape := ⟨2, ![1, 4096]⟩
abbrev S1x24576 : Shape := ⟨2, ![1, 24576]⟩
abbrev S1x4096x32 : Shape := ⟨3, ![1, 4096, 32]⟩
abbrev S1x32 : Shape := ⟨2, ![1, 32]⟩
abbrev S4096x32 : Shape := ⟨2, ![4096, 32]⟩
abbrev S_ : Shape := ⟨0, ![]⟩
abbrev S4096x128 : Shape := ⟨2, ![4096, 128]⟩
abbrev S4096x256 : Shape := ⟨2, ![4096, 256]⟩
abbrev S1x128 : Shape := ⟨2, ![1, 128]⟩
abbrev S32x8192 : Shape := ⟨2, ![32, 8192]⟩
abbrev S256x4096 : Shape := ⟨2, ![256, 4096]⟩
abbrev S32x256 : Shape := ⟨2, ![32, 256]⟩
abbrev S16x4096 : Shape := ⟨2, ![16, 4096]⟩
abbrev S16 : Shape := ⟨1, ![16]⟩
abbrev S16x1 : Shape := ⟨2, ![16, 1]⟩
abbrev S256x256 : Shape := ⟨2, ![256, 256]⟩
abbrev S256x128 : Shape := ⟨2, ![256, 128]⟩
abbrev S128x256 : Shape := ⟨2, ![128, 256]⟩

abbrev nBuf : Space → Nat
  | .hbm => 25
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x24576, .f32⟩
  | .hbm, ⟨3, _⟩ => ⟨S1x4096x32, .f32⟩
  | .hbm, ⟨4, _⟩ => ⟨S1x32, .f32⟩
  | .hbm, ⟨5, _⟩ => ⟨S4096x32, .f32⟩
  | .hbm, ⟨6, _⟩ => ⟨S4096x32, .bf16⟩
  | .hbm, ⟨7, _⟩ => ⟨S4096x32, .f32⟩
  | .hbm, ⟨8, _⟩ => ⟨S4096x32, .f32⟩
  | .hbm, ⟨9, _⟩ => ⟨S4096x32, .bf16⟩
  | .hbm, ⟨10, _⟩ => ⟨S_, .i32⟩
  | .hbm, ⟨11, _⟩ => ⟨S_, .bf16⟩
  | .hbm, ⟨12, _⟩ => ⟨S4096x128, .bf16⟩
  | .hbm, ⟨13, _⟩ => ⟨S_, .i32⟩
  | .hbm, ⟨14, _⟩ => ⟨S_, .bf16⟩
  | .hbm, ⟨15, _⟩ => ⟨S4096x128, .bf16⟩
  | .hbm, ⟨16, _⟩ => ⟨S4096x256, .bf16⟩
  | .hbm, ⟨17, _⟩ => ⟨S_, .i32⟩
  | .hbm, ⟨18, _⟩ => ⟨S_, .bf16⟩
  | .hbm, ⟨19, _⟩ => ⟨S4096x128, .bf16⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S8192x4096, .f32⟩
  | .hbm, ⟨24, _⟩ => ⟨S32x8192, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S4096x256, .bf16⟩
  | .local _ .vmem, ⟨6, _⟩ => ⟨S4096x128, .bf16⟩
  | .local _ .vmem, ⟨7, _⟩ => ⟨S1x128, .f32⟩
  | .local _ .vmem, ⟨8, _⟩ => ⟨S256x4096, .f32⟩
  | .local _ .vmem, ⟨9, _⟩ => ⟨S256x4096, .f32⟩
  | .local _ .vmem, ⟨10, _⟩ => ⟨S32x256, .f32⟩
  | .local _ .vmem, ⟨11, _⟩ => ⟨S32x256, .f32⟩
  | .local _ .vmem, ⟨12, _⟩ => ⟨S256x4096, .bf16⟩
  | .local _ .vmem, ⟨13, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_c_2 : Ref sig .tc := ⟨.hbm, 20, rfl⟩
abbrev main_call3_v0 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c16_i32_13 : BitVec 32 := 16#32
  let v20 : BitVec 32 := Scalar.muli arg12 c16_i32_13
  v20
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c16_i32_13 : BitVec 32 := 16#32
  let v20 : BitVec 32 := Scalar.muli arg12 c16_i32_13
  let v21 : BitVec 32 := v20
  let v22 : Index := Scalar.indexCast v21
  let c0_14 : Index := 0#32
  ![v22.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S8192x4096 : Shape := ⟨2, ![8192, 4096]⟩
abbrev S1x4096 : Shape := ⟨2, ![1, 4096]⟩
abbrev S1x24576 : Shape := ⟨2, ![1, 24576]⟩
abbrev S1x4096x32 : Shape := ⟨3, ![1, 4096, 32]⟩
abbrev S1x32 : Shape := ⟨2, ![1, 32]⟩
abbrev S_ : Shape := ⟨0, ![]⟩
abbrev S8192 : Shape := ⟨1, ![8192]⟩
abbrev S8192x1 : Shape := ⟨2, ![8192, 1]⟩
abbrev S4096x32 : Shape := ⟨2, ![4096, 32]⟩
abbrev S8192x32 : Shape := ⟨2, ![8192, 32]⟩
abbrev S32x8192 : Shape := ⟨2, ![32, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x24576, .f32⟩
  | .hbm, ⟨3, _⟩ => ⟨S1x4096x32, .f32⟩
  | .hbm, ⟨4, _⟩ => ⟨S1x32, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S4096x32, .f32⟩
  | .hbm, ⟨34, _⟩ => ⟨S8192x32, .f32⟩
  | .hbm, ⟨35, _⟩ => ⟨S8192x32, .f32⟩
  | .hbm, ⟨36, _⟩ => ⟨S8192x32, .f32⟩
  | .hbm, ⟨37, _⟩ => ⟨S32x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Attn.RefDefs.lean ====
/- The attention reference in named stages: scores, softmax, weighted values, result rows. -/
module

public import proofs.«01_k».proof.Proof.Gen.ReferenceIdeal.Run
public import Idealize.ShloMosaic.PureOps.Ideal

@[expose] public section
set_option maxRecDepth 16384
noncomputable section
open Idealize.ShloMosaic Idealize.ShloMosaic.TcCoe Idealize.SL.Sem
namespace Cert.ReferenceIdeal.AttnRef
open Cert.ReferenceIdeal Cert.ReferenceIdeal.Gen

def Dot (qt : FVec Ideal S2048x8192 .bf16) (k : FVec Ideal S8192x512 .bf16) : FVec Ideal S4x8192x8192x4 .f32 :=
  Host.dotGeneral dot_S8192x4x128_S8192x4x4x128_S4x8192x8192x4_2_3_0_02_1_1 none (shapeCast _ (extf .f32 k bitsLt_bf16_f32) shapeCasts_S8192x512_S8192x4x128) (shapeCast _ (mulf (extf .f32 (transpose S8192x2048 [1, 0] qt transposes_S2048x8192_S8192x2048_1_0) bitsLt_bf16_f32) (broadcastInDim S8192x2048 ![] bcast_S_S8192x2048 (mulf (Host.sqrt (constant S_ .f32 0x43000000#32)) (Host.log (constant S_ .f32 0x40000000#32))))) shapeCasts_S8192x2048_S8192x4x4x128)

def Sc (qt : FVec Ideal S2048x8192 .bf16) (k : FVec Ideal S8192x512 .bf16) : FVec Ideal S4x4x8192x8192 .f32 :=
  Host.divf (transpose S4x4x8192x8192 [0, 3, 2, 1] (Dot qt k) transposes_S4x8192x8192x4_S4x4x8192x8192_0_3_2_1) (broadcastInDim S4x4x8192x8192 ![] bcast_S_S4x4x8192x8192 (Host.sqrt (constant S_ .f32 0x43000000#32)))

def Mx (s : FVec Ideal S4x4x8192x8192 .f32) : FVec Ideal S4x4x8192 .f32 :=
  maximumf (broadcastInDim S4x4x8192 ![] bcast_S_S4x4x8192 (constant S_ .f32 0xFF800000#32)) (Host.reduce FloatOps.maximumf s (constant S_ .f32 0xFF800000#32) reducesTo_S4x4x8192x8192_S4x4x8192_d3 h_S_)

def Ex (s : FVec Ideal S4x4x8192x8192 .f32) : FVec Ideal S4x4x8192x8192 .f32 :=
  Host.exp (subf s (broadcastInDim S4x4x8192x8192 ![0, 1, 2, 3] bcast_S4x4x8192x1_S4x4x8192x8192_0_1_2_3 (broadcastInDim S4x4x8192x1 ![0, 1, 2] bcast_S4x4x8192_S4x4x8192x1_0_1_2 (Mx s))))

def Sm (e : FVec Ideal S4x4x8192x8192 .f32) : FVec Ideal S4x4x8192x8192 .f32 :=
  Host.divf e (broadcastInDim S4x4x8192x8192 ![0, 1, 2, 3] bcast_S4x4x8192x1_S4x4x8192x8192_0_1_2_3 (broadcastInDim S4x4x8192x1 ![0, 1, 2] bcast_S4x4x8192_S4x4x8192x1_0_1_2 (Host.reduceAdd e (constant S_ .f32 0x00000000#32) reducesTo_S4x4x8192x8192_S4x4x8192_d3 h_S_)))

def Dv (p : FVec Ideal S4x4x8192x8192 .f32) (vt : FVec Ideal S512x8192 .bf16) : FVec Ideal S4x4x8192x128 .f32 :=
  Host.dotGeneral dot_S4x4x8192x8192_S8192x4x128_S4x4x8192x128_3_0_12_2_0_1 none p (shapeCast _ (extf .f32 (transpose S8192x512 [1, 0] vt transposes_S512x8192_S8192x512_1_0) bitsLt_bf16_f32) shapeCasts_S8192x512_S8192x4x128)

def Res (o : FVec Ideal S4x4x8192x128 .f32) : FVec Ideal S8192x2048 .bf16 :=
  truncf .bf16 (shapeCast _ (transpose S8192x4x4x128 [2, 0, 1, 3] o transposes_S4x4x8192x128_S8192x4x4x128_2_0_1_3) shapeCasts_S8192x4x4x128_S8192x2048) bitsLt_bf16_f32

set_option maxHeartbeats 1000000 in
/-- The program's result is the stages in turn. -/
theorem res_eq (m : (ℓ : Loc nD τ sig) → Buf (Elt Ideal) ℓ) (c : Dev nD) : Cert.ReferenceIdeal.Value.res_out0 m c
    = Res (Dv (Sm (Ex (Sc (m ((c.tc : Thread nD τ).loc main_arg0)) (m ((c.tc : Thread nD τ).loc main_arg1))))) (m ((c.tc : Thread nD τ).loc main_arg2))) := by
  unfold Cert.ReferenceIdeal.Value.res_out0 Cert.ReferenceIdeal.Value.res_main_v32 Res Dv Sm Ex Mx Sc Dot
  rfl

end Cert.ReferenceIdeal.AttnRef

end
-- ==== Proof.Attn.Math.lean ====
/- The arithmetic of attention over the extended reals: a softmax taken chunk by chunk with a running maximum is the softmax. -/
module

public import Idealize.ShloMosaic.PureOps.Ideal
public import Idealize.ShloMosaic.PureOps

@[expose] public section

noncomputable section

namespace Cert.AttnMath

open Idealize.ShloMosaic

/-- Two to a real power. -/
def p2 (r : ℝ) : ℝ := Real.rpow 2 r

theorem p2_pos (r : ℝ) : 0 < p2 r := Real.rpow_pos_of_pos (by norm_num) r

theorem p2_sub (a b c : ℝ) : p2 (b - c) * p2 (a - b) = p2 (a - c) := by
  unfold p2
  have h := Real.rpow_add (show (0 : ℝ) < 2 by norm_num) (b - c) (a - b)
  rw [show b - c + (a - b) = a - c by ring] at h
  exact h.symm

theorem exp2_sub (a b : ℝ) : Ideal.exp2 ((a : EReal) - (b : EReal)) = ((p2 (a - b) : ℝ) : EReal) := by
  rw [← EReal.coe_sub]; rfl

/-- A fold of `max` from `⊥` over a nonempty finite set of reals is a real. -/
theorem fold_max_real {ι : Type} (S : Finset ι) (hS : S.Nonempty) (f : ι → EReal) (hf : ∀ i, ∃ r : ℝ, f i = (r : EReal)) :
    ∃ r : ℝ, S.fold max (⊥ : EReal) f = (r : EReal) := by
  induction hS using Finset.Nonempty.cons_induction with
  | singleton a => obtain ⟨r, h⟩ := hf a; exact ⟨r, by simp [h]⟩
  | cons a s ha hs ih =>
    obtain ⟨r, h⟩ := ih; obtain ⟨r', h'⟩ := hf a
    refine ⟨max r' r, ?_⟩
    rw [Finset.fold_cons, h, h']
    exact ((EReal.coe_strictMono.monotone).map_max).symm

theorem coe_sum {ι : Type} (S : Finset ι) (f : ι → ℝ) : ((∑ i ∈ S, f i : ℝ) : EReal) = ∑ i ∈ S, ((f i : ℝ) : EReal) := by
  classical
  induction S using Finset.induction_on with
  | empty => simp
  | insert a s ha ih => rw [Finset.sum_insert ha, Finset.sum_insert ha, EReal.coe_add, ih]

/-- A nonnegative real factor goes into a sum, whatever the summands. -/
theorem mul_sum_nonneg {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a s ha ih =>
    rw [Finset.sum_insert ha, Finset.sum_insert ha, EReal.left_distrib_of_nonneg_of_ne_top (by exact_mod_cast hc) (EReal.coe_ne_top c), ih]

/-- What the carried maximum, sum and weighted value are after `n` keys of scores `s` and values `v`: the sums
    relative to some real `M`, which the carried maximum is unless no key has been seen. -/
def Inv (s : ℕ → ℝ) (v : ℕ → EReal) (n : ℕ) (m l a : EReal) : Prop :=
  ∃ M : ℝ, (m = (M : EReal) ∨ m = ⊥ ∧ n = 0) ∧ l = ((∑ i ∈ Finset.range n, p2 (s i - M) : ℝ) : EReal)
    ∧ a = ∑ i ∈ Finset.range n, ((p2 (s i - M) : ℝ) : EReal) * v i

theorem inv_zero (s : ℕ → ℝ) (v : ℕ → EReal) : Inv s v 0 ⊥ 0 0 :=
  ⟨0, .inr ⟨rfl, rfl⟩, by simp, by simp⟩

/-- One chunk of `c + 1` keys. -/
theorem inv_step (s : ℕ → ℝ) (v : ℕ → EReal) (n c : ℕ) (hc : 0 < c) (m l a : EReal) (h : Inv s v n m l a) (m' : EReal)
    (hm' : m' = max m (Finset.univ.fold max (⊥ : EReal) fun x : Fin c => ((s (n + x) : ℝ) : EReal))) :
    Inv s v (n + c) m' (Ideal.exp2 (m - m') * l + ∑ x : Fin c, Ideal.exp2 (((s (n + x) : ℝ) : EReal) - m'))
      (Ideal.exp2 (m - m') * a + ∑ x : Fin c, v (n + x) * Ideal.exp2 (((s (n + x) : ℝ) : EReal) - m')) := by
  obtain ⟨M, hm, hl, ha⟩ := h
  obtain ⟨T, hT⟩ := fold_max_real (Finset.univ : Finset (Fin c)) ⟨⟨0, hc⟩, Finset.mem_univ _⟩
    (fun x : Fin c => ((s (n + x) : ℝ) : EReal)) (fun i => ⟨_, rfl⟩)
  rw [hT] at hm'
  have hM' : ∃ M' : ℝ, m' = (M' : EReal) := by
    rcases hm with h | ⟨h, -⟩
    · exact ⟨max M T, by rw [hm', h]; exact ((EReal.coe_strictMono.monotone).map_max).symm⟩
    · exact ⟨T, by rw [hm', h]; exact max_eq_right bot_le⟩
  obtain ⟨M', rfl⟩ := hM'
  refine ⟨M', .inl rfl, ?_, ?_⟩
  · simp only [exp2_sub]
    rw [← coe_sum, Finset.sum_range_add, Finset.sum_range (fun x => p2 (s (n + x) - M')), EReal.coe_add]
    congr 1
    rcases hm with h | ⟨h, h0⟩
    · rw [h, hl, exp2_sub, ← EReal.coe_mul, Finset.mul_sum]
      simp only [p2_sub]
    · subst h0; simp [hl]
  · simp only [exp2_sub]
    rw [Finset.sum_range_add, Finset.sum_range (fun x => ((p2 (s (n + x) - M') : ℝ) : EReal) * v (n + x))]
    congr 1
    · rcases hm with h | ⟨h, h0⟩
      · rw [h, ha, exp2_sub, mul_sum_nonneg _ _ (p2_pos _).le]
        refine Finset.sum_congr rfl fun i _ => ?_
        rw [← mul_assoc, ← EReal.coe_mul, p2_sub]
      · subst h0; simp [ha]
    · exact Finset.sum_congr rfl fun x _ => mul_comm _ _

/-- The weight of key `i` in a softmax to base two. -/
def wt (s : ℕ → ℝ) (n i : ℕ) : ℝ := p2 (s i) / ∑ j ∈ Finset.range n, p2 (s j)

theorem wt_shift (s : ℕ → ℝ) (n i : ℕ) (M : ℝ) : p2 (s i - M) / ∑ j ∈ Finset.range n, p2 (s j - M) = wt s n i := by
  have e : ∀ x, p2 (x - M) = p2 x * p2 (-M) := fun x => by
    have := p2_sub x 0 M; simp only [sub_zero, zero_sub] at this; rw [← this, mul_comm]
  simp only [e, ← Finset.sum_mul]
  exact mul_div_mul_right _ _ (p2_pos _).ne'

theorem sum_pos (s : ℕ → ℝ) (n : ℕ) (hn : 0 < n) (M : ℝ) : 0 < ∑ j ∈ Finset.range n, p2 (s j - M) :=
  Finset.sum_pos (fun _ _ => p2_pos _) ⟨0, Finset.mem_range.2 hn⟩

/-- The kernel's last division: the weighted mean of the values under the softmax. -/
theorem inv_final (s : ℕ → ℝ) (v : ℕ → EReal) (n : ℕ) (hn : 0 < n) (m l a : EReal) (h : Inv s v n m l a) :
    Ideal.div a l = ∑ i ∈ Finset.range n, ((wt s n i : ℝ) : EReal) * v i := by
  obtain ⟨M, -, hl, ha⟩ := h
  have hp := sum_pos s n hn M
  rw [hl, Ideal.div_coe hp.ne', ha, mul_comm, mul_sum_nonneg _ _ (by positivity)]
  refine Finset.sum_congr rfl fun i _ => ?_
  rw [← mul_assoc, ← EReal.coe_mul, ← wt_shift s n i M]
  congr 2
  ring

/-- The reference's softmax to base e of scores `s·ln 2`, shifted by any real. -/
theorem ref_wt (s : ℕ → ℝ) (n : ℕ) (hn : 0 < n) (σ : ℕ → EReal) (M : ℝ) (hσ : ∀ i, σ i = ((s i * Real.log 2 : ℝ) : EReal)) (i : ℕ) :
    Ideal.div (Ideal.exp (σ i - (M : EReal))) (∑ j ∈ Finset.range n, Ideal.exp (σ j - (M : EReal))) = ((wt s n i : ℝ) : EReal) := by
  have e : ∀ j, Ideal.exp (σ j - (M : EReal)) = ((p2 (s j - M / Real.log 2) : ℝ) : EReal) := fun j => by
    rw [hσ, ← EReal.coe_sub, Ideal.exp_coe]
    congr 1
    have h2 : Real.log 2 ≠ 0 := (Real.log_pos (by norm_num)).ne'
    unfold p2
    show _ = (2 : ℝ) ^ (s j - M / Real.log 2)
    rw [Real.rpow_def_of_pos (by norm_num)]
    congr 1
    field_simp
  simp only [e]
  rw [← coe_sum, Ideal.div_coe (sum_pos s n hn _).ne', ← EReal.coe_mul, ← wt_shift s n i (M / Real.log 2)]
  congr 1
  ring

theorem bits_bot : Ideal.ofBits .f32 0xFF800000#32 = ⊥ := by simp [Ideal.ofBits, Ideal.ieee]
theorem bits_top : Ideal.ofBits .f32 0x7F800000#32 = ⊤ := by simp [Ideal.ofBits, Ideal.ieee]
theorem bits_128 : Ideal.ofBits .f32 0x43000000#32 = ((128 : ℝ) : EReal) := by
  simp [Ideal.ofBits, Ideal.ieee]; norm_num; rw [← EReal.coe_mul]; norm_num
theorem bits_2 : Ideal.ofBits .f32 0x40000000#32 = ((2 : ℝ) : EReal) := by
  simp [Ideal.ofBits, Ideal.ieee]; norm_num; rw [← EReal.coe_mul]; norm_num

/-- The reference's score is the kernel's times `ln 2`. -/
theorem ref_score {D : ℕ} (k q : Fin D → ℝ) :
    Ideal.div (∑ x, ((k x : ℝ) : EReal) * (((q x : ℝ) : EReal) * (Ideal.sqrt (Ideal.ofBits .f32 0x43000000#32) * Ideal.log (Ideal.ofBits .f32 0x40000000#32))))
      (Ideal.sqrt (Ideal.ofBits .f32 0x43000000#32)) = (((∑ x, k x * q x) * Real.log 2 : ℝ) : EReal) := by
  rw [bits_128, bits_2, Ideal.sqrt_coe, Ideal.log_coe, if_neg (by norm_num), if_neg (by norm_num)]
  simp only [← EReal.coe_mul]
  have hs : Real.sqrt 128 ≠ 0 := (Real.sqrt_pos.2 (by norm_num)).ne'
  rw [← coe_sum, Ideal.div_coe hs, ← EReal.coe_mul]
  congr 1
  rw [Finset.sum_mul, Finset.sum_mul]
  refine Finset.sum_congr rfl fun x _ => ?_
  field_simp

end Cert.AttnMath

end
-- ==== Proof.Attn.RefVal.lean ====
/- The attention reference at an index: the weighted mean of the values under a softmax to base two of the plain scores. -/
module

public import proofs.«01_k».proof.Proof.Attn.RefDefs
public import proofs.«01_k».proof.Proof.Attn.Math
public import Idealize.ShloMosaic.Lib.Pointwise

@[expose] public section

set_option maxRecDepth 16384

noncomputable section

open Idealize.ShloMosaic Idealize.ShloMosaic.TcCoe Idealize.SL.Sem

namespace Cert.ReferenceIdeal.AttnRef

open Cert.ReferenceIdeal Cert.ReferenceIdeal.Gen Cert.AttnMath

/-- Every element is a real number. -/
def IsReal {s : Shape} {φ : FTy} (x : FVec Ideal s φ) : Prop := ∀ i, ∃ r : ℝ, x i = ((r : ℝ) : EReal)

theorem IsReal.eq {s : Shape} {φ : FTy} {x : FVec Ideal s φ} (h : IsReal x) (i : s.Idx) :
    (x i : EReal) = ((EReal.toReal (x i) : ℝ) : EReal) := by
  obtain ⟨r, e⟩ := h i; rw [e]; rfl

/-- The score of key `j` for query `i` of head `b` of group `a`, before any scaling. -/
def sc (qt : FVec Ideal S2048x8192 .bf16) (k : FVec Ideal S8192x512 .bf16) (a b : Fin 4) (i : Fin 8192) (j : ℕ) : ℝ :=
  if hj : j < 8192 then ∑ x : Fin 128, EReal.toReal (k (ix2 ⟨j, hj⟩ ⟨a.val * 128 + x.val, by omega⟩))
    * EReal.toReal (qt (ix2 ⟨a.val * 512 + b.val * 128 + x.val, by omega⟩ i)) else 0

/-- Element `d` of key `j`'s value in group `a`. -/
def vv (vt : FVec Ideal S512x8192 .bf16) (a : Fin 4) (d : Fin 128) (j : ℕ) : EReal :=
  if hj : j < 8192 then vt (ix2 ⟨a.val * 128 + d.val, by omega⟩ ⟨j, hj⟩) else 0

/-- Attention at a group, head, query and value element. -/
def att (qt : FVec Ideal S2048x8192 .bf16) (k : FVec Ideal S8192x512 .bf16) (vt : FVec Ideal S512x8192 .bf16)
    (a b : Fin 4) (i : Fin 8192) (d : Fin 128) : EReal :=
  ∑ j ∈ Finset.range 8192, ((wt (sc qt k a b i) 8192 j : ℝ) : EReal) * vv vt a d j

theorem Sc_at (qt : FVec Ideal S2048x8192 .bf16) (k : FVec Ideal S8192x512 .bf16) (hq : IsReal qt) (hk : IsReal k)
    (a b : Fin 4) (i j : Fin 8192) : Sc qt k (ix4 a b i j) = ((sc qt k a b i j.val * Real.log 2 : ℝ) : EReal) := by
  pointwise [Sc, Dot]
  unfold sc
  rw [dif_pos j.isLt]
  refine Eq.trans ?_ (ref_score _ _)
  congr 1
  refine Finset.sum_congr rfl fun x _ => ?_
  rw [← hk.eq, ← hq.eq]

theorem Sc_real (qt : FVec Ideal S2048x8192 .bf16) (k : FVec Ideal S8192x512 .bf16) (hq : IsReal qt) (hk : IsReal k) : IsReal (Sc qt k) := by
  intro y
  have e : y = ix4 (y 0) (y 1) (y 2) (y 3) := by
    funext b; match b with
    | ⟨0, _⟩ => rfl
    | ⟨1, _⟩ => rfl
    | ⟨2, _⟩ => rfl
    | ⟨3, _⟩ => rfl
  rw [e]
  exact ⟨_, Sc_at qt k hq hk (y 0) (y 1) (y 2) (y 3)⟩

/-- A maximum over some axes of real elements, from `⊥`, is real wherever some element is dropped to. -/
theorem reduce_max_real {s t u : Shape} {axes : List (Fin s.rank)} (x : FVec Ideal s .f32) (init : FVec Ideal u .f32)
    (h : s.ReducesTo axes t) (hu : 0 < u.numel) (j : t.Idx) (hx : IsReal x) (h0 : init (Shape.Idx.first hu) = (⊥ : EReal))
    (i : s.Idx) (hi : h.drop i = j) : ∃ r : ℝ, Host.reduce FloatOps.maximumf x init h hu j = ((r : ℝ) : EReal) := by
  have e := Host.reduce_eq_fold (max : EReal → EReal → EReal) x init h hu j
  have e' : Host.reduce FloatOps.maximumf x init h hu j = Host.reduce (max : EReal → EReal → EReal) x init h hu j := rfl
  rw [e', e, h0]
  exact fold_max_real _ ⟨i, by simp [hi]⟩ _ hx

/-- The same under a maximum with an array that is `⊥` there. -/
theorem max_reduce_real {s t u : Shape} {axes : List (Fin s.rank)} (x : FVec Ideal s .f32) (B : FVec Ideal t .f32)
    (h : s.ReducesTo axes t) (hu : 0 < u.numel) (j : t.Idx) (hx : IsReal x) (hB : B j = (⊥ : EReal)) (i : s.Idx) (hi : h.drop i = j) :
    ∃ r : ℝ, maximumf B (Host.reduce FloatOps.maximumf x (constant u .f32 0xFF800000#32) h hu) j = ((r : ℝ) : EReal) := by
  obtain ⟨M, hM⟩ := reduce_max_real x (constant u .f32 0xFF800000#32) h hu j hx bits_bot i hi
  refine ⟨M, ?_⟩
  show max (B j : EReal) (Host.reduce FloatOps.maximumf x (constant u .f32 0xFF800000#32) h hu j) = _
  rw [hM, hB]
  exact max_eq_right bot_le

theorem drop_eq (a b : Fin 4) (i j : Fin 8192) : Shape.ReducesTo.drop reducesTo_S4x4x8192x8192_S4x4x8192_d3 (ix4 a b i j) = ix3 a b i := by
  funext c
  apply Fin.ext
  match c with
  | ⟨0, _⟩ => exact Shape.ReducesTo.drop_apply_val_of_eq reducesTo_S4x4x8192x8192_S4x4x8192_d3 (ix4 a b i j) (0 : Fin 3) (0 : Fin 4)
  | ⟨1, _⟩ => exact Shape.ReducesTo.drop_apply_val_of_eq reducesTo_S4x4x8192x8192_S4x4x8192_d3 (ix4 a b i j) (1 : Fin 3) (1 : Fin 4)
  | ⟨2, _⟩ => exact Shape.ReducesTo.drop_apply_val_of_eq reducesTo_S4x4x8192x8192_S4x4x8192_d3 (ix4 a b i j) (2 : Fin 3) (2 : Fin 4)

theorem Mx_real (s : FVec Ideal S4x4x8192x8192 .f32) (hs : IsReal s) (a b : Fin 4) (i : Fin 8192) :
    ∃ M : ℝ, Mx s (ix3 a b i) = ((M : ℝ) : EReal) := by
  unfold Mx
  exact max_reduce_real s _ reducesTo_S4x4x8192x8192_S4x4x8192_d3 h_S_ (ix3 a b i) hs bits_bot (ix4 a b i ⟨0, by omega⟩) (drop_eq a b i _)

theorem Ex_at (s : FVec Ideal S4x4x8192x8192 .f32) (a b : Fin 4) (i j : Fin 8192) :
    Ex s (ix4 a b i j) = Ideal.exp (s (ix4 a b i j) - Mx s (ix3 a b i)) := by
  pointwise [Ex]

theorem Sm_at (e : FVec Ideal S4x4x8192x8192 .f32) (a b : Fin 4) (i j : Fin 8192) :
    Sm e (ix4 a b i j) = Ideal.div (e (ix4 a b i j)) (∑ x : Fin 8192, e (ix4 a b i x)) := by
  pointwise [Sm]

theorem Dv_at (p : FVec Ideal S4x4x8192x8192 .f32) (vt : FVec Ideal S512x8192 .bf16) (a b : Fin 4) (i : Fin 8192) (d : Fin 128) :
    Dv p vt (ix4 a b i d) = ∑ x : Fin 8192, p (ix4 a b i x) * vv vt a d x.val := by
  pointwise [Dv]
  refine Finset.sum_congr rfl fun x _ => ?_
  unfold vv
  rw [dif_pos x.isLt]

theorem Res_at (o : FVec Ideal S4x4x8192x128 .f32) (i : Fin 8192) (j : Fin 2048) :
    Res o (ix2 i j) = o (ix4 ⟨j.val / 512, by omega⟩ ⟨j.val / 128 % 4, by omega⟩ i ⟨j.val % 128, by omega⟩) := by
  pointwise [Res]

theorem Sm_Ex_at (qt : FVec Ideal S2048x8192 .bf16) (k : FVec Ideal S8192x512 .bf16) (hq : IsReal qt) (hk : IsReal k)
    (a b : Fin 4) (i j : Fin 8192) : Sm (Ex (Sc qt k)) (ix4 a b i j) = ((wt (sc qt k a b i) 8192 j.val : ℝ) : EReal) := by
  obtain ⟨M, hM⟩ := Mx_real (Sc qt k) (Sc_real qt k hq hk) a b i
  rw [Sm_at]
  simp only [Ex_at, hM, Sc_at qt k hq hk]
  refine Eq.trans ?_ (ref_wt (sc qt k a b i) 8192 (by omega) (fun j => ((sc qt k a b i j * Real.log 2 : ℝ) : EReal)) M (fun _ => rfl) j.val)
  rw [Finset.sum_range]

/-- The reference at a query and a result column. -/
theorem ref_at (qt : FVec Ideal S2048x8192 .bf16) (k : FVec Ideal S8192x512 .bf16) (vt : FVec Ideal S512x8192 .bf16)
    (hq : IsReal qt) (hk : IsReal k) (i : Fin 8192) (j : Fin 2048) :
    Res (Dv (Sm (Ex (Sc qt k))) vt) (ix2 i j)
      = att qt k vt ⟨j.val / 512, by omega⟩ ⟨j.val / 128 % 4, by omega⟩ i ⟨j.val % 128, by omega⟩ := by
  rw [Res_at, Dv_at, att, Finset.sum_range]
  simp only [Sm_Ex_at qt k hq hk]

end Cert.ReferenceIdeal.AttnRef

end
-- ==== Proof.Attn.Pre.lean ====
/- The precondition read back: every query and every key element is a real number. -/
module

public import proofs.«01_k».proof.Pre_finite_qk
public import proofs.«01_k».proof.Proof.Attn.RefVal
public import Idealize.ShloMosaic.Lib.ReduceAll

@[expose] public section

noncomputable section

open Idealize.ShloMosaic

namespace Cert.Pre_finite_qk

/-- The function's side conditions. -/
theorem facts : Facts where
  bitsLt_bf16_f32 := by decide
  bcast_S_S2048x8192 := by decide
  reducesTo_S2048x8192_S_d0_1 := by decide
  h_S_ := by decide
  bcast_S_S8192x512 := by decide
  reducesTo_S8192x512_S_d0_1 := by decide

/-- A magnitude below infinity is a real number's. -/
theorem real_of_cmp (x : EReal) (h : Ideal.cmp .olt (max x (-x)) (Ideal.ofBits .f32 0x7F800000#32) = 1#1) : ∃ r : ℝ, x = ((r : ℝ) : EReal) := by
  rw [Cert.AttnMath.bits_top] at h
  unfold Ideal.cmp at h
  have hlt : max x (-x) < ⊤ := by
    by_contra hn
    simp [hn] at h
  rw [max_lt_iff] at hlt
  refine ⟨x.toReal, (EReal.coe_toReal hlt.1.ne ?_).symm⟩
  rintro rfl
  simp at hlt

theorem and_one : ∀ a b : BitVec 1, IntOp.andi a b = 1#1 → a = 1#1 ∧ b = 1#1 := by decide

instance : Subsingleton S_.Idx := ⟨fun a b => funext fun i => i.elim0⟩

theorem real_all {s : Shape} {axes : List (Fin s.rank)} (x : FVec Ideal s .bf16) (hb : FTy.bits .bf16 < FTy.bits .f32)
    (B : FVec Ideal s .f32) (hB : ∀ i, B i = Ideal.ofBits .f32 0x7F800000#32) (h : s.ReducesTo axes S_) (hu : 0 < S_.numel) (j : S_.Idx)
    (e : Host.reduce IntOp.andi (cmpf .olt (Host.absf (extf .f32 x hb)) B) (constantI S_ 1 1#1) h hu j = 1#1) :
    Cert.ReferenceIdeal.AttnRef.IsReal x := by
  intro i
  have h1 := Host.reduce_andi_all _ _ _ _ j e i
  refine real_of_cmp (x i) ?_
  rw [← hB i]
  exact h1

theorem real_of_fn (hf : Facts) (a0 : FVec Ideal S2048x8192 .bf16) (a1 : FVec Ideal S8192x512 .bf16) (a2 : FVec Ideal S512x8192 .bf16)
    (h : fn (F := Ideal) a0 a1 a2 = fun _ => 1#1) :
    Cert.ReferenceIdeal.AttnRef.IsReal a0 ∧ Cert.ReferenceIdeal.AttnRef.IsReal a1 := by
  have hj := congrFun h (fun i => i.elim0)
  obtain ⟨h0, h1⟩ := and_one _ _ hj
  exact ⟨real_all a0 _ _ (fun _ => rfl) _ _ _ h0, real_all a1 _ _ (fun _ => rfl) _ _ _ h1⟩

end Cert.Pre_finite_qk

end
-- ==== Proof.Attn.State.lean ====
/- What the attention body leaves in its output block: the last step over the carried state of the loop over key chunks. -/
module

public import proofs.«01_k».proof.Proof.Gen.KernelIdeal.Value
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.KernelIdeal.AttnVal

open Cert.KernelIdeal Cert.KernelIdeal.Gen

/-- The carried triple: running maximum, running sum, running weighted values. -/
abbrev St := FVec Ideal S1x512 .f32 × FVec Ideal S1x512 .f32 × FVec Ideal S128x512 .f32

/-- Key chunk `n`: 512 rows of the keys. -/
def kch (x1 : FVec Ideal S8192x128 .bf16) (n : Fin 16) : FVec Ideal S512x128 .bf16 :=
  fun y => x1 (ix2 ⟨n.val * 512 + (y 0).val, by have := n.isLt; have : (y 0).val < 512 := (y 0).isLt; omega⟩ (y 1))

/-- Value chunk `n`: 512 columns of the transposed values. -/
def vch (x2 : FVec Ideal S128x8192 .bf16) (n : Fin 16) : FVec Ideal S128x512 .bf16 :=
  fun y => x2 (ix2 (y 0) ⟨n.val * 512 + (y 1).val, by have := n.isLt; have : (y 1).val < 512 := (y 1).isLt; omega⟩)

/-- One trip of the loop. -/
def step (x0 : FVec Ideal S128x512 .bf16) (kc : FVec Ideal S512x128 .bf16) (vc : FVec Ideal S128x512 .bf16) (s : St) : St :=
  (k0_pay5 x0 s.1 kc, k0_pay8 x0 s.1 s.2.1 kc, k0_pay9 x0 s.1 s.2.2 kc vc)

/-- The state before trip `n`. -/
def stN (x0 : FVec Ideal S128x512 .bf16) (x1 : FVec Ideal S8192x128 .bf16) (x2 : FVec Ideal S128x8192 .bf16) : ℕ → St
  | 0 => (k0_pay1, k0_pay2, k0_pay3)
  | n + 1 => if h : n < 16 then step x0 (kch x1 ⟨n, h⟩) (vch x2 ⟨n, h⟩) (stN x0 x1 x2 n) else stN x0 x1 x2 n

theorem off1_eq : ∀ k : Fin k0_t1_loop.trips, k0_off1 k = ![k.val * 512, 0] := by decide +kernel
theorem off2_eq : ∀ k : Fin k0_t1_loop.trips, k0_off2 k = ![0, k.val * 512] := by decide +kernel
theorem trips_eq : k0_t1_loop.trips = 16 := by decide +kernel

theorem read_kch (arg3 : Memref sig .tc .vmem S8192x128 .bf16) (harg3 : arg3.IsWhole) (x1 : FVec Ideal S8192x128 .bf16)
    (k : Fin k0_t1_loop.trips) (hk : k.val < 16) (h) :
    View.readAt (Elt Ideal) arg3.view (Rect.unit (s := S8192x128) (k0_off1 k) ![512, 128] h).toLoadRect (harg3.unread x1)
      = kch x1 ⟨k.val, hk⟩ := by
  refine funext fun (y : S512x128.Idx) => ?_
  rw [harg3.readAt_unread]
  refine congrArg x1 (funext fun a => Fin.ext ?_)
  have e := off1_eq k
  match a with
  | ⟨0, _⟩ => show k0_off1 k 0 + 1 * (y 0).val = _; rw [e]; show k.val * 512 + 1 * (y 0).val = k.val * 512 + (y 0).val; omega
  | ⟨1, _⟩ => show k0_off1 k 1 + 1 * (y 1).val = _; rw [e]; show 0 + 1 * (y 1).val = (y 1).val; omega

theorem read_vch (arg4 : Memref sig .tc .vmem S128x8192 .bf16) (harg4 : arg4.IsWhole) (x2 : FVec Ideal S128x8192 .bf16)
    (k : Fin k0_t1_loop.trips) (hk : k.val < 16) (h) :
    View.readAt (Elt Ideal) arg4.view (Rect.unit (s := S128x8192) (k0_off2 k) ![128, 512] h).toLoadRect (harg4.unread x2)
      = vch x2 ⟨k.val, hk⟩ := by
  refine funext fun (y : S128x512.Idx) => ?_
  rw [harg4.readAt_unread]
  refine congrArg x2 (funext fun a => Fin.ext ?_)
  have e := off2_eq k
  match a with
  | ⟨0, _⟩ => show k0_off2 k 0 + 1 * (y 0).val = _; rw [e]; show 0 + 1 * (y 0).val = (y 0).val; omega
  | ⟨1, _⟩ => show k0_off2 k 1 + 1 * (y 1).val = _; rw [e]; show k.val * 512 + 1 * (y 1).val = k.val * 512 + (y 1).val; omega

theorem trip_eq (c : Dev nD) (i : grid0.Coords) (arg2 : Memref sig .tc .vmem S128x512 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S512x128 .bf16) (harg5 : arg5.IsWhole)
    (x0 : FVec Ideal S128x512 .bf16) (x1 : FVec Ideal S8192x128 .bf16) (x2 : FVec Ideal S128x8192 .bf16) (k : Fin k0_t1_loop.trips) (hk : k.val < 16) (s : St) :
    tripR_k0_t1 (F := Ideal) Variants.none c none i arg2 harg2 arg3 harg3 arg4 harg4 arg5 harg5 x0 (harg3.unread x1) (harg4.unread x2) k s
      = step x0 (kch x1 ⟨k.val, hk⟩) (vch x2 ⟨k.val, hk⟩) s := by
  unfold tripR_k0_t1 trip_k0_t1
  dsimp only
  rw [read_kch arg3 harg3 x1 k hk, read_vch arg4 harg4 x2 k hk]
  rfl

theorem st_eq (c : Dev nD) (i : grid0.Coords) (arg2 : Memref sig .tc .vmem S128x512 .bf16) (harg2 : arg2.IsWhole) (arg3 : Memref sig .tc .vmem S8192x128 .bf16) (harg3 : arg3.IsWhole) (arg4 : Memref sig .tc .vmem S128x8192 .bf16) (harg4 : arg4.IsWhole) (arg5 : Memref sig .tc .vmem S512x128 .bf16) (harg5 : arg5.IsWhole)
    (x0 : FVec Ideal S128x512 .bf16) (x1 : FVec Ideal S8192x128 .bf16) (x2 : FVec Ideal S128x8192 .bf16) (n : ℕ) (hn : n ≤ 16) :
    st_k0_t1 (F := Ideal) Variants.none c none i arg2 harg2 arg3 harg3 arg4 harg4 arg5 harg5 x0 (harg3.unread x1) (harg4.unread x2)
      (k0_pay1, k0_pay2, k0_pay3) n = stN x0 x1 x2 n := by
  induction n with
  | zero => rfl
  | succ n ih =>
    have hn' : n < k0_t1_loop.trips := by rw [trips_eq]; omega
    have e := st_k0_t1_succ (F := Ideal) Variants.none c none i arg2 harg2 arg3 harg3 arg4 harg4 arg5 harg5 x0 (harg3.unread x1) (harg4.unread x2)
      (k0_pay1, k0_pay2, k0_pay3) ⟨n, hn'⟩
    refine e.trans ?_
    rw [trip_eq c i arg2 harg2 arg3 harg3 arg4 harg4 arg5 harg5 x0 x1 x2 ⟨n, hn'⟩ (by show n < 16; omega)]
    dsimp only
    rw [ih (by omega)]
    rw [stN, dif_pos (show n < 16 by omega)]

theorem out_eq (c : Dev nD) (t : Fin cfg0.N) (x0 : FVec Ideal S128x512 .bf16) (x1 : FVec Ideal S8192x128 .bf16) (x2 : FVec Ideal S128x8192 .bf16) :
    out0_A_3 (F := Ideal) c (grid0.coords t) (ms0_0 t) (hs0_0 t) (ms0_1 t) (hs0_1 t) (ms0_2 t) (hs0_2 t) (ms0_3 t) (hs0_3 t) x0 x1 x2
      = k0_pay10 (stN x0 x1 x2 16).2.1 (stN x0 x1 x2 16).2.2 := by
  frame_out
  have e : (Scf.trips (0#32) (Scalar.addi 0#32 16#32) 1#32) = 16 := trips_eq
  rw [e, st_eq (x0 := x0) (x1 := x1) (x2 := x2) (hn := le_refl 16)]

end Cert.KernelIdeal.AttnVal

end
-- ==== Proof.Attn.Loop.lean ====
/- The loop over key chunks of one attention block: the carried state after all of them, at a query and a value element. -/
module

public import proofs.«01_k».proof.Proof.Attn.State
public import proofs.«01_k».proof.Proof.Attn.Math

@[expose] public section

set_option maxRecDepth 16384

noncomputable section

open Idealize.ShloMosaic Idealize.ShloMosaic.TcCoe Idealize.SL.Sem

namespace Cert.KernelIdeal.AttnVal

open Cert.KernelIdeal Cert.KernelIdeal.Gen Cert.AttnMath

theorem pay1_at (q : Fin 512) : k0_pay1 (F := Ideal) (ix2 0 q) = (⊥ : EReal) := by
  have e : k0_pay1 (F := Ideal) (ix2 0 q) = Ideal.ofBits .f32 0xFF800000#32 := by pointwise [k0_pay1]
  rw [e, bits_bot]

theorem pay2_at (q : Fin 512) : k0_pay2 (F := Ideal) (ix2 0 q) = (0 : EReal) := by pointwise [k0_pay2]

theorem pay3_at (d : Fin 128) (q : Fin 512) : k0_pay3 (F := Ideal) (ix2 d q) = (0 : EReal) := by pointwise [k0_pay3]

/-- The score of key `x` of a chunk for query `q`. -/
def sco (x0 : FVec Ideal S128x512 .bf16) (kc : FVec Ideal S512x128 .bf16) (q : Fin 512) (x : Fin 512) : EReal :=
  ∑ y : Fin 128, kc (ix2 x y) * x0 (ix2 y q)

theorem pay5_at (x0 : FVec Ideal S128x512 .bf16) (mm : FVec Ideal S1x512 .f32) (kc : FVec Ideal S512x128 .bf16) (q : Fin 512) :
    k0_pay5 x0 mm kc (ix2 0 q) = max (mm (ix2 0 q)) (Finset.univ.fold max (⊥ : EReal) fun x => sco x0 kc q x) := by
  rw [← bits_bot]
  pointwise [k0_pay5, k0_pay4, sco]

theorem pay8_at (x0 : FVec Ideal S128x512 .bf16) (mm ll : FVec Ideal S1x512 .f32) (kc : FVec Ideal S512x128 .bf16) (q : Fin 512) :
    k0_pay8 x0 mm ll kc (ix2 0 q) = Ideal.exp2 (mm (ix2 0 q) - k0_pay5 x0 mm kc (ix2 0 q)) * ll (ix2 0 q)
      + ∑ x : Fin 512, Ideal.exp2 (sco x0 kc q x - k0_pay5 x0 mm kc (ix2 0 q)) := by
  rw [pay5_at, ← bits_bot]
  pointwise [k0_pay8, k0_pay5, k0_pay4, k0_pay6, k0_pay7, sco]
  rfl

theorem pay9_at (x0 : FVec Ideal S128x512 .bf16) (mm : FVec Ideal S1x512 .f32) (aa : FVec Ideal S128x512 .f32)
    (kc : FVec Ideal S512x128 .bf16) (vc : FVec Ideal S128x512 .bf16) (d : Fin 128) (q : Fin 512) :
    k0_pay9 x0 mm aa kc vc (ix2 d q) = Ideal.exp2 (mm (ix2 0 q) - k0_pay5 x0 mm kc (ix2 0 q)) * aa (ix2 d q)
      + ∑ x : Fin 512, vc (ix2 d x) * Ideal.exp2 (sco x0 kc q x - k0_pay5 x0 mm kc (ix2 0 q)) := by
  rw [pay5_at, ← bits_bot]
  pointwise [k0_pay9, k0_pay5, k0_pay4, k0_pay6, k0_pay7, sco]
  rfl

theorem pay10_at (ll : FVec Ideal S1x512 .f32) (aa : FVec Ideal S128x512 .f32) (q : Fin 512) (d : Fin 128) :
    k0_pay10 ll aa (ix2 q d) = Ideal.div (aa (ix2 d q)) (ll (ix2 0 q)) := by
  pointwise [k0_pay10]

/-- After `n` chunks the state at a query and a value element is the running softmax over the first `512 n` keys. -/
theorem stN_inv (x0 : FVec Ideal S128x512 .bf16) (x1 : FVec Ideal S8192x128 .bf16) (x2 : FVec Ideal S128x8192 .bf16)
    (q : Fin 512) (d : Fin 128) (s : ℕ → ℝ) (v : ℕ → EReal)
    (hs : ∀ j : Fin 8192, ((s j.val : ℝ) : EReal) = ∑ y : Fin 128, x1 (ix2 j y) * x0 (ix2 y q))
    (hv : ∀ j : Fin 8192, v j.val = x2 (ix2 d j)) (n : ℕ) (hn : n ≤ 16) :
    Inv s v (n * 512) ((stN x0 x1 x2 n).1 (ix2 0 q)) ((stN x0 x1 x2 n).2.1 (ix2 0 q)) ((stN x0 x1 x2 n).2.2 (ix2 d q)) := by
  induction n with
  | zero =>
    have h := inv_zero s v
    rw [stN]
    dsimp only
    rw [pay1_at, pay2_at, pay3_at, Nat.zero_mul]
    exact h
  | succ n ih =>
    have hn' : n < 16 := by omega
    have h := ih (by omega)
    rw [stN, dif_pos hn', step]
    dsimp only
    have es : ∀ x : Fin 512, sco x0 (kch x1 ⟨n, hn'⟩) q x = ((s (n * 512 + x.val) : ℝ) : EReal) := fun x =>
      (hs ⟨n * 512 + x.val, by omega⟩).symm
    have ev : ∀ x : Fin 512, vch x2 ⟨n, hn'⟩ (ix2 d x) = v (n * 512 + x.val) := fun x =>
      (hv ⟨n * 512 + x.val, by omega⟩).symm
    rw [pay8_at, pay9_at]
    simp only [es, ev]
    rw [Nat.succ_mul]
    refine inv_step s v (n * 512) 512 (by omega) _ _ _ h _ ?_
    rw [pay5_at]
    simp only [es]

/-- What the block stores at a query and a value element. -/
theorem out_at (x0 : FVec Ideal S128x512 .bf16) (x1 : FVec Ideal S8192x128 .bf16) (x2 : FVec Ideal S128x8192 .bf16)
    (q : Fin 512) (d : Fin 128) (s : ℕ → ℝ) (v : ℕ → EReal)
    (hs : ∀ j : Fin 8192, ((s j.val : ℝ) : EReal) = ∑ y : Fin 128, x1 (ix2 j y) * x0 (ix2 y q))
    (hv : ∀ j : Fin 8192, v j.val = x2 (ix2 d j)) :
    k0_pay10 (stN x0 x1 x2 16).2.1 (stN x0 x1 x2 16).2.2 (ix2 q d)
      = ∑ j ∈ Finset.range 8192, ((wt s 8192 j : ℝ) : EReal) * v j := by
  rw [pay10_at]
  exact inv_final s v 8192 (by omega) _ _ _ (stN_inv x0 x1 x2 q d s v hs hv 16 (le_refl 16))

end Cert.KernelIdeal.AttnVal

end
-- ==== Proof.Attn.Final.lean ====
/- The attention call: the array it leaves is the reference's, when queries and keys are real. -/
module

public import proofs.«01_k».proof.Proof.Attn.Loop
public import proofs.«01_k».proof.Proof.Attn.RefVal

@[expose] public section

set_option maxRecDepth 16384

noncomputable section

open Idealize.ShloMosaic Idealize.ShloMosaic.TcCoe Idealize.SL.Sem
open Idealize.ShloMosaic.Pipeline (Dat)

namespace Cert.KernelIdeal.AttnVal

open Cert.KernelIdeal Cert.KernelIdeal.Gen Cert.AttnMath Cert.ReferenceIdeal.AttnRef

variable (m : (ℓ : Loc nD τ sig) → Buf (Elt Ideal) ℓ)

/-- The block of every window at grid point `t = 16 h + i`. -/
theorem idx : ∀ t : Fin cfg0.N, win0_0.index t = ![t.val / 16, t.val % 16] ∧ win0_1.index t = ![0, t.val / 64]
    ∧ win0_2.index t = ![t.val / 64, 0] ∧ win0_3.index t = ![t.val % 16, t.val / 16] :=
  (by decide +kernel : ∀ t : Fin grid0.N, _)

theorem blkQ (c : Dev nD) (t : Fin cfg0.N) (x : Fin 128) (q : Fin 512) : iblk m c 0 t (ix2 x q)
    = m ((c : Thread nD τ).loc main_arg0) (ix2 ⟨t.val / 16 * 128 + x.val, by have := t.isLt; have : cfg0.N = 256 := rfl; omega⟩ ⟨t.val % 16 * 512 + q.val, by omega⟩) := by
  blk_point [iblk, V, idx t]

theorem blkK (c : Dev nD) (t : Fin cfg0.N) (j : Fin 8192) (x : Fin 128) : iblk m c 1 t (ix2 j x)
    = m ((c : Thread nD τ).loc main_arg1) (ix2 j ⟨t.val / 64 * 128 + x.val, by have := t.isLt; have : cfg0.N = 256 := rfl; omega⟩) := by
  blk_point [iblk, V, idx t]

theorem blkV (c : Dev nD) (t : Fin cfg0.N) (d : Fin 128) (j : Fin 8192) : iblk m c 2 t (ix2 d j)
    = m ((c : Thread nD τ).loc main_arg2) (ix2 ⟨t.val / 64 * 128 + d.val, by have := t.isLt; have : cfg0.N = 256 := rfl; omega⟩ j) := by
  blk_point [iblk, V, idx t]

theorem emb_out (t : Fin cfg0.N) (q : Fin 512) (d : Fin 128) : ((cfg0.win 3).blk t).view.emb (ix2 q d)
    = ix2 ⟨t.val % 16 * 512 + q.val, by omega⟩ ⟨t.val / 16 * 128 + d.val, by have := t.isLt; have : cfg0.N = 256 := rfl; omega⟩ := by
  blk_point [idx t]

/-- What a point stores at a query and a value element is attention there. -/
theorem point (c : Dev nD) (hq : IsReal (φ := .bf16) (m ((c : Thread nD τ).loc main_arg0))) (hk : IsReal (φ := .bf16) (m ((c : Thread nD τ).loc main_arg1)))
    (t : Fin cfg0.N) (q : Fin 512) (d : Fin 128) : outsAt0 m c t (ix2 q d)
    = Res (Dv (Sm (Ex (Sc (m ((c : Thread nD τ).loc main_arg0)) (m ((c : Thread nD τ).loc main_arg1))))) (m ((c : Thread nD τ).loc main_arg2)))
        (((cfg0.win 3).blk t).view.emb (ix2 q d)) := by
  have ht : t.val < 256 := t.isLt
  rw [emb_out]
  refine Eq.trans ?_ (ref_at _ _ _ hq hk _ _).symm
  show out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) (ix2 q d) = _
  rw [out_eq]
  refine out_at _ _ _ q d _ _ (fun j => ?_) (fun j => ?_)
  · unfold sc
    rw [dif_pos j.isLt, coe_sum]
    refine Finset.sum_congr rfl fun x _ => ?_
    rw [EReal.coe_mul, ← hk.eq, ← hq.eq, blkK, blkQ]
    congr 2
    · congr 2
      show (t.val / 16 * 128 + d.val) / 512 * 128 + x.val = t.val / 64 * 128 + x.val
      omega
    · congr 2
      show (t.val / 16 * 128 + d.val) / 512 * 512 + (t.val / 16 * 128 + d.val) / 128 % 4 * 128 + x.val = t.val / 16 * 128 + x.val
      omega
  · unfold vv
    rw [dif_pos j.isLt, blkV]
    congr 2
    apply Fin.ext
    show (t.val / 16 * 128 + d.val) / 512 * 128 + (t.val / 16 * 128 + d.val) % 128 = t.val / 64 * 128 + d.val
    omega

/-- The result array after the run is the reference's term. -/
theorem final (c : Dev nD) (hq : IsReal (φ := .bf16) (m ((c : Thread nD τ).loc main_arg0))) (hk : IsReal (φ := .bf16) (m ((c : Thread nD τ).loc main_arg1))) :
    (dats m 0 c).arrAt 3 (cfgs 0).N
    = Res (Dv (Sm (Ex (Sc (m ((c : Thread nD τ).loc main_arg0)) (m ((c : Thread nD τ).loc main_arg1))))) (m ((c : Thread nD τ).loc main_arg2))) := by
  refine (dats m 0 c).arrAt_eq_of_covers 3 _ (by decide +kernel) fun t _ y => ?_
  blk_simp
  rw [after0_3]
  have e : y = ix2 (y 0) (y 1) := by
    funext b
    match b with
    | ⟨0, _⟩ => rfl
    | ⟨1, _⟩ => rfl
  rw [e]
  exact point m c hq hk t (y 0) (y 1)

end Cert.KernelIdeal.AttnVal

end
-- ==== Proof.Pool.Sum.lean ====
/- A window of a sequence summed two ways: as a masked sum over every position, and as the window's own terms with
   zeros past the ends. -/
module

public import Mathlib.Data.EReal.Operations
public import Mathlib.Algebra.BigOperators.Fin

@[expose] public section

noncomputable section

namespace Cert.Pool

open Finset

/-- The sequence laid in a row with sixteen zeros before it and zeros after it. -/
def padded (f : Fin 8192 → EReal) (n : ℕ) : EReal := if h : 16 ≤ n ∧ n < 8208 then f ⟨n - 16, by omega⟩ else 0

theorem padded_eq_sum (f : Fin 8192 → EReal) (n : ℕ) : padded f n = ∑ s : Fin 8192, if s.val + 16 = n then f s else 0 := by
  unfold padded
  split
  · rename_i h
    rw [Finset.sum_eq_single (⟨n - 16, by omega⟩ : Fin 8192)]
    · rw [if_pos (by show n - 16 + 16 = n; omega)]
    · intro b _ hb
      rw [if_neg]
      intro e
      exact hb (Fin.ext (by show b.val = n - 16; omega))
    · intro hb
      exact absurd (Finset.mem_univ _) hb
  · rename_i h
    refine (Finset.sum_eq_zero fun s _ => ?_).symm
    rw [if_neg]
    intro e
    have := s.isLt
    omega

/-- The masked sum is the sum of the window's terms. -/
theorem window_sum (f : Fin 8192 → EReal) (t h : ℕ) (hh : h ≤ 16) :
    (∑ s : Fin 8192, f s * (if t ≤ s.val + h ∧ s.val < t + h then 1 else 0))
      = ∑ k ∈ range (2 * h), padded f (16 + t - h + k) := by
  have e : ∀ k ∈ range (2 * h), padded f (16 + t - h + k) = ∑ s : Fin 8192, if s.val + h - t = k then (if t ≤ s.val + h then f s else 0) else 0 := by
    intro k _
    rw [padded_eq_sum]
    refine Finset.sum_congr rfl fun s _ => ?_
    by_cases c : t ≤ s.val + h
    · rw [if_pos c]
      exact if_congr (by omega) rfl rfl
    · rw [if_neg c, ite_self, if_neg]
      omega
  rw [Finset.sum_congr rfl e, Finset.sum_comm]
  refine Finset.sum_congr rfl fun s _ => ?_
  rw [Finset.sum_ite_eq (range (2 * h)) (s.val + h - t)]
  by_cases c : t ≤ s.val + h
  · by_cases d : s.val < t + h
    · rw [if_pos ⟨c, d⟩, if_pos (Finset.mem_range.mpr (by omega)), if_pos c, mul_one]
    · rw [if_neg (fun x => d x.2), if_neg (fun x => d (by have := Finset.mem_range.mp x; omega)), mul_zero]
  · rw [if_neg (fun x => c x.1), if_neg c, ite_self, mul_zero]

/-- The sum of the window of half width `h` about position `t`, with zeros past the ends. -/
def windowed (f : Fin 8192 → EReal) (t h : ℕ) : EReal := ∑ k ∈ range (2 * h), padded f (16 + t - h + k)

/-! ## The window's words -/

theorem toInt_small (n : ℕ) (hn : n < 2 ^ 31) : (BitVec.ofNat 32 n).toInt = (n : ℤ) := by
  rw [BitVec.toInt_eq_toNat_cond, BitVec.toNat_ofNat, Nat.mod_eq_of_lt (by omega), if_pos (by omega)]

theorem slt_small (a b : ℕ) (ha : a < 2 ^ 31) (hb : b < 2 ^ 31) : (BitVec.ofNat 32 a).slt (BitVec.ofNat 32 b) = decide (a < b) := by
  rw [BitVec.slt, toInt_small a ha, toInt_small b hb]
  exact decide_eq_decide.mpr (by omega)

theorem sle_small (a b : ℕ) (ha : a < 2 ^ 31) (hb : b < 2 ^ 31) : (BitVec.ofNat 32 a).sle (BitVec.ofNat 32 b) = decide (a ≤ b) := by
  rw [BitVec.sle, toInt_small a ha, toInt_small b hb]
  exact decide_eq_decide.mpr (by omega)

/-- The window's first position, as a word. -/
theorem first_word (t h : ℕ) (ht : t < 8192) (hh : h ≤ 16) :
    (if (0#32 : BitVec 32).slt (BitVec.ofNat 32 t - BitVec.ofNat 32 h) then BitVec.ofNat 32 t - BitVec.ofNat 32 h else 0#32) = BitVec.ofNat 32 (t - h) := by
  by_cases c : h ≤ t
  · have e : BitVec.ofNat 32 t - BitVec.ofNat 32 h = BitVec.ofNat 32 (t - h) := by
      apply BitVec.eq_of_toNat_eq
      simp only [BitVec.toNat_sub, BitVec.toNat_ofNat]
      omega
    rw [e]
    have z := slt_small 0 (t - h) (by omega) (by omega)
    rw [show (0#32 : BitVec 32) = BitVec.ofNat 32 0 from rfl, z]
    by_cases d : 0 < t - h
    · rw [if_pos (decide_eq_true d)]
    · rw [if_neg (fun x => d (of_decide_eq_true x)), show t - h = 0 by omega]
  · have e : BitVec.ofNat 32 t - BitVec.ofNat 32 h = BitVec.ofNat 32 (2 ^ 32 + t - h) := by
      apply BitVec.eq_of_toNat_eq
      simp only [BitVec.toNat_sub, BitVec.toNat_ofNat]
      omega
    have i : (BitVec.ofNat 32 (2 ^ 32 + t - h)).toInt = (t : ℤ) - h := by
      rw [BitVec.toInt_eq_toNat_cond, BitVec.toNat_ofNat, Nat.mod_eq_of_lt (by omega), if_neg (by omega)]
      omega
    rw [if_neg, show t - h = 0 by omega]
    rw [e, BitVec.slt, i]
    intro x
    have := of_decide_eq_true x
    rw [show (0#32 : BitVec 32).toInt = 0 from rfl] at this
    omega

/-- The window's last position, as a word. -/
theorem last_word (t h : ℕ) (ht : t < 8192) (h1 : 1 ≤ h) (hh : h ≤ 16) :
    (if (BitVec.ofNat 32 t + BitVec.ofNat 32 h - 1#32).slt 8191#32 then BitVec.ofNat 32 t + BitVec.ofNat 32 h - 1#32 else 8191#32)
      = BitVec.ofNat 32 (min (t + h - 1) 8191) := by
  have e : BitVec.ofNat 32 t + BitVec.ofNat 32 h - 1#32 = BitVec.ofNat 32 (t + h - 1) := by
    apply BitVec.eq_of_toNat_eq
    simp only [BitVec.toNat_sub, BitVec.toNat_add, BitVec.toNat_ofNat]
    omega
  rw [e, show (8191#32 : BitVec 32) = BitVec.ofNat 32 8191 from rfl, slt_small _ _ (by omega) (by omega)]
  by_cases d : t + h - 1 < 8191
  · rw [if_pos (decide_eq_true d), min_eq_left (by omega)]
  · rw [if_neg (fun x => d (of_decide_eq_true x)), min_eq_right (by omega)]

end Cert.Pool

end
-- ==== Proof.Pool.Ref.lean ====
/- The reference of the pooling call, read at an index. -/
module

public import proofs.«01_k».proof.Proof.Gen.Reference6Ideal.Run
public import proofs.«01_k».proof.Proof.Pool.Sum
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Reference6Ideal.Pool

open Cert.Reference6Ideal Cert.Reference6Ideal.Gen

/-- The first and the last position of every window. -/
def Lo : IVec S4x8192 32 := (maxsi (subi (broadcastInDim S4x8192 ![0, 1] bcast_S1x8192_S4x8192_0_1 (broadcastInDim S1x8192 ![1] bcast_S8192_S1x8192_1 (iotaInDim S8192 32 0))) (broadcastInDim S4x8192 ![0, 1] bcast_S4x1_S4x8192_0_1 (broadcastInDim S4x1 ![0] bcast_S4_S4x1_0 ((fun i => lit0 (S4.rowMajor i)))))) (broadcastInDim S4x8192 ![] bcast_S_S4x8192 (constantI S_ 32 0#32)))
def Hi : IVec S4x8192 32 := (minsi (subi (addi (broadcastInDim S4x8192 ![0, 1] bcast_S1x8192_S4x8192_0_1 (broadcastInDim S1x8192 ![1] bcast_S8192_S1x8192_1 (iotaInDim S8192 32 0))) (broadcastInDim S4x8192 ![0, 1] bcast_S4x1_S4x8192_0_1 (broadcastInDim S4x1 ![0] bcast_S4_S4x1_0 ((fun i => lit0 (S4.rowMajor i)))))) (broadcastInDim S4x8192 ![] bcast_S_S4x8192 (constantI S_ 32 1#32))) (broadcastInDim S4x8192 ![] bcast_S_S4x8192 (constantI S_ 32 8191#32)))

/-- Which positions lie in which window. -/
def Mask : FVec Ideal S4x8192x8192 .f32 := (uitofp .f32 (andi (cmpi .sge (broadcastInDim S4x8192x8192 ![0, 1, 2] bcast_S1x1x8192_S4x8192x8192_0_1_2 (broadcastInDim S1x1x8192 ![2] bcast_S8192_S1x1x8192_2 (iotaInDim S8192 32 0))) (broadcastInDim S4x8192x8192 ![0, 1, 2] bcast_S4x8192x1_S4x8192x8192_0_1_2 (broadcastInDim S4x8192x1 ![0, 1] bcast_S4x8192_S4x8192x1_0_1 Lo))) (cmpi .sle (broadcastInDim S4x8192x8192 ![0, 1, 2] bcast_S1x1x8192_S4x8192x8192_0_1_2 (broadcastInDim S1x1x8192 ![2] bcast_S8192_S1x1x8192_2 (iotaInDim S8192 32 0))) (broadcastInDim S4x8192x8192 ![0, 1, 2] bcast_S4x8192x1_S4x8192x8192_0_1_2 (broadcastInDim S4x8192x1 ![0, 1] bcast_S4x8192_S4x8192x1_0_1 Hi)))))

/-- The number of positions in every window. -/
def Cnt : FVec Ideal S4x8192 .f32 := (sitofp .f32 (addi (subi Hi Lo) (broadcastInDim S4x8192 ![] bcast_S_S4x8192 (constantI S_ 32 1#32))))

/-- The rows by group. -/
def Pf (x : FVec Ideal S8192x2048 .bf16) : FVec Ideal S8192x4x512 .f32 := (shapeCast _ (extf .f32 x bitsLt_bf16_f32) shapeCasts_S8192x2048_S8192x4x512)

/-- The window means less the rows. -/
def Df (x : FVec Ideal S8192x2048 .bf16) : FVec Ideal S8192x4x512 .bf16 := (truncf .bf16 (subf (Host.divf (transpose S8192x4x512 [2, 0, 1] (Host.dotGeneral dot_S8192x4x512_S4x8192x8192_S4x512x8192_0_2_2_1_1_0 none (Pf x) Mask) transposes_S4x512x8192_S8192x4x512_2_0_1) (broadcastInDim S8192x4x512 ![0, 1, 2] bcast_S8192x4x1_S8192x4x512_0_1_2 (broadcastInDim S8192x4x1 ![0, 1] bcast_S8192x4_S8192x4x1_0_1 (transpose S8192x4 [1, 0] Cnt transposes_S4x8192_S8192x4_1_0)))) (Pf x)) bitsLt_bf16_f32)

/-- The reference's result as a function of the three arguments. -/
def Ref (x : FVec Ideal S8192x2048 .bf16) (w : FVec Ideal S1x4x512x512 .f32) (sc : FVec Ideal S1x2048 .f32) : FVec Ideal S8192x2048 .bf16 :=
  truncf .bf16 (mulf (shapeCast _ (transpose S8192x4x512 [2, 0, 1] (Host.dotGeneral dot_S4x512x512_S8192x4x512_S4x512x8192_1_2_2_0_0_1 none (shapeCast _ w shapeCasts_S1x4x512x512_S4x512x512) (extf .f32 (Df x) bitsLt_bf16_f32)) transposes_S4x512x8192_S8192x4x512_2_0_1) shapeCasts_S8192x4x512_S8192x2048) (broadcastInDim S8192x2048 ![0, 1] bcast_S1x2048_S8192x2048_0_1 sc)) bitsLt_bf16_f32

/-- Half the width of every group's window. -/
def half : Fin 4 → ℕ := ![1, 2, 4, 8]

theorem half_word (g : Fin 4) : lit0 (S4.rowMajor (ix1 g)) = BitVec.ofNat 32 (half g) := by
  fin_cases g <;> rfl

theorem half_le (g : Fin 4) : 1 ≤ half g ∧ half g ≤ 16 := by
  fin_cases g <;> decide

theorem Lo_at (g : Fin 4) (t : Fin 8192) : Lo (ix2 g t) = IntOp.maxsi (IntOp.subi (BitVec.ofNat 32 t.val) (BitVec.ofNat 32 (half g))) 0#32 := by
  rw [← half_word]
  pointwise [Lo]

theorem Hi_at (g : Fin 4) (t : Fin 8192) : Hi (ix2 g t) = IntOp.minsi (IntOp.subi (IntOp.addi (BitVec.ofNat 32 t.val) (BitVec.ofNat 32 (half g))) 1#32) 8191#32 := by
  rw [← half_word]
  pointwise [Hi]

/-- The number of positions in the window of half width `h` about position `t`. -/
def cntW (t h : BitVec 32) : EReal :=
  FloatOps.sitofp (F := Ideal) FTy.f32 (IntOp.addi (IntOp.subi (IntOp.minsi (IntOp.subi (IntOp.addi t h) 1#32) 8191#32)
    (IntOp.maxsi (IntOp.subi t h) 0#32)) 1#32)

theorem Cnt_at (g : Fin 4) (t : Fin 8192) : Cnt (ix2 g t) = cntW (BitVec.ofNat 32 t.val) (BitVec.ofNat 32 (half g)) := by
  pointwise [Cnt]
  rw [Hi_at, Lo_at]
  rfl

theorem both_bits (p q : Bool) : FloatOps.uitofp (F := Ideal) FTy.f32 (IntOp.andi (BitVec.ofBool p) (BitVec.ofBool q)) = if (p && q) = true then (1 : EReal) else 0 := by
  cases p <;> cases q <;> simp [FloatOps.uitofp, IntOp.andi]

theorem Mask_at (g : Fin 4) (t s : Fin 8192) : Mask (ix3 g t s) = if t.val ≤ s.val + half g ∧ s.val < t.val + half g then 1 else 0 := by
  have hg := half_le g
  have ht := t.isLt
  have hs := s.isLt
  pointwise [Mask]
  rw [Hi_at, Lo_at]
  have l : IntOp.maxsi (IntOp.subi (BitVec.ofNat 32 t.val) (BitVec.ofNat 32 (half g))) 0#32 = BitVec.ofNat 32 (t.val - half g) :=
    Cert.Pool.first_word t.val (half g) t.isLt hg.2
  have r : IntOp.minsi (IntOp.subi (IntOp.addi (BitVec.ofNat 32 t.val) (BitVec.ofNat 32 (half g))) 1#32) 8191#32 = BitVec.ofNat 32 (min (t.val + half g - 1) 8191) :=
    Cert.Pool.last_word t.val (half g) t.isLt hg.1 hg.2
  rw [l, r]
  simp only [IntOp.cmpi, Cert.Pool.sle_small _ _ (show t.val - half g < 2 ^ 31 by omega) (show s.val < 2 ^ 31 by omega),
    Cert.Pool.sle_small _ _ (show s.val < 2 ^ 31 by omega) (show min (t.val + half g - 1) 8191 < 2 ^ 31 by omega)]
  rw [both_bits]
  refine if_congr ?_ rfl rfl
  rw [Bool.and_eq_true, decide_eq_true_iff, decide_eq_true_iff]
  omega

theorem Pf_at (x : FVec Ideal S8192x2048 .bf16) (t : Fin 8192) (g : Fin 4) (k : Fin 512) :
    Pf x (ix3 t g k) = x (ix2 t ⟨g.val * 512 + k.val, by omega⟩) := by
  pointwise [Pf]

theorem Df_at (x : FVec Ideal S8192x2048 .bf16) (t : Fin 8192) (g : Fin 4) (k : Fin 512) :
    Df x (ix3 t g k) = Ideal.div (Cert.Pool.windowed (fun s => x (ix2 s ⟨g.val * 512 + k.val, by omega⟩)) t.val (half g))
      (cntW (BitVec.ofNat 32 t.val) (BitVec.ofNat 32 (half g))) - x (ix2 t ⟨g.val * 512 + k.val, by omega⟩) := by
  pointwise [Df]
  rw [Cnt_at, Pf_at, Cert.Pool.windowed, ← Cert.Pool.window_sum _ _ _ (half_le g).2]
  refine congrArg (fun e => Ideal.div e _ - _) (Finset.sum_congr rfl fun s _ => ?_)
  rw [Pf_at, Mask_at]

theorem Ref_at (x : FVec Ideal S8192x2048 .bf16) (w : FVec Ideal S1x4x512x512 .f32) (sc : FVec Ideal S1x2048 .f32) (t : Fin 8192) (g : Fin 4) (k : Fin 512) :
    Ref x w sc (ix2 t ⟨g.val * 512 + k.val, by omega⟩)
      = (∑ d : Fin 512, Df x (ix3 t g d) * w (ix4 0 g d k)) * sc (ix2 0 ⟨g.val * 512 + k.val, by omega⟩) := by
  have e1 : (⟨(g.val * 512 + k.val) / 512, by omega⟩ : Fin 4) = g := Fin.ext (by show (g.val * 512 + k.val) / 512 = g.val; omega)
  have e2 : (⟨(g.val * 512 + k.val) % 512, by omega⟩ : Fin 512) = k := Fin.ext (by show (g.val * 512 + k.val) % 512 = k.val; omega)
  pointwise [Ref]
  refine congrArg (· * _) (Finset.sum_congr rfl fun d _ => ?_)
  rw [mul_comm]

end Cert.Reference6Ideal.Pool

end
-- ==== Proof.Pool.Value.lean ====
/- The pooling call: the array the pipelined call leaves is the reference's term. -/
module

public import proofs.«01_k».proof.Proof.Gen.Kernel6Ideal.Value
public import proofs.«01_k».proof.Proof.Pool.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat Window)

namespace Cert.Kernel6Ideal.Pool

open Cert.Kernel6Ideal Cert.Kernel6Ideal.Gen
open Cert.Pool (padded windowed)
open Cert.Reference6Ideal.Pool (Ref Ref_at Df_at cntW half)

variable (m : (ℓ : Loc nD τ sig) → Buf (Elt Ideal) ℓ)

theorem index_0 : ∀ t : Fin cfg0.N, (cfg0.win 0).index t = ![t.val * 16 - 1, 0] := (by decide +kernel : ∀ t : Fin grid0.N, win0_0.index t = ![t.val * 16 - 1, 0])
theorem index_1 : ∀ t : Fin cfg0.N, (cfg0.win 1).index t = ![t.val, 0] := (by decide +kernel : ∀ t : Fin grid0.N, win0_1.index t = ![t.val, 0])
theorem index_2 : ∀ t : Fin cfg0.N, (cfg0.win 2).index t = ![min ((t.val + 1) * 16) 511, 0] := (by decide +kernel : ∀ t : Fin grid0.N, win0_2.index t = ![min ((t.val + 1) * 16) 511, 0])
theorem index_3 : ∀ t : Fin cfg0.N, (cfg0.win 3).index t = ![0, 0, 0] := (by decide +kernel : ∀ t : Fin grid0.N, win0_3.index t = ![0, 0, 0])
theorem index_4 : ∀ t : Fin cfg0.N, (cfg0.win 4).index t = ![0, 0] := (by decide +kernel : ∀ t : Fin grid0.N, win0_4.index t = ![0, 0])
theorem index_5 : ∀ t : Fin cfg0.N, (cfg0.win 5).index t = ![t.val, 0] := (by decide +kernel : ∀ t : Fin grid0.N, win0_5.index t = ![t.val, 0])

theorem coord : ∀ t : Fin cfg0.N, ((grid0.coords t) 0).val = t.val := (by decide +kernel : ∀ t : Fin grid0.N, ((grid0.coords t) 0).val = t.val)

theorem steps (t : Fin cfg0.N) : t.val < 32 := t.isLt

abbrev arg0 (c : Dev nD) : FVec Ideal S8192x2048 .bf16 := m ((c : Thread nD τ).loc main_arg0)
abbrev arg1 (c : Dev nD) : FVec Ideal S1x4x512x512 .f32 := m ((c : Thread nD τ).loc main_arg1)
abbrev arg2 (c : Dev nD) : FVec Ideal S1x2048 .f32 := m ((c : Thread nD τ).loc main_arg2)

theorem blk_0 (c : Dev nD) (t : Fin cfg0.N) (p : Fin 16) (q : Fin 2048) (r : Fin 8192) (hr : r.val = (t.val * 16 - 1) * 16 + p.val) :
    (iblk m c 0 t : FVec Ideal S16x2048 .bf16) (ix2 p q) = arg0 m c (ix2 r q) := by
  have e1 : ((cfg0.win 0).rect t).emb (ix2 p q) = (ix2 r q : S8192x2048.Idx) := by
    funext a
    apply Fin.ext
    have h := Window.rect_emb_val (cfg0.win 0) t (ix2 p q) a rfl
    rw [index_0] at h
    refine h.trans ?_
    fin_cases a
    · exact hr.symm
    · exact Nat.zero_add _
  exact congrArg (arg0 m c) e1

theorem blk_1 (c : Dev nD) (t : Fin cfg0.N) (p : Fin 256) (q : Fin 2048) (r : Fin 8192) (hr : r.val = t.val * 256 + p.val) :
    (iblk m c 1 t : FVec Ideal S256x2048 .bf16) (ix2 p q) = arg0 m c (ix2 r q) := by
  have e1 : ((cfg0.win 1).rect t).emb (ix2 p q) = (ix2 r q : S8192x2048.Idx) := by
    funext a
    apply Fin.ext
    have h := Window.rect_emb_val (cfg0.win 1) t (ix2 p q) a rfl
    rw [index_1] at h
    refine h.trans ?_
    fin_cases a
    · exact hr.symm
    · exact Nat.zero_add _
  exact congrArg (arg0 m c) e1

theorem blk_2 (c : Dev nD) (t : Fin cfg0.N) (p : Fin 16) (q : Fin 2048) (r : Fin 8192) (hr : r.val = min ((t.val + 1) * 16) 511 * 16 + p.val) :
    (iblk m c 2 t : FVec Ideal S16x2048 .bf16) (ix2 p q) = arg0 m c (ix2 r q) := by
  have e1 : ((cfg0.win 2).rect t).emb (ix2 p q) = (ix2 r q : S8192x2048.Idx) := by
    funext a
    apply Fin.ext
    have h := Window.rect_emb_val (cfg0.win 2) t (ix2 p q) a rfl
    rw [index_2] at h
    refine h.trans ?_
    fin_cases a
    · exact hr.symm
    · exact Nat.zero_add _
  exact congrArg (arg0 m c) e1

theorem blk_3 (c : Dev nD) (t : Fin cfg0.N) (g : Fin 4) (d k : Fin 512) (G : ℕ) (hG : G = g.val) (inb : ∀ a, (![G, 0, 0] : Fin 3 → ℕ) a + (![1, 512, 512] : Fin 3 → ℕ) a ≤ S4x512x512.size a) :
    View.ld (Val := Elt Ideal) (iblk m c 3 t : FVec Ideal S4x512x512 .bf16) (Rect.unit (s := S4x512x512) ![G, 0, 0] ![1, 512, 512] inb) (ix3 0 d k) = arg1 m c (ix4 0 g d k) := by
  have e0 : (Rect.unit (s := S4x512x512) ![G, 0, 0] ![1, 512, 512] inb).emb (ix3 0 d k) = (ix3 g d k : S4x512x512.Idx) := by
    funext a
    apply Fin.ext
    fin_cases a
    · show G + 1 * 0 = g.val
      omega
    · show 0 + 1 * d.val = d.val
      omega
    · show 0 + 1 * k.val = k.val
      omega
  have e1 : ((cfg0.win 3).rect t).emb (ix3 g d k) = (ix3 g d k : S4x512x512.Idx) := by
    funext a
    apply Fin.ext
    have h := Window.rect_emb_val (cfg0.win 3) t (ix3 g d k) a rfl
    rw [index_3] at h
    refine h.trans ?_
    fin_cases a <;> exact Nat.zero_add _
  have e2 : V m c main_v1 (ix3 g d k) = arg1 m c (ix4 0 g d k) := by
    have e3 : V m c main_v1 = truncf .bf16 (shapeCast S4x512x512 (arg1 m c) shapeCasts_S1x4x512x512_S4x512x512) bitsLt_bf16_f32 := by
      unfold V
      after_results_simp <;> rfl
    rw [e3]
    pointwise
  exact (congrArg (iblk m c 3 t : FVec Ideal S4x512x512 .bf16) e0).trans ((congrArg (V m c main_v1) e1).trans e2)

theorem blk_4 (c : Dev nD) (t : Fin cfg0.N) (k : Fin 512) (q : Fin 2048) (a : ℕ) (h : q.val = a + k.val) (inb : ∀ b, (![0, a] : Fin 2 → ℕ) b + (![1, 512] : Fin 2 → ℕ) b ≤ S1x2048.size b) :
    View.ld (Val := Elt Ideal) (iblk m c 4 t : FVec Ideal S1x2048 .f32) (Rect.unit (s := S1x2048) ![0, a] ![1, 512] inb) (ix2 0 k) = arg2 m c (ix2 0 q) := by
  have e0 : (Rect.unit (s := S1x2048) ![0, a] ![1, 512] inb).emb (ix2 0 k) = (ix2 0 q : S1x2048.Idx) := by
    funext b
    apply Fin.ext
    fin_cases b
    · rfl
    · show a + 1 * k.val = q.val
      omega
  have e1 : ((cfg0.win 4).rect t).emb (ix2 0 q) = (ix2 0 q : S1x2048.Idx) := by
    funext b
    apply Fin.ext
    have h := Window.rect_emb_val (cfg0.win 4) t (ix2 0 q) b rfl
    rw [index_4] at h
    refine h.trans ?_
    fin_cases b <;> exact Nat.zero_add _
  exact (congrArg (iblk m c 4 t : FVec Ideal S1x2048 .f32) e0).trans (congrArg (arg2 m c) e1)

/-! ## The row buffer -/

/-- The row buffer at step `i`: the rows about the step's own, zero past the ends. -/
def buf (x : FVec Ideal S8192x2048 .bf16) (i : ℕ) : S288x2048.Idx → Elt Ideal .f32 := fun y => padded (fun s => x (ix2 s (y 1))) (256 * i + (y 0).val)

theorem pay2_at (i : grid0.Coords) (v : Vec Ideal S16x2048 .bf16) (p : Fin 16) (q : Fin 2048) :
    k0_pay2 i v (ix2 p q) = if (i 0).val = 0 then (0 : EReal) else v (ix2 p q) := by
  have hi : (i 0).val < 32 := (i 0).isLt
  pointwise [k0_pay2]
  by_cases h : (i 0).val = 0
  · rw [if_pos h, h]; rfl
  · rw [if_neg h]
    have e : (BitVec.ofNat 32 (i 0).val == 0#32) = false := beq_eq_false_iff_ne.mpr fun x => h (by
      have := congrArg BitVec.toNat x
      simp only [BitVec.toNat_ofNat] at this
      omega)
    simp [Scalar.select, Scalar.cmpi, IntOp.cmpi, e]

theorem pay4_at (i : grid0.Coords) (v : Vec Ideal S16x2048 .bf16) (p : Fin 16) (q : Fin 2048) :
    k0_pay4 i v (ix2 p q) = if (i 0).val = 31 then (0 : EReal) else v (ix2 p q) := by
  have hi : (i 0).val < 32 := (i 0).isLt
  pointwise [k0_pay4]
  by_cases h : (i 0).val = 31
  · rw [if_pos h, h]; rfl
  · rw [if_neg h]
    have e : (BitVec.ofNat 32 (i 0).val == 31#32) = false := beq_eq_false_iff_ne.mpr fun x => h (by
      have := congrArg BitVec.toNat x
      simp only [BitVec.toNat_ofNat] at this
      omega)
    simp [Scalar.select, Scalar.cmpi, IntOp.cmpi, e]

theorem pay3_at (v : Vec Ideal S256x2048 .bf16) (p : Fin 256) (q : Fin 2048) :
    k0_pay3 v (ix2 p q) = v (ix2 p q) := by
  pointwise [k0_pay3]

theorem padded_in (f : Fin 8192 → EReal) (n : ℕ) (r : Fin 8192) (h : r.val + 16 = n) : padded f n = f r := by
  have := r.isLt
  rw [padded, dif_pos (by omega)]
  exact congrArg f (Fin.ext (by show n - 16 = r.val; omega))

theorem padded_out (f : Fin 8192 → EReal) (n : ℕ) (h : n < 16 ∨ 8208 ≤ n) : padded f n = 0 := by
  rw [padded, dif_neg (by omega)]

/-- The three stores of the row buffer. -/
def stores (c : Dev nD) (t : Fin cfg0.N) : List (View.Piece (Elt Ideal) S288x2048 .f32) :=
  [⟨Rect.unit (s := S288x2048) ![272, 0] ![16, 2048] inb_S288x2048_S16x2048_272_0, k0_pay4 (grid0.coords t) (iblk m c 2 t)⟩,
   ⟨Rect.unit (s := S288x2048) ![16, 0] ![256, 2048] inb_S288x2048_S256x2048_16_0, k0_pay3 (iblk m c 1 t)⟩,
   ⟨Rect.unit (s := S288x2048) ![0, 0] ![16, 2048] inb_S288x2048_S16x2048_0_0, k0_pay2 (grid0.coords t) (iblk m c 0 t)⟩]

theorem store_at (x : FVec Ideal S8192x2048 .bf16) (i o n : ℕ) (inb : ∀ a, (![o, 0] : Fin 2 → ℕ) a + (![n, 2048] : Fin 2 → ℕ) a ≤ S288x2048.size a) (p : Fin n) (q : Fin 2048) :
    buf x i ((Rect.unit (s := S288x2048) ![o, 0] ![n, 2048] inb).emb (ix2 p q)) = padded (fun s => x (ix2 s q)) (256 * i + o + p.val) := by
  have e1 : ((Rect.unit (s := S288x2048) ![o, 0] ![n, 2048] inb).emb (ix2 p q)) 1 = q := Fin.ext (by show 0 + 1 * q.val = q.val; omega)
  have e0 : (((Rect.unit (s := S288x2048) ![o, 0] ![n, 2048] inb).emb (ix2 p q)) 0).val = o + p.val := by show o + 1 * p.val = o + p.val; omega
  rw [buf, e1, e0, Nat.add_assoc]

theorem canon_buf (c : Dev nD) (t : Fin cfg0.N) (y : S288x2048.Idx) : View.canon (stores m c t) y = buf (arg0 m c) t.val y := by
  have ht := steps t
  refine View.canon_apply_of_pieces (Val := Elt Ideal) (buf (arg0 m c) t.val) _ ?_ y ?_
  · intro p hp
    simp only [stores, List.mem_cons, List.not_mem_nil, _root_.or_false] at hp
    rcases hp with rfl | rfl | rfl
    · intro x
      obtain ⟨p, q, rfl⟩ : ∃ (p : Fin 16) (q : Fin 2048), x = ix2 p q := ⟨x 0, x 1, by funext a; fin_cases a <;> rfl⟩
      refine Eq.trans ?_ (store_at (arg0 m c) t.val 272 16 inb_S288x2048_S16x2048_272_0 p q).symm
      refine (pay4_at _ _ p q).trans ?_
      rw [coord]
      have hp := p.isLt
      by_cases h : t.val = 31
      · rw [if_pos h, padded_out _ _ (by omega)]
      · rw [if_neg h, padded_in _ _ ⟨t.val * 256 + 256 + p.val, by omega⟩ (by show t.val * 256 + 256 + p.val + 16 = _; omega)]
        exact blk_2 m c t p q _ (by show t.val * 256 + 256 + p.val = _; omega)
    · intro x
      obtain ⟨p, q, rfl⟩ : ∃ (p : Fin 256) (q : Fin 2048), x = ix2 p q := ⟨x 0, x 1, by funext a; fin_cases a <;> rfl⟩
      refine Eq.trans ?_ (store_at (arg0 m c) t.val 16 256 inb_S288x2048_S256x2048_16_0 p q).symm
      refine (pay3_at _ p q).trans ?_
      have hp := p.isLt
      rw [padded_in _ _ ⟨t.val * 256 + p.val, by omega⟩ (by show t.val * 256 + p.val + 16 = _; omega)]
      exact blk_1 m c t p q _ rfl
    · intro x
      obtain ⟨p, q, rfl⟩ : ∃ (p : Fin 16) (q : Fin 2048), x = ix2 p q := ⟨x 0, x 1, by funext a; fin_cases a <;> rfl⟩
      refine Eq.trans ?_ (store_at (arg0 m c) t.val 0 16 inb_S288x2048_S16x2048_0_0 p q).symm
      refine (pay2_at _ _ p q).trans ?_
      rw [coord]
      have hp := p.isLt
      by_cases h : t.val = 0
      · rw [if_pos h, padded_out _ _ (by omega)]
      · rw [if_neg h, padded_in _ _ ⟨t.val * 256 - 16 + p.val, by omega⟩ (by show t.val * 256 - 16 + p.val + 16 = _; omega)]
        exact blk_0 m c t p q _ (by show t.val * 256 - 16 + p.val = _; omega)
  · have h0 : (y 0).val < 288 := (y 0).isLt
    have h1 : (y 1).val < 2048 := (y 1).isLt
    have key : ∀ (o n : ℕ) (inb : ∀ a, (![o, 0] : Fin 2 → ℕ) a + (![n, 2048] : Fin 2 → ℕ) a ≤ S288x2048.size a), o ≤ (y 0).val → (y 0).val < o + n → y ∈ (Rect.unit (s := S288x2048) ![o, 0] ![n, 2048] inb).set := by
      intro o n inb ha hb
      rw [Rect.mem_set_unit]
      intro a; fin_cases a
      · exact ⟨ha, hb⟩
      · exact ⟨Nat.zero_le _, by show (y 1).val < 0 + 2048; omega⟩
    by_cases c2 : 272 ≤ (y 0).val
    · exact ⟨_, List.mem_cons_self, key 272 16 inb_S288x2048_S16x2048_272_0 c2 (by omega)⟩
    by_cases c1 : 16 ≤ (y 0).val
    · exact ⟨_, List.mem_cons_of_mem _ List.mem_cons_self, key 16 256 inb_S288x2048_S256x2048_16_0 c1 (by omega)⟩
    exact ⟨_, List.mem_cons_of_mem _ (List.mem_cons_of_mem _ List.mem_cons_self), key 0 16 inb_S288x2048_S16x2048_0_0 (by omega) (by omega)⟩

/-- A load of the row buffer. -/
def rd (c : Dev nD) (t : Fin cfg0.N) (a b : ℕ) (inb : ∀ i, (![a, b] : Fin 2 → ℕ) i + (![256, 512] : Fin 2 → ℕ) i ≤ S288x2048.size i) : Vec Ideal S256x512 .f32 :=
  (View.whole cc0_scratch0).readCov (stores m c t) (Rect.unit (s := S288x2048) ![a, b] ![256, 512] inb).toLoadRect

theorem rd_at (c : Dev nD) (t : Fin cfg0.N) (a b : ℕ) (inb) (r : Fin 256) (k : Fin 512) (q : Fin 2048) (h : q.val = b + k.val) :
    rd m c t a b inb (ix2 r k) = padded (fun s => arg0 m c (ix2 s q)) (256 * t.val + a + r.val) := by
  rw [rd, View.readCov_eq_canon']
  refine (canon_buf m c t _).trans ?_
  have e1 : (((Rect.unit (s := S288x2048) ![a, b] ![256, 512] inb).toLoadRect).idx (ix2 r k)) 1 = q := Fin.ext (by show b + 1 * k.val = q.val; omega)
  have e0 : ((((Rect.unit (s := S288x2048) ![a, b] ![256, 512] inb).toLoadRect).idx (ix2 r k)) 0).val = a + r.val := by show a + 1 * r.val = a + r.val; omega
  rw [buf, e1, e0, Nat.add_assoc]

/-! ## The four groups -/

/-- A step's row number, as a word. -/
def row (i : grid0.Coords) (r : Fin 256) : BitVec 32 := IntOp.addi (Scalar.muli (BitVec.ofNat 32 (i 0).val) 256#32) (BitVec.ofNat 32 r.val)

theorem row_eq (t : Fin cfg0.N) (r : Fin 256) : row (grid0.coords t) r = BitVec.ofNat 32 (256 * t.val + r.val) := by
  have ht := steps t
  have hr := r.isLt
  rw [row, coord]
  apply BitVec.eq_of_toNat_eq
  simp only [IntOp.addi, Scalar.muli, IntOp.muli, BitVec.toNat_add, BitVec.toNat_mul, BitVec.toNat_ofNat]
  omega

theorem grp0 (i : grid0.Coords) (a b v : Vec Ideal S256x512 .f32) (w : Vec Ideal S1x512x512 .bf16) (s : Vec Ideal S1x512 .f32) (r : Fin 256) (k : Fin 512) :
    k0_pay8 (k0_pay5 i) (k0_pay6 a b) (k0_pay7 i) (1#32) v w s (ix2 r k)
      = (∑ d, (Ideal.div (a (ix2 r d) + b (ix2 r d)) (cntW (row i r) 1#32) - v (ix2 r d)) * w (ix3 0 d k)) * s (ix2 0 k) := by
  pointwise [k0_pay8, k0_pay5, k0_pay6, k0_pay7]
  rfl

theorem grp1 (i : grid0.Coords) (a0 a1 a2 a3 v : Vec Ideal S256x512 .f32) (w : Vec Ideal S1x512x512 .bf16) (s : Vec Ideal S1x512 .f32) (r : Fin 256) (k : Fin 512) :
    k0_pay12 (k0_pay5 i) (k0_pay9 a0 a1 a2 a3) (k0_pay10 (k0_pay5 i)) k0_pay11 v w s (ix2 r k)
      = (∑ d, (Ideal.div (a0 (ix2 r d) + a1 (ix2 r d) + a2 (ix2 r d) + a3 (ix2 r d)) (cntW (row i r) 2#32) - v (ix2 r d)) * w (ix3 0 d k)) * s (ix2 0 k) := by
  pointwise [k0_pay12, k0_pay5, k0_pay9, k0_pay10, k0_pay11]
  rfl

theorem grp2 (i : grid0.Coords) (a0 a1 a2 a3 a4 a5 a6 a7 v : Vec Ideal S256x512 .f32) (w : Vec Ideal S1x512x512 .bf16) (s : Vec Ideal S1x512 .f32) (r : Fin 256) (k : Fin 512) :
    k0_pay14 (k0_pay5 i) (k0_pay13 a0 a1 a2 a3 a4 a5) a6 a7 v w s (ix2 r k)
      = (∑ d, (Ideal.div (a0 (ix2 r d) + a1 (ix2 r d) + a2 (ix2 r d) + a3 (ix2 r d) + a4 (ix2 r d) + a5 (ix2 r d) + a6 (ix2 r d) + a7 (ix2 r d)) (cntW (row i r) 4#32) - v (ix2 r d)) * w (ix3 0 d k)) * s (ix2 0 k) := by
  pointwise [k0_pay14, k0_pay5, k0_pay13]
  rfl

theorem grp3 (i : grid0.Coords) (a0 a1 a2 a3 a4 a5 a6 a7 b0 b1 b2 b3 b4 b5 b6 b7 v : Vec Ideal S256x512 .f32) (w : Vec Ideal S1x512x512 .bf16) (s : Vec Ideal S1x512 .f32) (r : Fin 256) (k : Fin 512) :
    k0_pay1 (k0_pay5 i) (k0_pay16 (k0_pay15 a0 a1) a2 a3 a4 a5 a6 a7 b0 b1 b2 b3 b4 b5 b6 b7) (k0_pay17 (k0_pay5 i)) v w s (ix2 r k)
      = (∑ d, (Ideal.div (a0 (ix2 r d) + a1 (ix2 r d) + a2 (ix2 r d) + a3 (ix2 r d) + a4 (ix2 r d) + a5 (ix2 r d) + a6 (ix2 r d) + a7 (ix2 r d)
          + b0 (ix2 r d) + b1 (ix2 r d) + b2 (ix2 r d) + b3 (ix2 r d) + b4 (ix2 r d) + b5 (ix2 r d) + b6 (ix2 r d) + b7 (ix2 r d)) (cntW (row i r) 8#32) - v (ix2 r d)) * w (ix3 0 d k)) * s (ix2 0 k) := by
  pointwise [k0_pay1, k0_pay5, k0_pay15, k0_pay16, k0_pay17]
  rfl

/-- What the reference has at a step's row, in the buffer's terms. -/
theorem want (x : FVec Ideal S8192x2048 .bf16) (w : FVec Ideal S1x4x512x512 .f32) (sc : FVec Ideal S1x2048 .f32) (t : Fin cfg0.N) (r : Fin 256) (g : Fin 4) (k : Fin 512)
    (T : Fin 8192) (hT : T.val = 256 * t.val + r.val) (cw : BitVec 32) (hc : cw = BitVec.ofNat 32 (half g)) (f : Fin 512 → EReal)
    (hf : ∀ d : Fin 512, f d = ∑ j ∈ Finset.range (2 * half g), padded (fun s => x (ix2 s ⟨g.val * 512 + d.val, by omega⟩)) (256 * t.val + (16 - half g + j) + r.val))
    (v : Fin 512 → EReal) (hv : ∀ d : Fin 512, v d = padded (fun s => x (ix2 s ⟨g.val * 512 + d.val, by omega⟩)) (256 * t.val + 16 + r.val))
    (u : Fin 512 → EReal) (hu : ∀ d, u d = w (ix4 0 g d k)) (z : EReal) (hz : z = sc (ix2 0 ⟨g.val * 512 + k.val, by omega⟩)) :
    (∑ d, (Ideal.div (f d) (cntW (row (grid0.coords t) r) cw) - v d) * u d) * z = Ref x w sc (ix2 T ⟨g.val * 512 + k.val, by omega⟩) := by
  have hh := Cert.Reference6Ideal.Pool.half_le g
  rw [Ref_at, hz]
  refine congrArg (· * _) (Finset.sum_congr rfl fun d _ => ?_)
  rw [Df_at, hf, hv, hu, hc, row_eq, windowed, hT, padded_in _ _ T (by omega)]
  refine congrArg (fun e => (Ideal.div e _ - _) * _) (Finset.sum_congr rfl fun j _ => congrArg _ ?_)
  omega

/-- A block's target. -/
def tgt (c : Dev nD) (t : Fin cfg0.N) : S256x2048.Idx → Elt Ideal .bf16 := fun y =>
  Ref (arg0 m c) (arg1 m c) (arg2 m c) (ix2 ⟨256 * t.val + (y 0).val, by have h1 := steps t; have h2 : (y 0).val < 256 := (y 0).isLt; omega⟩ (y 1))

theorem tgt_at (c : Dev nD) (t : Fin cfg0.N) (g : Fin 4) (o : ℕ) (ho : o = g.val * 512) (inb : ∀ a, (![0, o] : Fin 2 → ℕ) a + (![256, 512] : Fin 2 → ℕ) a ≤ S256x2048.size a) (r : Fin 256) (k : Fin 512) :
    tgt m c t ((Rect.unit (s := S256x2048) ![0, o] ![256, 512] inb).emb (ix2 r k))
      = Ref (arg0 m c) (arg1 m c) (arg2 m c) (ix2 ⟨256 * t.val + r.val, by have h1 := steps t; have h2 := r.isLt; omega⟩ ⟨g.val * 512 + k.val, by omega⟩) := by
  have e1 : ((Rect.unit (s := S256x2048) ![0, o] ![256, 512] inb).emb (ix2 r k)) 1 = (⟨g.val * 512 + k.val, by omega⟩ : Fin 2048) := Fin.ext (by show o + 1 * k.val = g.val * 512 + k.val; omega)
  have e0 : (⟨256 * t.val + (((Rect.unit (s := S256x2048) ![0, o] ![256, 512] inb).emb (ix2 r k)) 0).val, by have h1 := steps t; have h2 : (((Rect.unit (s := S256x2048) ![0, o] ![256, 512] inb).emb (ix2 r k)) 0).val < 256 := (((Rect.unit (s := S256x2048) ![0, o] ![256, 512] inb).emb (ix2 r k)) 0).isLt; omega⟩ : Fin 8192)
      = ⟨256 * t.val + r.val, by have h1 := steps t; have h2 := r.isLt; omega⟩ := Fin.ext (by show 256 * t.val + (0 + 1 * r.val) = 256 * t.val + r.val; omega)
  rw [tgt, e1]
  exact congrArg (fun e => Ref (arg0 m c) (arg1 m c) (arg2 m c) (ix2 e _)) e0

/-! ## The stores of the result -/

theorem piece0 (c : Dev nD) (t : Fin cfg0.N) (x : (Rect.unit (s := S256x2048) ![0, 0] ![256, 512] inb_S256x2048_S256x512_0_0).shape.Idx) :
    k0_pay8 (k0_pay5 (grid0.coords t)) (k0_pay6 (rd m c t 15 0 inb_S288x2048_S256x512_15_0) (rd m c t 16 0 inb_S288x2048_S256x512_16_0)) (k0_pay7 (grid0.coords t)) (1#32) (rd m c t 16 0 inb_S288x2048_S256x512_16_0)
      (View.ld (Val := Elt Ideal) (iblk m c 3 t : FVec Ideal S4x512x512 .bf16) (Rect.unit (s := S4x512x512) ![0, 0, 0] ![1, 512, 512] inb_S4x512x512_S1x512x512_0_0_0))
      (View.ld (Val := Elt Ideal) (iblk m c 4 t : FVec Ideal S1x2048 .f32) (Rect.unit (s := S1x2048) ![0, 0] ![1, 512] inb_S1x2048_S1x512_0_0)) x
      = tgt m c t ((Rect.unit (s := S256x2048) ![0, 0] ![256, 512] inb_S256x2048_S256x512_0_0).emb x) := by
  obtain ⟨r, k, rfl⟩ : ∃ (r : Fin 256) (k : Fin 512), x = ix2 r k := ⟨x 0, x 1, by funext a; fin_cases a <;> rfl⟩
  refine Eq.trans ?_ (tgt_at m c t 0 0 rfl inb_S256x2048_S256x512_0_0 r k).symm
  refine (grp0 _ _ _ _ _ _ r k).trans (want _ _ _ t r 0 k _ rfl _ rfl (fun d => _) ?_ (fun d => _) ?_ (fun d => _) ?_ _ ?_)
  · intro d
    rw [rd_at m c t 15 0 _ r d ⟨(0 : Fin 4).val * 512 + d.val, by have := d.isLt; show 0 * 512 + d.val < 2048; omega⟩ (by show 0 * 512 + d.val = 0 + d.val; omega), rd_at m c t 16 0 _ r d ⟨(0 : Fin 4).val * 512 + d.val, by have := d.isLt; show 0 * 512 + d.val < 2048; omega⟩ (by show 0 * 512 + d.val = 0 + d.val; omega)]
    show _ = ∑ j ∈ Finset.range 2, padded _ (256 * t.val + (16 - 1 + j) + r.val)
    simp only [Finset.sum_range_succ, Finset.sum_range_zero, zero_add]
  · intro d
    exact rd_at m c t 16 0 _ r d _ (by show 0 * 512 + d.val = 0 + d.val; omega)
  · intro d
    exact blk_3 m c t 0 d k 0 rfl _
  · exact blk_4 m c t k _ 0 (by show 0 * 512 + k.val = 0 + k.val; omega) _

theorem piece1 (c : Dev nD) (t : Fin cfg0.N) (x : (Rect.unit (s := S256x2048) ![0, 512] ![256, 512] inb_S256x2048_S256x512_0_512).shape.Idx) :
    k0_pay12 (k0_pay5 (grid0.coords t)) (k0_pay9 (rd m c t 14 512 inb_S288x2048_S256x512_14_512) (rd m c t 15 512 inb_S288x2048_S256x512_15_512) (rd m c t 16 512 inb_S288x2048_S256x512_16_512) (rd m c t 17 512 inb_S288x2048_S256x512_17_512)) (k0_pay10 (k0_pay5 (grid0.coords t))) k0_pay11 (rd m c t 16 512 inb_S288x2048_S256x512_16_512)
      (View.ld (Val := Elt Ideal) (iblk m c 3 t : FVec Ideal S4x512x512 .bf16) (Rect.unit (s := S4x512x512) ![1, 0, 0] ![1, 512, 512] inb_S4x512x512_S1x512x512_1_0_0))
      (View.ld (Val := Elt Ideal) (iblk m c 4 t : FVec Ideal S1x2048 .f32) (Rect.unit (s := S1x2048) ![0, 512] ![1, 512] inb_S1x2048_S1x512_0_512)) x
      = tgt m c t ((Rect.unit (s := S256x2048) ![0, 512] ![256, 512] inb_S256x2048_S256x512_0_512).emb x) := by
  obtain ⟨r, k, rfl⟩ : ∃ (r : Fin 256) (k : Fin 512), x = ix2 r k := ⟨x 0, x 1, by funext a; fin_cases a <;> rfl⟩
  refine Eq.trans ?_ (tgt_at m c t 1 512 rfl inb_S256x2048_S256x512_0_512 r k).symm
  refine (grp1 _ _ _ _ _ _ _ _ r k).trans (want _ _ _ t r 1 k _ rfl _ rfl (fun d => _) ?_ (fun d => _) ?_ (fun d => _) ?_ _ ?_)
  · intro d
    rw [rd_at m c t 14 512 _ r d ⟨(1 : Fin 4).val * 512 + d.val, by have := d.isLt; show 1 * 512 + d.val < 2048; omega⟩ (by show 1 * 512 + d.val = 512 + d.val; omega), rd_at m c t 15 512 _ r d ⟨(1 : Fin 4).val * 512 + d.val, by have := d.isLt; show 1 * 512 + d.val < 2048; omega⟩ (by show 1 * 512 + d.val = 512 + d.val; omega), rd_at m c t 16 512 _ r d ⟨(1 : Fin 4).val * 512 + d.val, by have := d.isLt; show 1 * 512 + d.val < 2048; omega⟩ (by show 1 * 512 + d.val = 512 + d.val; omega), rd_at m c t 17 512 _ r d ⟨(1 : Fin 4).val * 512 + d.val, by have := d.isLt; show 1 * 512 + d.val < 2048; omega⟩ (by show 1 * 512 + d.val = 512 + d.val; omega)]
    show _ = ∑ j ∈ Finset.range 4, padded _ (256 * t.val + (16 - 2 + j) + r.val)
    simp only [Finset.sum_range_succ, Finset.sum_range_zero, zero_add]
  · intro d
    exact rd_at m c t 16 512 _ r d _ (by show 1 * 512 + d.val = 512 + d.val; omega)
  · intro d
    exact blk_3 m c t 1 d k 1 rfl _
  · exact blk_4 m c t k _ 512 (by show 1 * 512 + k.val = 512 + k.val; omega) _

theorem piece2 (c : Dev nD) (t : Fin cfg0.N) (x : (Rect.unit (s := S256x2048) ![0, 1024] ![256, 512] inb_S256x2048_S256x512_0_1024).shape.Idx) :
    k0_pay14 (k0_pay5 (grid0.coords t)) (k0_pay13 (rd m c t 12 1024 inb_S288x2048_S256x512_12_1024) (rd m c t 13 1024 inb_S288x2048_S256x512_13_1024) (rd m c t 14 1024 inb_S288x2048_S256x512_14_1024) (rd m c t 15 1024 inb_S288x2048_S256x512_15_1024) (rd m c t 16 1024 inb_S288x2048_S256x512_16_1024) (rd m c t 17 1024 inb_S288x2048_S256x512_17_1024)) (rd m c t 18 1024 inb_S288x2048_S256x512_18_1024) (rd m c t 19 1024 inb_S288x2048_S256x512_19_1024) (rd m c t 16 1024 inb_S288x2048_S256x512_16_1024)
      (View.ld (Val := Elt Ideal) (iblk m c 3 t : FVec Ideal S4x512x512 .bf16) (Rect.unit (s := S4x512x512) ![2, 0, 0] ![1, 512, 512] inb_S4x512x512_S1x512x512_2_0_0))
      (View.ld (Val := Elt Ideal) (iblk m c 4 t : FVec Ideal S1x2048 .f32) (Rect.unit (s := S1x2048) ![0, 1024] ![1, 512] inb_S1x2048_S1x512_0_1024)) x
      = tgt m c t ((Rect.unit (s := S256x2048) ![0, 1024] ![256, 512] inb_S256x2048_S256x512_0_1024).emb x) := by
  obtain ⟨r, k, rfl⟩ : ∃ (r : Fin 256) (k : Fin 512), x = ix2 r k := ⟨x 0, x 1, by funext a; fin_cases a <;> rfl⟩
  refine Eq.trans ?_ (tgt_at m c t 2 1024 rfl inb_S256x2048_S256x512_0_1024 r k).symm
  refine (grp2 _ _ _ _ _ _ _ _ _ _ _ _ r k).trans (want _ _ _ t r 2 k _ rfl _ rfl (fun d => _) ?_ (fun d => _) ?_ (fun d => _) ?_ _ ?_)
  · intro d
    rw [rd_at m c t 12 1024 _ r d ⟨(2 : Fin 4).val * 512 + d.val, by have := d.isLt; show 2 * 512 + d.val < 2048; omega⟩ (by show 2 * 512 + d.val = 1024 + d.val; omega), rd_at m c t 13 1024 _ r d ⟨(2 : Fin 4).val * 512 + d.val, by have := d.isLt; show 2 * 512 + d.val < 2048; omega⟩ (by show 2 * 512 + d.val = 1024 + d.val; omega), rd_at m c t 14 1024 _ r d ⟨(2 : Fin 4).val * 512 + d.val, by have := d.isLt; show 2 * 512 + d.val < 2048; omega⟩ (by show 2 * 512 + d.val = 1024 + d.val; omega), rd_at m c t 15 1024 _ r d ⟨(2 : Fin 4).val * 512 + d.val, by have := d.isLt; show 2 * 512 + d.val < 2048; omega⟩ (by show 2 * 512 + d.val = 1024 + d.val; omega), rd_at m c t 16 1024 _ r d ⟨(2 : Fin 4).val * 512 + d.val, by have := d.isLt; show 2 * 512 + d.val < 2048; omega⟩ (by show 2 * 512 + d.val = 1024 + d.val; omega), rd_at m c t 17 1024 _ r d ⟨(2 : Fin 4).val * 512 + d.val, by have := d.isLt; show 2 * 512 + d.val < 2048; omega⟩ (by show 2 * 512 + d.val = 1024 + d.val; omega), rd_at m c t 18 1024 _ r d ⟨(2 : Fin 4).val * 512 + d.val, by have := d.isLt; show 2 * 512 + d.val < 2048; omega⟩ (by show 2 * 512 + d.val = 1024 + d.val; omega), rd_at m c t 19 1024 _ r d ⟨(2 : Fin 4).val * 512 + d.val, by have := d.isLt; show 2 * 512 + d.val < 2048; omega⟩ (by show 2 * 512 + d.val = 1024 + d.val; omega)]
    show _ = ∑ j ∈ Finset.range 8, padded _ (256 * t.val + (16 - 4 + j) + r.val)
    simp only [Finset.sum_range_succ, Finset.sum_range_zero, zero_add]
  · intro d
    exact rd_at m c t 16 1024 _ r d _ (by show 2 * 512 + d.val = 1024 + d.val; omega)
  · intro d
    exact blk_3 m c t 2 d k 2 rfl _
  · exact blk_4 m c t k _ 1024 (by show 2 * 512 + k.val = 1024 + k.val; omega) _

theorem piece3 (c : Dev nD) (t : Fin cfg0.N) (x : (Rect.unit (s := S256x2048) ![0, 1536] ![256, 512] inb_S256x2048_S256x512_0_1536).shape.Idx) :
    k0_pay1 (k0_pay5 (grid0.coords t)) (k0_pay16 (k0_pay15 (rd m c t 8 1536 inb_S288x2048_S256x512_8_1536) (rd m c t 9 1536 inb_S288x2048_S256x512_9_1536)) (rd m c t 10 1536 inb_S288x2048_S256x512_10_1536) (rd m c t 11 1536 inb_S288x2048_S256x512_11_1536) (rd m c t 12 1536 inb_S288x2048_S256x512_12_1536) (rd m c t 13 1536 inb_S288x2048_S256x512_13_1536) (rd m c t 14 1536 inb_S288x2048_S256x512_14_1536) (rd m c t 15 1536 inb_S288x2048_S256x512_15_1536) (rd m c t 16 1536 inb_S288x2048_S256x512_16_1536) (rd m c t 17 1536 inb_S288x2048_S256x512_17_1536) (rd m c t 18 1536 inb_S288x2048_S256x512_18_1536) (rd m c t 19 1536 inb_S288x2048_S256x512_19_1536) (rd m c t 20 1536 inb_S288x2048_S256x512_20_1536) (rd m c t 21 1536 inb_S288x2048_S256x512_21_1536) (rd m c t 22 1536 inb_S288x2048_S256x512_22_1536) (rd m c t 23 1536 inb_S288x2048_S256x512_23_1536)) (k0_pay17 (k0_pay5 (grid0.coords t))) (rd m c t 16 1536 inb_S288x2048_S256x512_16_1536)
      (View.ld (Val := Elt Ideal) (iblk m c 3 t : FVec Ideal S4x512x512 .bf16) (Rect.unit (s := S4x512x512) ![3, 0, 0] ![1, 512, 512] inb_S4x512x512_S1x512x512_3_0_0))
      (View.ld (Val := Elt Ideal) (iblk m c 4 t : FVec Ideal S1x2048 .f32) (Rect.unit (s := S1x2048) ![0, 1536] ![1, 512] inb_S1x2048_S1x512_0_1536)) x
      = tgt m c t ((Rect.unit (s := S256x2048) ![0, 1536] ![256, 512] inb_S256x2048_S256x512_0_1536).emb x) := by
  obtain ⟨r, k, rfl⟩ : ∃ (r : Fin 256) (k : Fin 512), x = ix2 r k := ⟨x 0, x 1, by funext a; fin_cases a <;> rfl⟩
  refine Eq.trans ?_ (tgt_at m c t 3 1536 rfl inb_S256x2048_S256x512_0_1536 r k).symm
  refine (grp3 _ _ _ _ _ _ _ _ _ _ _ _ _ _ _ _ _ _ _ _ r k).trans (want _ _ _ t r 3 k _ rfl _ rfl (fun d => _) ?_ (fun d => _) ?_ (fun d => _) ?_ _ ?_)
  · intro d
    rw [rd_at m c t 8 1536 _ r d ⟨(3 : Fin 4).val * 512 + d.val, by have := d.isLt; show 3 * 512 + d.val < 2048; omega⟩ (by show 3 * 512 + d.val = 1536 + d.val; omega), rd_at m c t 9 1536 _ r d ⟨(3 : Fin 4).val * 512 + d.val, by have := d.isLt; show 3 * 512 + d.val < 2048; omega⟩ (by show 3 * 512 + d.val = 1536 + d.val; omega), rd_at m c t 10 1536 _ r d ⟨(3 : Fin 4).val * 512 + d.val, by have := d.isLt; show 3 * 512 + d.val < 2048; omega⟩ (by show 3 * 512 + d.val = 1536 + d.val; omega), rd_at m c t 11 1536 _ r d ⟨(3 : Fin 4).val * 512 + d.val, by have := d.isLt; show 3 * 512 + d.val < 2048; omega⟩ (by show 3 * 512 + d.val = 1536 + d.val; omega), rd_at m c t 12 1536 _ r d ⟨(3 : Fin 4).val * 512 + d.val, by have := d.isLt; show 3 * 512 + d.val < 2048; omega⟩ (by show 3 * 512 + d.val = 1536 + d.val; omega), rd_at m c t 13 1536 _ r d ⟨(3 : Fin 4).val * 512 + d.val, by have := d.isLt; show 3 * 512 + d.val < 2048; omega⟩ (by show 3 * 512 + d.val = 1536 + d.val; omega), rd_at m c t 14 1536 _ r d ⟨(3 : Fin 4).val * 512 + d.val, by have := d.isLt; show 3 * 512 + d.val < 2048; omega⟩ (by show 3 * 512 + d.val = 1536 + d.val; omega), rd_at m c t 15 1536 _ r d ⟨(3 : Fin 4).val * 512 + d.val, by have := d.isLt; show 3 * 512 + d.val < 2048; omega⟩ (by show 3 * 512 + d.val = 1536 + d.val; omega), rd_at m c t 16 1536 _ r d ⟨(3 : Fin 4).val * 512 + d.val, by have := d.isLt; show 3 * 512 + d.val < 2048; omega⟩ (by show 3 * 512 + d.val = 1536 + d.val; omega), rd_at m c t 17 1536 _ r d ⟨(3 : Fin 4).val * 512 + d.val, by have := d.isLt; show 3 * 512 + d.val < 2048; omega⟩ (by show 3 * 512 + d.val = 1536 + d.val; omega), rd_at m c t 18 1536 _ r d ⟨(3 : Fin 4).val * 512 + d.val, by have := d.isLt; show 3 * 512 + d.val < 2048; omega⟩ (by show 3 * 512 + d.val = 1536 + d.val; omega), rd_at m c t 19 1536 _ r d ⟨(3 : Fin 4).val * 512 + d.val, by have := d.isLt; show 3 * 512 + d.val < 2048; omega⟩ (by show 3 * 512 + d.val = 1536 + d.val; omega), rd_at m c t 20 1536 _ r d ⟨(3 : Fin 4).val * 512 + d.val, by have := d.isLt; show 3 * 512 + d.val < 2048; omega⟩ (by show 3 * 512 + d.val = 1536 + d.val; omega), rd_at m c t 21 1536 _ r d ⟨(3 : Fin 4).val * 512 + d.val, by have := d.isLt; show 3 * 512 + d.val < 2048; omega⟩ (by show 3 * 512 + d.val = 1536 + d.val; omega), rd_at m c t 22 1536 _ r d ⟨(3 : Fin 4).val * 512 + d.val, by have := d.isLt; show 3 * 512 + d.val < 2048; omega⟩ (by show 3 * 512 + d.val = 1536 + d.val; omega), rd_at m c t 23 1536 _ r d ⟨(3 : Fin 4).val * 512 + d.val, by have := d.isLt; show 3 * 512 + d.val < 2048; omega⟩ (by show 3 * 512 + d.val = 1536 + d.val; omega)]
    show _ = ∑ j ∈ Finset.range 16, padded _ (256 * t.val + (16 - 8 + j) + r.val)
    simp only [Finset.sum_range_succ, Finset.sum_range_zero, zero_add]
  · intro d
    exact rd_at m c t 16 1536 _ r d _ (by show 3 * 512 + d.val = 1536 + d.val; omega)
  · intro d
    exact blk_3 m c t 3 d k 3 rfl _
  · exact blk_4 m c t k _ 1536 (by show 3 * 512 + k.val = 1536 + k.val; omega) _

/-- What a step leaves in its block. -/
theorem outs (c : Dev nD) (t : Fin cfg0.N) (y : S256x2048.Idx) : outsAt0 m c t y = tgt m c t y := by
  unfold outsAt0
  frame_out
  have h0 : (y 0).val < 256 := (y 0).isLt
  have h1 : (y 1).val < 2048 := (y 1).isLt
  have key : ∀ (o : ℕ) (inb : ∀ a, (![0, o] : Fin 2 → ℕ) a + (![256, 512] : Fin 2 → ℕ) a ≤ S256x2048.size a), o ≤ (y 1).val → (y 1).val < o + 512 → y ∈ (Rect.unit (s := S256x2048) ![0, o] ![256, 512] inb).set := by
    intro o inb ha hb
    rw [Rect.mem_set_unit]
    intro a; fin_cases a
    · exact ⟨Nat.zero_le _, by show (y 0).val < 0 + 256; omega⟩
    · exact ⟨ha, hb⟩
  refine View.canon_apply_of_pieces (Val := Elt Ideal) (tgt m c t) _ ?_ y ?_
  · intro p hp
    simp only [List.mem_cons, List.not_mem_nil, _root_.or_false] at hp
    rcases hp with rfl | rfl | rfl | rfl
    · exact piece3 m c t
    · exact piece2 m c t
    · exact piece1 m c t
    · exact piece0 m c t
  · by_cases c3 : 1536 ≤ (y 1).val
    · exact ⟨_, List.mem_cons_self, key 1536 inb_S256x2048_S256x512_0_1536 c3 (by omega)⟩
    by_cases c2 : 1024 ≤ (y 1).val
    · exact ⟨_, List.mem_cons_of_mem _ List.mem_cons_self, key 1024 inb_S256x2048_S256x512_0_1024 c2 (by omega)⟩
    by_cases c1 : 512 ≤ (y 1).val
    · exact ⟨_, List.mem_cons_of_mem _ (List.mem_cons_of_mem _ List.mem_cons_self), key 512 inb_S256x2048_S256x512_0_512 c1 (by omega)⟩
    exact ⟨_, List.mem_cons_of_mem _ (List.mem_cons_of_mem _ (List.mem_cons_of_mem _ List.mem_cons_self)), key 0 inb_S256x2048_S256x512_0_0 (by omega) (by omega)⟩

/-- The result array after the run is the reference's term. -/
theorem final (c : Dev nD) : (dats m 0 c).arrAt 5 (cfgs 0).N = Ref (arg0 m c) (arg1 m c) (arg2 m c) := by
  refine (dats m 0 c).arrAt_eq_of_covers 5 _ (by decide +kernel) fun t _ y => ?_
  blk_simp
  rw [after0_5]
  refine (outs m c t y).trans (congrArg (Ref (arg0 m c) (arg1 m c) (arg2 m c)) ?_)
  funext a
  apply Fin.ext
  have h := Window.rect_emb_val (cfg0.win 5) t y a rfl
  rw [index_5] at h
  refine Eq.trans ?_ h.symm
  fin_cases a
  · show 256 * t.val + (y 0).val = t.val * 256 + (y 0).val
    omega
  · exact (Nat.zero_add _).symm

end Cert.Kernel6Ideal.Pool

end
-- ==== Proof.Out.Value.lean ====
/- The output projection with its gate and residual: the array the pipelined call leaves is the reference's term. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.OutVal

open Cert.Kernel2Ideal Cert.Kernel2Ideal.Gen

/-- The reference's result as a function of the five arguments. -/
def Ref (a : FVec Ideal S8192x2048 .bf16) (p : FVec Ideal S8192x2048 .bf16) (w : FVec Ideal S1x4096x4096 .f32)
    (x : FVec Ideal S1x8192x4096 .f32) (md : FVec Ideal S1x24576 .f32) : FVec Ideal S8192x4096 .f32 :=
  shapeCast _ (addf x (mulf (broadcastInDim Cert.Reference2Ideal.S1x8192x4096 ![0, 1, 2] Cert.Reference2Ideal.Gen.bcast_S1x1x4096_S1x8192x4096_0_1_2 (broadcastInDim Cert.Reference2Ideal.S1x1x4096 ![0, 2] Cert.Reference2Ideal.Gen.bcast_S1x4096_S1x1x4096_0_2 (extractStridedSlice Cert.Reference2Ideal.S1x4096 ![0, 8192] md Cert.Reference2Ideal.Gen.slices_S1x24576_S1x4096_0_8192))) (Host.dotGeneral Cert.Reference2Ideal.dot_S1x8192x4096_S4096x4096_S1x8192x4096_2_0_01_1_n_n none (broadcastInDim Cert.Reference2Ideal.S1x8192x4096 ![1, 2] Cert.Reference2Ideal.Gen.bcast_S8192x4096_S1x8192x4096_1_2 (concatenate Cert.Reference2Ideal.S8192x4096 1 [⟨Cert.Reference2Ideal.S8192x2048, (extf .f32 a Cert.Reference2Ideal.Gen.bitsLt_bf16_f32)⟩, ⟨Cert.Reference2Ideal.S8192x2048, (extf .f32 p Cert.Reference2Ideal.Gen.bitsLt_bf16_f32)⟩] Cert.Reference2Ideal.Gen.concatenates_S8192x2048_S8192x2048_S8192x4096_d1)) (shapeCast _ w Cert.Reference2Ideal.Gen.shapeCasts_S1x4096x4096_S4096x4096)))) Cert.Reference2Ideal.Gen.shapeCasts_S1x8192x4096_S8192x4096

variable (m : (ℓ : Loc nD τ sig) → Buf (Elt Ideal) ℓ)

/-- The block of every window at grid point `t = 8 i + j`. -/
theorem idx : ∀ t : Fin cfg0.N, win0_0.index t = ![t.val / 8, 0] ∧ win0_1.index t = ![t.val / 8, 0]
    ∧ win0_2.index t = ![0, t.val % 8] ∧ win0_3.index t = ![1, t.val % 8] ∧ win0_4.index t = ![t.val / 8, t.val % 8]
    ∧ win0_5.index t = ![0, 16 + t.val % 8] ∧ win0_6.index t = ![t.val / 8, t.val % 8] :=
  (by decide +kernel : ∀ t : Fin grid0.N, _)

set_option maxHeartbeats 1600000 in
/-- What the body stores at an index of its block is the reference's term at the index's place in the array. -/
theorem point (c : Dev nD) (t : Fin cfg0.N) (y) :
    k0_pay1 (iblk m c 0 t) (iblk m c 2 t) (iblk m c 1 t) (iblk m c 3 t) (iblk m c 4 t) (iblk m c 5 t) y
    = Ref (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  pointwise [k0_pay1, Ref]
  blk_point [iblk, V, idx t]

/-- The result array after the run is the reference's term. -/
theorem final (c : Dev nD) : (dats m 0 c).arrAt 6 (cfgs 0).N
    = Ref (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.Kernel2Ideal.OutVal

end
-- ==== Proof.FfnAux.lean ====
module

public import Idealize.ShloMosaic.Lib.Pipeline.FrameBody
public import Idealize.ShloMosaic.Lib.Pipeline.Value
public import Idealize.ShloMosaic.Lib.WholeRead
public import Idealize.ShloMosaic.Lib.WordCmp

@[expose] public section

noncomputable section

namespace Cert.FfnAux

open Idealize.ShloMosaic

variable {sig : RefSig} {Val : EltTy → Type} {κ : Kind} {sp : Space} {S : Shape} {e : EltTy}

/-- A load of a whole buffer that reads `X` is `X`. -/
theorem load_whole {m : Memref sig κ sp S e} (h : m.IsWhole) (X : S.Idx → Val e) {off : Fin S.rank → ℕ}
    (ho : off = fun _ => 0) (inb : ∀ a, off a + S.size a ≤ S.size a) :
    View.readAt Val m.view (Rect.unit off S.size inb).toLoadRect (h.unread X) = X :=
  (funext fun x => h.readAt_unread X _ x).trans (View.ld_unit_zero ho inb X)

/-- A store over a whole buffer leaves its payload. -/
theorem store_whole [∀ e, Nonempty (Val e)] (v : View sig κ sp S e) (f : v.ty.Contents Val) (w : S.Idx → Val e)
    {off : Fin S.rank → ℕ} (ho : off = fun _ => 0) (inb : ∀ a, off a + S.size a ≤ S.size a) :
    v.read Val (v.writes Val f [⟨Rect.unit off S.size inb, w⟩]) = w :=
  (View.read_writes_eq_canon v f _ fun y => ⟨_, List.mem_singleton_self _, View.mem_set_unit_zero ho inb y⟩).trans
    (View.canon_unit_zero ho inb w)

/-- A word below the half range is its value, signed. -/
theorem toInt_small {x : BitVec 32} (h : x.toNat ≤ 160) : x.toInt = (x.toNat : Int) :=
  BitVec.toInt_eq_toNat_of_lt (by omega)

/-- The guard of a block: its number is below the number of used blocks. -/
theorem guard_iff {i : ℕ} (hi : i < 160) {w : BitVec 32} (hw : w.toNat ≤ 160) :
    Scalar.cmpi .ne (Scalar.extui (Scalar.cmpi .slt (BitVec.ofNat 32 i) w)) 0#32 = 1#1 ↔ i < w.toNat := by
  have hn : (BitVec.ofNat 32 i).toNat = i := by rw [BitVec.toNat_ofNat]; omega
  have h1 : Scalar.cmpi .slt (BitVec.ofNat 32 i) w = BitVec.ofBool (decide (i < w.toNat)) := by
    show BitVec.ofBool (decide ((BitVec.ofNat 32 i).toInt < w.toInt)) = _
    rw [toInt_small hw, toInt_small (by omega), hn]
    congr 1; simp
  rw [h1]
  by_cases h : i < w.toNat <;> simp only [h, decide_true, decide_false] <;> decide

/-- The row block of a grid point: the block's number, or the last used block's. -/
theorem row_eq {i : ℕ} (hi : i < 160) {w : BitVec 32} (h1 : 1 ≤ w.toNat) (hw : w.toNat ≤ 160) :
    (Scalar.minsi (BitVec.ofNat 32 i) (Scalar.subi w 1#32)).toNat = min i (w.toNat - 1) := by
  have hn : (BitVec.ofNat 32 i).toNat = i := by rw [BitVec.toNat_ofNat]; omega
  have hs : (Scalar.subi w 1#32).toNat = w.toNat - 1 := by
    show (w - 1#32).toNat = _
    rw [BitVec.toNat_sub_of_le (by rw [BitVec.le_def]; exact h1)]; rfl
  show (if (BitVec.ofNat 32 i).slt (Scalar.subi w 1#32) then BitVec.ofNat 32 i else Scalar.subi w 1#32).toNat = _
  have hc : (BitVec.ofNat 32 i).slt (Scalar.subi w 1#32) = decide (i < w.toNat - 1) := by
    show decide ((BitVec.ofNat 32 i).toInt < (Scalar.subi w 1#32).toInt) = _
    rw [toInt_small (by omega), toInt_small (by omega), hn, hs]; simp
  rw [hc]
  by_cases h : i < w.toNat - 1
  · rw [if_pos (by simpa using h), hn]; omega
  · rw [if_neg (by simpa using h), hs]; omega

end Cert.FfnAux

end
-- ==== Proof.Ffn1.RunIdeal.lean ====
module

public import proofs.«01_k».proof.Proof.Gen.Kernel3Ideal.Launch
public import proofs.«01_k».proof.Proof.Gen.Kernel3Ideal.Skeleton
public import proofs.«01_k».proof.Proof.FfnAux
public import Idealize.ShloMosaic.Lib.Ring
public import Idealize.ShloMosaic.Lib.Tactic
public import Idealize.ShloMosaic.Lib.Claim

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a table's buffer on core `c`, and the buffer held at half the full share. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

/-- The table of each row block's expert, the table of the number of used blocks, and the latter's word as the body loads it. -/
abbrev beTab : Memref sig .tc .smem S160 .i32 := Memref.whole main_arg0
abbrev nuTab : Memref sig .tc .smem S1 .i32 := Memref.whole main_arg1
abbrev nuWord {c : Dev nD} (x : TabBuf (F := F) c nuTab) : BitVec 32 :=
  View.readAt (Elt F) nuTab.view (Rect.unit (s := S1) ![0] S1.size inb_S1_S1_0).toLoadRect x (Shape.Idx.first (numel1_S1.symm ▸ Nat.one_pos))

set_option maxHeartbeats 1000000 in
/-- A used block: the body stores its payload. -/
theorem run_live (c : Dev nD) (i : grid0.Coords) (arg4 : Memref sig .tc .vmem S256x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole)
    (x0 : Vec F S256x4096 .f32) (x1 : Vec F S1x4096x512 .bf16) (x2 : Vec F S1x4096x512 .bf16) (x3 : Vec F S1x1x512 .f32) (x4 : Vec F S1x1x512 .f32) (xt1 : TabBuf (F := F) c nuTab)
    (hc : k0_cond1 i (nuWord xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d)
        ∗ tabHalf c nuTab xt1
        ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay1 x0 x1 x3 x2 x4)
          ∗ tabHalf c nuTab xt1) -∗ K ⟨⟩))
      ⊢ wp frame (wpE (defs₀ (F := F)) Variants.none c none) E (cc0_ffn1 i (Memref.whole main_arg0) (Memref.isWhole_whole _) (Memref.whole main_arg1) (Memref.isWhole_whole _) arg4 harg4 arg5 harg5 arg6 harg6 arg7 harg7 arg8 harg8 arg9 harg9) K := by
  simp only [cc0_ffn1_eq_skeleton]; unfold cc0_ffn1_skel
  unfold owns
  have e0 : View.readAt (Elt F) arg4.view (Rect.unit (s := S256x4096) ![0, 0] S256x4096.size inb_S256x4096_S256x4096_0_0).toLoadRect (harg4.unread x0) = x0 :=
    FfnAux.load_whole harg4 x0 (by funext a; fin_cases a <;> rfl) _
  have e1 : View.readAt (Elt F) arg5.view (Rect.unit (s := S1x4096x512) ![0, 0, 0] S1x4096x512.size inb_S1x4096x512_S1x4096x512_0_0_0).toLoadRect (harg5.unread x1) = x1 :=
    FfnAux.load_whole harg5 x1 (by funext a; fin_cases a <;> rfl) _
  have e2 : View.readAt (Elt F) arg6.view (Rect.unit (s := S1x4096x512) ![0, 0, 0] S1x4096x512.size inb_S1x4096x512_S1x4096x512_0_0_0).toLoadRect (harg6.unread x2) = x2 :=
    FfnAux.load_whole harg6 x2 (by funext a; fin_cases a <;> rfl) _
  have e3 : View.readAt (Elt F) arg7.view (Rect.unit (s := S1x1x512) ![0, 0, 0] S1x1x512.size inb_S1x1x512_S1x1x512_0_0_0).toLoadRect (harg7.unread x3) = x3 :=
    FfnAux.load_whole harg7 x3 (by funext a; fin_cases a <;> rfl) _
  have e4 : View.readAt (Elt F) arg8.view (Rect.unit (s := S1x1x512) ![0, 0, 0] S1x1x512.size inb_S1x1x512_S1x1x512_0_0_0).toLoadRect (harg8.unread x4) = x4 :=
    FfnAux.load_whole harg8 x4 (by funext a; fin_cases a <;> rfl) _
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT1, Hk⟩
  obtain rfl := harg4.eq_unread hf0; obtain rfl := harg5.eq_unread hf1; obtain rfl := harg6.eq_unread hf2; obtain rfl := harg7.eq_unread hf3; obtain rfl := harg8.eq_unread hf4
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr; · ipureintro; exact harg7.read_unread _
    iexact H3
  isplitl [H4]
  · iexists _; isplitr; · ipureintro; exact harg8.read_unread _
    iexact H4
  isplitl [H5]
  · iexists _; isplitr
    swap; · iexact H5
    ipureintro

    exact FfnAux.store_whole arg9.view f5 _ (by funext a; fin_cases a <;> rfl) _
  iexact HT1

/-- A block past the used ones: the body does nothing. -/
theorem run_idle (c : Dev nD) (i : grid0.Coords) (arg4 : Memref sig .tc .vmem S256x4096 .f32) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S256x512 .bf16) (harg9 : arg9.IsWhole)
    (xt1 : TabBuf (F := F) c nuTab)
    (hc : ¬ k0_cond1 i (nuWord xt1) = 1#1) (E : Set ℕ) (K : PUnit → sProp 𝕄) :
    iprop(tabHalf c nuTab xt1 ∗ (tabHalf c nuTab xt1 -∗ K ⟨⟩))
      ⊢ wp frame (wpE (defs₀ (F := F)) Variants.none c none) E (cc0_ffn1 i (Memref.whole main_arg0) (Memref.isWhole_whole _) (Memref.whole main_arg1) (Memref.isWhole_whole _) arg4 harg4 arg5 harg5 arg6 harg6 arg7 harg7 arg8 harg8 arg9 harg9) K := by
  simp only [cc0_ffn1_eq_skeleton]; unfold cc0_ffn1_skel
  iintro ⟨HT1, Hk⟩
  sl_exec
  sl_step
  iapply Hk
  iexact HT1

end Cert.Kernel3Ideal.Ffn

end
-- ==== Proof.Ffn1.FrameIdeal.lean ====
module

public import proofs.«01_k».proof.Proof.Ffn1.RunIdeal
public import Idealize.ShloMosaic.Lib.Pipeline.TableIdle

@[expose] public section

set_option maxRecDepth 16384

noncomputable section

namespace Cert.Kernel3Ideal.Ffn

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The index maps at tables in range -/

/-- The number of used blocks, and the expert of a point's row block, as the index maps read them. -/
def nuOf (pf : pre0.Contents (Elt F)) : BitVec 32 := pf.at 1 (Rect.unit (s := S1) ![0] S1.size inb_S1_S1_0) numel1_S1
def beOf (pf : pre0.Contents (Elt F)) (i : grid0.Coords) : BitVec 32 :=
  pf.at 0 (Rect.unit (s := S160) (k0_off1 i) S1.size (k0_off1_inb i)) numel1_S1

/-- Tables a routing makes: between one and all blocks used, every expert's number below 32. -/
structure InRange (pf : pre0.Contents (Elt F)) : Prop where
  nu_pos : 1 ≤ (nuOf pf).toNat
  nu_le : (nuOf pf).toNat ≤ 160
  be_lt : ∀ i, (beOf pf i).toNat < 32

theorem InRange.row_lt {pf : pre0.Contents (Elt F)} (h : InRange pf) (i : ℕ) : min i ((nuOf pf).toNat - 1) < 160 := by
  have := h.nu_pos; have := h.nu_le; omega

theorem ofNat_val {j : ℕ} (h : j < 2) : (BitVec.ofNat 32 j).toNat = j := by rw [BitVec.toNat_ofNat]; omega
theorem two_add_val {j : ℕ} (h : j < 2) : (Scalar.addi 2#32 (BitVec.ofNat 32 j)).toNat = 2 + j := by
  show (2#32 + BitVec.ofNat 32 j).toNat = _
  rw [BitVec.toNat_add, ofNat_val h, show (2#32 : BitVec 32).toNat = 2 from rfl]; omega

theorem index_0 (pf : pre0.Contents (Elt F)) (h : InRange pf) (i : grid0.Coords) :
    cc0_transform_0 inb_S1_S1_0 numel1_S1 pf i = ![min (i 1).val ((nuOf pf).toNat - 1), 0] := by
  have hi : (i 1).val < 160 := (i 1).isLt
  have e1 : (Scalar.minsi (BitVec.ofNat 32 (i 1).val) (Scalar.subi (nuOf pf) 1#32)).toNat = min (i 1).val ((nuOf pf).toNat - 1) :=
    FfnAux.row_eq hi h.nu_pos h.nu_le
  show ![(Scalar.minsi (BitVec.ofNat 32 (i 1).val) (Scalar.subi (nuOf pf) 1#32)).toNat, (0#32 : BitVec 32).toNat] = _
  rw [e1]; rfl
theorem index_1 (pf : pre0.Contents (Elt F)) (i : grid0.Coords) :
    cc0_transform_1 k0_off1_inb numel1_S1 pf i = ![(beOf pf i).toNat, 0, (i 0).val] := by
  have h0 : (i 0).val < 2 := (i 0).isLt
  show ![(beOf pf i).toNat, (0#32 : BitVec 32).toNat, (BitVec.ofNat 32 (i 0).val).toNat] = _
  rw [ofNat_val h0]; rfl
theorem index_2 (pf : pre0.Contents (Elt F)) (i : grid0.Coords) :
    cc0_transform_2 k0_off1_inb numel1_S1 pf i = ![(beOf pf i).toNat, 0, 2 + (i 0).val] := by
  have h0 : (i 0).val < 2 := (i 0).isLt
  show ![(beOf pf i).toNat, (0#32 : BitVec 32).toNat, (Scalar.addi 2#32 (BitVec.ofNat 32 (i 0).val)).toNat] = _
  rw [two_add_val h0]; rfl
theorem index_3 (pf : pre0.Contents (Elt F)) (i : grid0.Coords) :
    cc0_transform_3 k0_off1_inb numel1_S1 pf i = ![(beOf pf i).toNat, 0, (i 0).val] := by
  have h0 : (i 0).val < 2 := (i 0).isLt
  show ![(beOf pf i).toNat, (0#32 : BitVec 32).toNat, (BitVec.ofNat 32 (i 0).val).toNat] = _
  rw [ofNat_val h0]; rfl
theorem index_4 (pf : pre0.Contents (Elt F)) (i : grid0.Coords) :
    cc0_transform_4 k0_off1_inb numel1_S1 pf i = ![(beOf pf i).toNat, 0, 2 + (i 0).val] := by
  have h0 : (i 0).val < 2 := (i 0).isLt
  show ![(beOf pf i).toNat, (0#32 : BitVec 32).toNat, (Scalar.addi 2#32 (BitVec.ofNat 32 (i 0).val)).toNat] = _
  rw [two_add_val h0]; rfl
theorem index_5 (pf : pre0.Contents (Elt F)) (h : InRange pf) (i : grid0.Coords) :
    cc0_transform_5 inb_S1_S1_0 numel1_S1 pf i = ![min (i 1).val ((nuOf pf).toNat - 1), (i 0).val] := by
  have hi : (i 1).val < 160 := (i 1).isLt
  have e1 : (Scalar.minsi (BitVec.ofNat 32 (i 1).val) (Scalar.subi (nuOf pf) 1#32)).toNat = min (i 1).val ((nuOf pf).toNat - 1) :=
    FfnAux.row_eq hi h.nu_pos h.nu_le
  show ![(Scalar.minsi (BitVec.ofNat 32 (i 1).val) (Scalar.subi (nuOf pf) 1#32)).toNat, (BitVec.ofNat 32 (i 0).val).toNat] = _
  rw [e1, ofNat_val (show (i 0).val < 2 from (i 0).isLt)]

theorem words_block {s : Shape} {size ix : Fin s.rank → ℕ} {h : ∀ a, (ix a + 1) * size a ≤ s.size a} (h2 : 2 ≤ s.rank)
    (hd : 2 ∣ size (s.rowAx h2)) : (Rect.block size ix h).WholeWords (EltTy.packing .bf16) :=
  .inl (.inr ⟨h2, rfl, .inl ⟨Dvd.dvd.mul_left hd _, hd⟩⟩)

theorem ok_of_inRange (pf : pre0.Contents (Elt F)) (h : InRange pf) : ok0 pf := by
  refine ⟨fun i => ?_, fun i => ?_, fun i => ?_, fun i => ?_, fun i => ?_, fun i => ?_⟩
  · refine ⟨fun a => ?_, .inl rfl⟩
    rw [index_0 pf h i]
    have h0 : (i 0).val < 2 := (i 0).isLt
    have hr := h.row_lt (i 1).val
    fin_cases a
    · show (min (i 1).val ((nuOf pf).toNat - 1) + 1) * 256 ≤ 40960; omega
    · show (0 + 1) * 4096 ≤ 4096; omega
  · refine ⟨fun a => ?_, .inr (words_block (by decide) (by decide))⟩
    rw [index_1 pf i]
    have h0 : (i 0).val < 2 := (i 0).isLt
    have hb := h.be_lt i
    fin_cases a
    · show ((beOf pf i).toNat + 1) * 1 ≤ 32; omega
    · show (0 + 1) * 4096 ≤ 4096; omega
    · show ((i 0).val + 1) * 512 ≤ 2048; omega
  · refine ⟨fun a => ?_, .inr (words_block (by decide) (by decide))⟩
    rw [index_2 pf i]
    have h0 : (i 0).val < 2 := (i 0).isLt
    have hb := h.be_lt i
    fin_cases a
    · show ((beOf pf i).toNat + 1) * 1 ≤ 32; omega
    · show (0 + 1) * 4096 ≤ 4096; omega
    · show (2 + (i 0).val + 1) * 512 ≤ 2048; omega
  · refine ⟨fun a => ?_, .inl rfl⟩
    rw [index_3 pf i]
    have h0 : (i 0).val < 2 := (i 0).isLt
    have hb := h.be_lt i
    fin_cases a
    · show ((beOf pf i).toNat + 1) * 1 ≤ 32; omega
    · show (0 + 1) * 1 ≤ 1; omega
    · show ((i 0).val + 1) * 512 ≤ 2048; omega
  · refine ⟨fun a => ?_, .inl rfl⟩
    rw [index_4 pf i]
    have h0 : (i 0).val < 2 := (i 0).isLt
    have hb := h.be_lt i
    fin_cases a
    · show ((beOf pf i).toNat + 1) * 1 ≤ 32; omega
    · show (0 + 1) * 1 ≤ 1; omega
    · show (2 + (i 0).val + 1) * 512 ≤ 2048; omega
  · refine ⟨fun a => ?_, .inr (words_block (by decide) (by decide))⟩
    rw [index_5 pf h i]
    have h0 : (i 0).val < 2 := (i 0).isLt
    have hr := h.row_lt (i 1).val
    fin_cases a
    · show (min (i 1).val ((nuOf pf).toNat - 1) + 1) * 256 ≤ 40960; omega
    · show ((i 0).val + 1) * 512 ≤ 1024; omega

theorem one_idx (x y : S1.Idx) : x = y := funext fun a => by
  fin_cases a; exact Subsingleton.elim (α := Fin 1) _ _

theorem atD_eq (pf : pre0.Contents (Elt F)) : (pf.atD 1 ![0] : BitVec 32) = nuOf pf :=
  (dif_pos (by intro a; fin_cases a; decide)).trans (congrArg (pf 1) (one_idx _ _))

/-- The output window is idle at a block past the used ones. -/
theorem idle_eq (pf : pre0.Contents (Elt F)) (h : InRange pf) (i : grid0.Coords) :
    idle0 pf 5 i = !decide ((i 1).val < (nuOf pf).toNat) := by
  have hi : (i 1).val < 160 := (i 1).isLt
  have e : (k0_cond1 i (nuOf pf) = 1#1) ↔ (i 1).val < (nuOf pf).toNat := FfnAux.guard_iff hi h.nu_le
  show (!(k0_cond1 i (pf.atD 1 ![0]) == 1#1)) = _
  rw [atD_eq]; congr 1
  by_cases hc : (i 1).val < (nuOf pf).toNat
  · rw [e.mpr hc]; simp [hc]
  · have hne : ¬ k0_cond1 i (nuOf pf) = 1#1 := fun hh => hc (e.mp hh)
    simp [hc, hne]

/-- The coordinates of the grid's points. -/
theorem coords_val : ∀ t : Fin grid0.N, (grid0.coords t 0).val = t.val / 160 ∧ (grid0.coords t 1).val = t.val % 160 := by
  decide +kernel

variable (m : (ℓ : Loc nD τ sig) → Buf (Elt F) ℓ) (ρ : Dev nD → PrngReg)

/-! ## The program up to its pallas_call -/

/-- A core's buffers after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- No host operation writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))

/-- The tables as the pallas_call finds them. -/
def tbl : pre0.Contents (Elt F) := fun j => V m (0 : Dev nD) (pre0.ref j)
theorem V_tbl (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabHalf c beTab (tbl m 0) ∗ tabHalf c nuTab (tbl m 1)) := by
  unfold Pipeline.ΦT Pipeline.prefHeld
  rw [show (Finset.univ : Finset (Fin 2)) = insert (0 : Fin 2) {(1 : Fin 2)} from by decide,
    bigSep_insert (by decide), bigSep_singleton]
  rfl

theorem nuWord_eq (c : Dev nD) : nuWord (F := F) (c := c) (tbl m 1) = nuOf (tbl m) :=
  congrArg (tbl m 1) (one_idx _ _)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev buf0 (hO : Ok m) (t : Fin (cfgM m hO).N) : Memref sig .tc .vmem S256x4096 .f32 := spec0_0.stage ((cfgM m hO).slots t 0)
abbrev buf1 (hO : Ok m) (t : Fin (cfgM m hO).N) : Memref sig .tc .vmem S1x4096x512 .bf16 := spec0_1.stage ((cfgM m hO).slots t 1)
abbrev buf2 (hO : Ok m) (t : Fin (cfgM m hO).N) : Memref sig .tc .vmem S1x4096x512 .bf16 := spec0_2.stage ((cfgM m hO).slots t 2)
abbrev buf3 (hO : Ok m) (t : Fin (cfgM m hO).N) : Memref sig .tc .vmem S1x1x512 .f32 := spec0_3.stage ((cfgM m hO).slots t 3)
abbrev buf4 (hO : Ok m) (t : Fin (cfgM m hO).N) : Memref sig .tc .vmem S1x1x512 .f32 := spec0_4.stage ((cfgM m hO).slots t 4)
abbrev buf5 (hO : Ok m) (t : Fin (cfgM m hO).N) : Memref sig .tc .vmem S256x512 .bf16 := spec0_5.stage ((cfgM m hO).slots t 5)

/-- The kernel body at a point, on the memrefs the pipeline hands it. -/
abbrev bodyAt (a : (pcfg0 (F := F)).Adm) (t : Fin (cfg0 a).N) : Prog (TpuEff nD τ sig (Elt F) Λ₀ .tc) PUnit :=
  cc0_ffn1 (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## What the output's staging buffer holds -/

/-- The last point at or before `t` whose block is used. -/
def src (hO : Ok m) (t : Fin (cfgM m hO).N) : Fin (cfgM m hO).N :=
  ⟨t.val - (t.val % 160 + 1 - (nuOf (tbl m)).toNat), lt_of_le_of_lt (Nat.sub_le _ _) t.isLt⟩

/-- The payload of a point. -/
def payAt (hO : Ok m) (c : Dev nD) (s : Fin (cfgM m hO).N) : Vec F S256x512 .bf16 :=
  k0_pay1 (iblk m hO c 0 s) (iblk m hO c 1 s) (iblk m hO c 3 s) (iblk m hO c 2 s) (iblk m hO c 4 s)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => payAt m hO c (src m hO t)
  Φ _ := iprop(Pipeline.ΦA spec0 c ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = payAt m hO c (src m hO t) := by dsimp only [dats]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem src_live (hO : Ok m) (t : Fin (cfgM m hO).N) (h : t.val % 160 < (nuOf (tbl m)).toNat) : src m hO t = t :=
  Fin.ext (by show t.val - (t.val % 160 + 1 - (nuOf (tbl m)).toNat) = t.val; omega)

theorem src_pred (hO : Ok m) (hR : InRange (tbl m)) (t u : Fin (cfgM m hO).N) (hu : u.val + 1 = t.val) (h : ¬ t.val % 160 < (nuOf (tbl m)).toNat) :
    src m hO t = src m hO u :=
  Fin.ext (by
    have := hR.nu_pos
    show t.val - (t.val % 160 + 1 - (nuOf (tbl m)).toNat) = u.val - (u.val % 160 + 1 - (nuOf (tbl m)).toNat)
    omega)

theorem idle_at (hO : Ok m) (hR : InRange (tbl m)) (t : Fin (cfgM m hO).N) :
    (cfgM m hO).idle (5 : Fin 6) ((cfgM m hO).grid.coords t) = !decide (t.val % 160 < (nuOf (tbl m)).toNat) := by
  have e1 : (cfgM m hO).idle (5 : Fin 6) ((cfgM m hO).grid.coords t) = idle0 (tbl m) 5 (grid0.coords t) := by
    with_reducible rfl
  have e2 : (!decide ((grid0.coords t 1).val < (nuOf (tbl m)).toNat)) = !decide (t.val % 160 < (nuOf (tbl m)).toNat) := by
    rw [(coords_val t).2]
  exact e1.trans ((idle_eq (tbl m) hR (grid0.coords t)).trans e2)

theorem index_at (hO : Ok m) (hR : InRange (tbl m)) (t : Fin (cfgM m hO).N) :
    ((cfgM m hO).win 5).index t = ![min (t.val % 160) ((nuOf (tbl m)).toNat - 1), t.val / 160] := by
  have e := index_5 (tbl m) hR (grid0.coords t)
  rw [(coords_val t).2, (coords_val t).1] at e
  exact e

/-- Before an idle point nothing is written back. -/
theorem flush_pred (hO : Ok m) (hR : InRange (tbl m)) (u : Fin (cfgM m hO).N) (hu : u.val + 1 < (cfgM m hO).N) (h : ¬ (u.val + 1) % 160 < (nuOf (tbl m)).toNat) :
    ((cfgM m hO).win 5).flush u = false := by
  unfold Window.flush
  have hi : ((cfgM m hO).win 5).index ⟨u.val + 1, hu⟩ = ((cfgM m hO).win 5).index u := by
    rw [index_at m hO hR, index_at m hO hR]
    have := hR.nu_pos
    have h1 : min ((u.val + 1) % 160) ((nuOf (tbl m)).toNat - 1) = min (u.val % 160) ((nuOf (tbl m)).toNat - 1) := by omega
    have h2 : (u.val + 1) / 160 = u.val / 160 := by omega
    show ![min ((u.val + 1) % 160) ((nuOf (tbl m)).toNat - 1), (u.val + 1) / 160] = _
    rw [h1, h2]
  have hN : ¬ u.val + 1 = (cfgM m hO).grid.N := Nat.ne_of_lt hu
  rw [Bool.and_eq_false_iff]; right
  rw [Bool.or_eq_false_iff]
  exact ⟨decide_eq_false hN, decide_eq_false fun ⟨_, hne⟩ => hne hi⟩

theorem not_fresh (hO : Ok m) (hR : InRange (tbl m)) : ∀ n, n < (cfgM m hO).N → ¬ n % 160 < (nuOf (tbl m)).toNat → (cfgM m hO).fresh 5 n = false
  | 0, _, h => absurd (show 0 % 160 < (nuOf (tbl m)).toNat from hR.nu_pos) h
  | n + 1, hn, h => by
    rw [Pipeline.Cfg.fresh_succ (cfgM m hO) 5 n (by omega), flush_pred m hO hR ⟨n, by omega⟩ hn h, Bool.false_or]
    by_cases hl : n % 160 < (nuOf (tbl m)).toNat
    · rw [idle_at m hO hR]; simp [hl]
    · rw [not_fresh hO hR n (by omega) hl, Bool.and_false]

/-- What an idle point finds is what it should leave. -/
theorem before_idle (hO : Ok m) (hR : InRange (tbl m)) (c : Dev nD) (t : Fin (cfgM m hO).N) (h : ¬ t.val % 160 < (nuOf (tbl m)).toNat) (d) :
    (dats m hO 0 c).before 5 t d = (dats m hO 0 c).after 5 t := by
  have ht : t.val ≠ 0 := fun h0 => h (by rw [h0]; exact hR.nu_pos)
  rw [(dats m hO 0 c).before_out_traj 5 rfl (fun _ _ => rfl)
    (fun t ht hi _ => by
      rw [idle_at m hO hR] at hi
      rw [after_5, after_5, src_pred m hO hR t ⟨t.val - 1, by omega⟩ (by show t.val - 1 + 1 = t.val; omega) (by simpa using hi)]) t.val t rfl d,
    not_fresh m hO hR t.val t.isLt h, after_5, after_5, src_pred m hO hR t ⟨t.val - 1, by omega⟩ (by show t.val - 1 + 1 = t.val; omega) h]
  rfl

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d))
    ∗ (∃ d, owns (c : Thread nD τ) (buf4 m hO t) fullShare ((dats m hO 0 c).before 4 t d))
    ∗ (∃ d, owns (c : Thread nD τ) (buf5 m hO t) fullShare ((dats m hO 0 c).before 5 t d)))

def bodyPost (hO : Ok m) (c : Dev nD) (t : Fin (cfgM m hO).N) (X : sProp 𝕄) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ owns (c : Thread nD τ) (buf3 m hO t) fullShare ((dats m hO 0 c).after 3 t)
    ∗ owns (c : Thread nD τ) (buf4 m hO t) fullShare ((dats m hO 0 c).after 4 t)
    ∗ X)

theorem cond_iff (hO : Ok m) (hR : InRange (tbl m)) (c : Dev nD) (t : Fin (cfgM m hO).N) :
    k0_cond1 (grid0.coords t) (nuWord (F := F) (c := c) (tbl m 1)) = 1#1 ↔ t.val % 160 < (nuOf (tbl m)).toNat := by
  rw [nuWord_eq, ← (coords_val t).2]
  exact FfnAux.guard_iff (show (grid0.coords t 1).val < 160 from (grid0.coords t 1).isLt) hR.nu_le

/-- A used block: the output's buffer ends at the payload. -/
theorem body_live (hO : Ok m) (hR : InRange (tbl m)) (c : Dev nD) (t : Fin (cfgM m hO).N) (h : t.val % 160 < (nuOf (tbl m)).toNat) :
    bodyPre m hO c t ⊢ wp frame (wpE (defs₀ (F := F)) Variants.none c none) Set.univ (bodyAt (adm m hO) t)
      (fun _ => bodyPost m hO c t (owns (c : Thread nD τ) (buf5 m hO t) fullShare ((dats m hO 0 c).after 5 t))) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4, after_5, src_live m hO t h]
  rw [show (dats m hO 0 c).Φ t.castSucc = iprop(Pipeline.ΦA spec0 c ∗ Pipeline.ΦT pre0 (tbl m) c) from rfl, tables_eq]
  unfold payAt
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (run_live c (grid0.coords t) _ _ _ _ _ _ _ _ _ _ _ _ (iblk m hO c 0 t) (iblk m hO c 1 t) (iblk m hO c 2 t) (iblk m hO c 3 t) (iblk m hO c 4 t) (tbl m 1) ((cond_iff m hO hR c t).mpr h) Set.univ _)
  isplitl [H0]; · iexact H0
  isplitl [H1]; · iexact H1
  isplitl [H2]; · iexact H2
  isplitl [H3]; · iexact H3
  isplitl [H4]; · iexact H4
  isplitl [H5]; · iexists _; iexact H5
  isplitl [HT1]; · iexact HT1
  iintro ⟨H0, H1, H2, H3, H4, H5, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- A block past the used ones: everything is as found. -/
theorem body_idle (hO : Ok m) (hR : InRange (tbl m)) (c : Dev nD) (t : Fin (cfgM m hO).N) (h : ¬ t.val % 160 < (nuOf (tbl m)).toNat) :
    bodyPre m hO c t ⊢ wp frame (wpE (defs₀ (F := F)) Variants.none c none) Set.univ (bodyAt (adm m hO) t)
      (fun _ => bodyPost m hO c t (iprop(∃ d, owns (c : Thread nD τ) (buf5 m hO t) fullShare ((dats m hO 0 c).before 5 t d)))) := by
  unfold bodyPre bodyPost bodyAt
  simp only [before_0, before_1, before_2, before_3, before_4]
  rw [show (dats m hO 0 c).Φ t.succ = (dats m hO 0 c).Φ t.castSucc from rfl,
    show (dats m hO 0 c).owesAt () t.succ = (dats m hO 0 c).owesAt () t.castSucc from rfl,
    after_0, after_1, after_2, after_3, after_4]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (run_idle c (grid0.coords t) _ _ _ _ _ _ _ _ _ _ _ _ (tbl m 1) (fun hc => h ((cond_iff m hO hR c t).mp hc)) Set.univ _)
  isplitl [HT1]; · iexact HT1
  iintro HT1
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexists _; iexact H5

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (hR : InRange (tbl m)) (c : Dev nD) : BodyObligation (dats (F := F) m hO 0 c) (defs₀ (F := F)) Variants.none () Set.univ := fun t => by
  rw [bigSep_W0, bigSep_W0, row_eq m hO]
  by_cases h : t.val % 160 < (nuOf (tbl m)).toNat
  · have hi : (cfgM m hO).idle (5 : Fin 6) ((cfgM m hO).grid.coords t) = false := (idle_at m hO hR t).trans (by simp [h])
    rw [hi]
    exact triple_restated (body_live m hO hR c t h) rfl .rfl fun _ => .rfl
  · have hi : (cfgM m hO).idle (5 : Fin 6) ((cfgM m hO).grid.coords t) = true := (idle_at m hO hR t).trans (by simp [h])
    rw [hi]
    cases hf : ((cfgM m hO).win (5 : Fin 6)).flush t with
    | false => exact triple_restated (body_idle m hO hR c t h) rfl .rfl fun _ => .rfl
    | true =>
      have e : (iprop(∃ d, owns (c : Thread nD τ) (buf5 m hO t) fullShare ((dats m hO 0 c).before 5 t d)) : sProp 𝕄)
          ⊢ owns (c : Thread nD τ) (buf5 m hO t) fullShare ((dats m hO 0 c).after 5 t) := by
        iintro ⟨%d, H⟩
        rw [before_idle m hO hR c t h d]
        iexact H
      exact triple_restated (body_idle m hO hR c t h) rfl .rfl fun _ => by
        unfold bodyPost
        exact sep_mono .rfl (sep_mono .rfl ((sep_mono .rfl (sep_mono .rfl (sep_mono .rfl (sep_mono .rfl (sep_mono .rfl e)))))))

/-! ## The run and the frame -/

set_option backward.isDefEq.respectTransparency.types false in
/-- Every run ends with the arrays at what the pipeline's data say and every counter at zero. -/
theorem run_all (hO : Ok m) (hR : InRange (tbl m)) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO hR c).loose) (hq := fun _ _ _ => rfl)
    (howed := fun _ _ => rfl) (V := V m) (hmain := hmain m Variants.none) (hA := A_eq m hO) (hpf := V_tbl m)
    (hΦ := fun _ _ => rfl)

/-- The frame: the arguments end as they began, every counter at zero. -/
theorem frame (hR : InRange (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have hO : Ok m := ok_of_inRange (tbl m) hR
  (θ_run defs _ _).mono (fun r ⟨h, hs⟩ => ⟨fun c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats m hO 0 c).arrAt_in 0 rfl _).trans ((A_eq m hO c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c)⟩, hs⟩) (run_all m ρ hO hR)

end Cert.Kernel3Ideal.Ffn

end
-- ==== Proof.FfnGather.lean ====
/- Rows of a table taken by a list of row numbers, read at an index; and the words of such a list in range. -/
module

public import Idealize.ShloMosaic.Lib.Pointwise
public import Idealize.ShloMosaic.Lib.ReduceAll
public import proofs.«01_k».proof.Proof.FfnAux

@[expose] public section

noncomputable section

namespace Cert.FfnGather

open Idealize.ShloMosaic

variable {α : Type}

/-- Whole matrices of a stack, one per entry of a list. -/
abbrev dims3 (N A B T : ℕ) (wf : GatherDims.WF ⟨3, ![N, A, B]⟩ ⟨2, ![T, 1]⟩ ⟨3, ![T, A, B]⟩ [1, 2] [0] [] [0] [] 1 ![1, A, B]) :
    GatherDims ⟨3, ![N, A, B]⟩ ⟨2, ![T, 1]⟩ ⟨3, ![T, A, B]⟩ where
  offsetDims := [1, 2]
  collapsedSliceDims := [0]
  operandBatchingDims := []
  startIndicesBatchingDims := []
  startIndexMap := [0]
  indexVectorDim := 1
  sliceSizes := ![1, A, B]
  wf := wf

/-- Whole rows of a matrix, one per entry of a list. -/
abbrev dims2 (N B T : ℕ) (wf : GatherDims.WF ⟨2, ![N, B]⟩ ⟨2, ![T, 1]⟩ ⟨2, ![T, B]⟩ [1] [0] [] [0] [] 1 ![1, B]) :
    GatherDims ⟨2, ![N, B]⟩ ⟨2, ![T, 1]⟩ ⟨2, ![T, B]⟩ where
  offsetDims := [1]
  collapsedSliceDims := [0]
  operandBatchingDims := []
  startIndicesBatchingDims := []
  startIndexMap := [0]
  indexVectorDim := 1
  sliceSizes := ![1, B]
  wf := wf

theorem gather3 {N A B T : ℕ} (wf) (x : (⟨3, ![N, A, B]⟩ : Shape).Idx → α) (idx : IVec ⟨2, ![T, 1]⟩ 32) (t : Fin T) (a : Fin A) (b : Fin B)
    (h : (idx (ix2 t 0)).toNat < N) (hN : N ≤ 1000) :
    Host.gather (dims3 N A B T wf) x idx (ix3 t a b) = x (ix3 ⟨(idx (ix2 t 0)).toNat, h⟩ a b) := by
  unfold Host.gather
  congr 1
  funext z
  refine Fin.ext ?_
  show (dims3 N A B T wf).start (ix3 t a b) idx z + (dims3 N A B T wf).batchCoord (ix3 t a b) z + (dims3 N A B T wf).offCoord (ix3 t a b) z = _
  rw [GatherDims.batchCoord_eq_zero _ _ _ List.not_mem_nil]
  match z with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 3) ∈ (dims3 N A B T wf).startIndexMap from List.mem_singleton.mpr rfl)]
    have hsi : (dims3 N A B T wf).siIdx (ix3 t a b) ⟨List.idxOf (⟨0, by decide⟩ : Fin 3) (dims3 N A B T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    show min (idx (ix2 t 0)).toInt.toNat (N - 1) = (idx (ix2 t 0)).toNat
    rw [BitVec.toInt_eq_toNat_of_lt (by omega)]
    omega
  | ⟨1, _⟩ => show 0 + 0 + _ = _; rw [Nat.zero_add]; rfl
  | ⟨2, _⟩ => show 0 + 0 + _ = _; rw [Nat.zero_add]; rfl

theorem gather2 {N B T : ℕ} (wf) (x : (⟨2, ![N, B]⟩ : Shape).Idx → α) (idx : IVec ⟨2, ![T, 1]⟩ 32) (t : Fin T) (b : Fin B)
    (h : (idx (ix2 t 0)).toNat < N) (hN : N ≤ 1000) :
    Host.gather (dims2 N B T wf) x idx (ix2 t b) = x (ix2 ⟨(idx (ix2 t 0)).toNat, h⟩ b) := by
  unfold Host.gather
  congr 1
  funext z
  refine Fin.ext ?_
  show (dims2 N B T wf).start (ix2 t b) idx z + (dims2 N B T wf).batchCoord (ix2 t b) z + (dims2 N B T wf).offCoord (ix2 t b) z = _
  rw [GatherDims.batchCoord_eq_zero _ _ _ List.not_mem_nil]
  match z with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (dims2 N B T wf).startIndexMap from List.mem_singleton.mpr rfl)]
    have hsi : (dims2 N B T wf).siIdx (ix2 t b) ⟨List.idxOf (⟨0, by decide⟩ : Fin 2) (dims2 N B T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    show min (idx (ix2 t 0)).toInt.toNat (N - 1) = (idx (ix2 t 0)).toNat
    rw [BitVec.toInt_eq_toNat_of_lt (by omega)]
    omega
  | ⟨1, _⟩ => show 0 + 0 + _ = _; rw [Nat.zero_add]; rfl

/-- The list a reference takes rows by: negative numbers count from the end. -/
abbrev wrapped (be : IVec ⟨1, ![160]⟩ 32) (h0 h1 : (⟨0, ![]⟩ : Shape).BroadcastsInDim ⟨1, ![160]⟩ (![] : Fin 0 → Fin 1))
    (hb : (⟨1, ![160]⟩ : Shape).BroadcastsInDim ⟨2, ![160, 1]⟩ ![0]) : IVec ⟨2, ![160, 1]⟩ 32 :=
  broadcastInDim ⟨2, ![160, 1]⟩ ![0] hb (select (cmpi .slt be (broadcastInDim ⟨1, ![160]⟩ ![] h0 (constantI ⟨0, ![]⟩ 32 0#32)))
    (addi be (broadcastInDim ⟨1, ![160]⟩ ![] h1 (constantI ⟨0, ![]⟩ 32 32#32))) be)

/-- A number in range is taken as it is. -/
theorem wrapped_at (be) (h0 h1 hb) (t : Fin 160) (h : (be (ix1 t)).toNat < 32) : wrapped be h0 h1 hb (ix2 t 0) = be (ix1 t) := by
  have e : IntOp.cmpi .slt (be (ix1 t)) 0#32 = 0#1 := by
    show BitVec.ofBool (decide ((be (ix1 t)).toInt < 0)) = _
    rw [BitVec.toInt_eq_toNat_of_lt (by omega)]
    rw [decide_eq_false (by omega)]; rfl
  unfold wrapped
  pointwise
  rw [e]
  rfl

/-! ## The words of a condition on the tables -/

theorem and_one : ∀ a b : BitVec 1, IntOp.andi a b = 1#1 → a = 1#1 ∧ b = 1#1 := by decide

theorem ofBool_one : ∀ b : Bool, BitVec.ofBool b = 1#1 → b = true := by decide

theorem lt_of_words {x : BitVec 32} {n : ℕ} (hn : n ≤ 1000) (h0 : IntOp.cmpi .sge x 0#32 = 1#1) (h1 : IntOp.cmpi .slt x (BitVec.ofNat 32 n) = 1#1) :
    x.toNat < n := by
  have h0 := ofBool_one _ h0
  have h1 := ofBool_one _ h1
  have a0 : (0 : Int) ≤ x.toInt := of_decide_eq_true h0
  have a1 : x.toInt < (BitVec.ofNat 32 n).toInt := of_decide_eq_true h1
  have e : (BitVec.ofNat 32 n).toNat = n := by rw [BitVec.toNat_ofNat]; omega
  rw [BitVec.toInt_eq_toNat_of_lt (x := BitVec.ofNat 32 n) (by omega), e] at a1
  have hc := BitVec.toInt_eq_toNat_cond x
  have := x.isLt
  split at hc <;> omega

theorem range_of_words {x : BitVec 32} (h0 : IntOp.cmpi .sge x 1#32 = 1#1) (h1 : IntOp.cmpi .sle x 160#32 = 1#1) :
    1 ≤ x.toNat ∧ x.toNat ≤ 160 := by
  have h0 := ofBool_one _ h0
  have h1 := ofBool_one _ h1
  have a0 : (1 : Int) ≤ x.toInt := of_decide_eq_true h0
  have a1 : x.toInt ≤ 160 := of_decide_eq_true h1
  have hc := BitVec.toInt_eq_toNat_cond x
  have := x.isLt
  split at hc <;> omega

/-- The mask of the rows in use: a row below 256 times the number of used blocks. -/
theorem row_of_word {r : ℕ} {x : BitVec 32} (hr : r < 40960) (hx : x.toNat ≤ 160)
    (h : IntOp.cmpi .slt (BitVec.ofNat 32 r) (IntOp.muli x 256#32) = 1#1) : r < x.toNat * 256 := by
  have h := ofBool_one _ h
  have a : (BitVec.ofNat 32 r).toInt < (x * 256#32).toInt := of_decide_eq_true h
  have e1 : (BitVec.ofNat 32 r).toNat = r := by rw [BitVec.toNat_ofNat]; omega
  have e2 : (x * 256#32).toNat = x.toNat * 256 := by
    rw [BitVec.toNat_mul, show (256#32 : BitVec 32).toNat = 256 from rfl, Nat.mod_eq_of_lt (by omega)]
  rw [BitVec.toInt_eq_toNat_of_lt (x := BitVec.ofNat 32 r) (by omega), BitVec.toInt_eq_toNat_of_lt (by omega), e1, e2] at a
  omega

/-- Every number of a list in range, from the condition's fold. -/
theorem all_lt (be : IVec ⟨1, ![160]⟩ 32) (B0 B1 : IVec ⟨1, ![160]⟩ 32) (h0 : ∀ i, B0 i = 0#32) (h1 : ∀ i, B1 i = 32#32)
    (hr : (⟨1, ![160]⟩ : Shape).ReducesTo [0] ⟨0, ![]⟩) (hu : 0 < (⟨0, ![]⟩ : Shape).numel) (j : (⟨0, ![]⟩ : Shape).Idx)
    (e : Host.reduce IntOp.andi (andi (cmpi .sge be B0) (cmpi .slt be B1)) (constantI ⟨0, ![]⟩ 1 1#1) hr hu j = 1#1) (i) : (be i).toNat < 32 := by
  haveI : Subsingleton (⟨0, ![]⟩ : Shape).Idx := ⟨fun a b => funext fun i => i.elim0⟩
  have h2 := Host.reduce_andi_all _ _ _ _ j e i
  obtain ⟨a, b⟩ := and_one _ _ h2
  have a' : IntOp.cmpi .sge (be i) (B0 i) = 1#1 := a
  have b' : IntOp.cmpi .slt (be i) (B1 i) = 1#1 := b
  rw [h0] at a'; rw [h1] at b'
  exact lt_of_words (n := 32) (by decide) a' b'

end Cert.FfnGather

end
-- ==== Proof.Ffn1.Pre.lean ====
/- The condition on the tables and the mask of the rows in use, read back. -/
module

public import proofs.«01_k».proof.Proof.Gen.Pre_tables3
public import proofs.«01_k».proof.Proof.Gen.On_used3
public import proofs.«01_k».proof.Proof.Ffn1.FrameIdeal
public import proofs.«01_k».proof.Proof.Ffn1.FrameBits
public import proofs.«01_k».proof.Proof.FfnGather

@[expose] public section

set_option maxRecDepth 16384

noncomputable section

open Idealize.ShloMosaic Idealize.ShloMosaic.TcCoe Idealize.SL.Sem

namespace Cert.Pre_tables3

variable {F : FTy → Type} [FloatOps F]

/-- The tables' words are in range. -/
theorem words_of_fn (a0 : IVec S160 32) (a1 : IVec S1 32) (a2 : FVec F S40960x4096 .f32) (a3 : FVec F S1x32x4096x2048 .f32) (a4 : FVec F S1x32x2048 .f32)
    (h : @fn Gen.facts F _ a0 a1 a2 a3 a4 = fun _ => 1#1) :
    (∀ i, (a0 i).toNat < 32) ∧ 1 ≤ (a1 (ix1 0)).toNat ∧ (a1 (ix1 0)).toNat ≤ 160 := by
  have hj := congrFun h (fun i => i.elim0)
  obtain ⟨hj, hle⟩ := FfnGather.and_one _ _ hj
  obtain ⟨hall, hge⟩ := FfnGather.and_one _ _ hj
  refine ⟨FfnGather.all_lt a0 _ _ (fun _ => rfl) (fun _ => rfl) _ _ _ hall, ?_⟩
  have e : shapeCast S_ a1 Gen.shapeCasts_S1_S_ (fun i => i.elim0) = a1 (ix1 0) := congrArg a1 (Cert.Kernel3Ideal.Ffn.one_idx _ _)
  have hge' : IntOp.cmpi .sge (shapeCast S_ a1 Gen.shapeCasts_S1_S_ (fun i => i.elim0)) 1#32 = 1#1 := hge
  have hle' : IntOp.cmpi .sle (shapeCast S_ a1 Gen.shapeCasts_S1_S_ (fun i => i.elim0)) 160#32 = 1#1 := hle
  rw [e] at hge' hle'
  exact FfnGather.range_of_words hge' hle'

end Cert.Pre_tables3

namespace Cert.On_used3

variable {F : FTy → Type} [FloatOps F]

/-- A row the mask selects is a row of a block in use. -/
theorem row_of_fn (a0 : IVec S160 32) (a1 : IVec S1 32) (a2 : FVec F S40960x4096 .f32) (a3 : FVec F S1x32x4096x2048 .f32) (a4 : FVec F S1x32x2048 .f32)
    (hnu : (a1 (ix1 0)).toNat ≤ 160) (r : Fin 40960) (f : Fin 1024)
    (h : @fn Gen.facts F _ a0 a1 a2 a3 a4 (ix2 r f) = 1#1) : r.val < (a1 (ix1 0)).toNat * 256 := by
  have e : ∀ j, shapeCast S_ a1 Gen.shapeCasts_S1_S_ j = a1 (ix1 0) := fun j => congrArg a1 (Cert.Kernel3Ideal.Ffn.one_idx _ _)
  have h' : IntOp.cmpi .slt (BitVec.ofNat 32 r.val) (IntOp.muli (shapeCast S_ a1 Gen.shapeCasts_S1_S_ (fun i => i.elim0)) 256#32) = 1#1 := by
    refine Eq.trans ?_ h
    show _ = IntOp.cmpi .slt (BitVec.ofNat 32 r.val) (IntOp.muli (shapeCast S_ a1 Gen.shapeCasts_S1_S_ _) 256#32)
    rw [e, e]
  rw [e] at h'
  exact FfnGather.row_of_word r.isLt hnu h'

end Cert.On_used3

namespace Cert.Kernel3Ideal.Ffn

open Cert.Kernel3Ideal Cert.Kernel3Ideal.Gen

variable {F : FTy → Type} [FloatOps F] (m : (ℓ : Loc nD τ sig) → Buf (Elt F) ℓ)

theorem nuOf_eq (c : Dev nD) : nuOf (tbl m) = m ((c : Thread nD τ).loc main_arg1) (ix1 0) := by
  rw [← V_arg1 m c]
  show (tbl m 1) _ = _
  rw [← V_tbl m c 1]
  exact congrArg (V m c main_arg1) (one_idx _ _)

theorem inRange (c : Dev nD) (h : @Cert.Pre_tables3.fn Cert.Pre_tables3.Gen.facts F _ (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : InRange (tbl m) := by
  obtain ⟨hb, h1, h2⟩ := Cert.Pre_tables3.words_of_fn _ _ _ _ _ h
  refine ⟨?_, ?_, fun i => ?_⟩
  · rw [nuOf_eq m c]; exact h1
  · rw [nuOf_eq m c]; exact h2
  · have e : ∀ x, (tbl m 0) x = m ((c : Thread nD τ).loc main_arg0) x := fun x => by
      rw [← V_tbl m c 0]; exact congrFun (V_arg0 m c) x
    show ((tbl m 0) _ : BitVec 32).toNat < 32
    rw [e]
    exact hb _

end Cert.Kernel3Ideal.Ffn

namespace Cert.Kernel3.Ffn

open Cert.Kernel3 Cert.Kernel3.Gen

variable {F : FTy → Type} [FloatOps F] (m : (ℓ : Loc nD τ sig) → Buf (Elt F) ℓ)

theorem nuOf_eq (c : Dev nD) : nuOf (tbl m) = m ((c : Thread nD τ).loc main_arg1) (ix1 0) := by
  rw [← V_arg1 m c]
  show (tbl m 1) _ = _
  rw [← V_tbl m c 1]
  exact congrArg (V m c main_arg1) (one_idx _ _)

theorem inRange (c : Dev nD) (h : @Cert.Pre_tables3.fn Cert.Pre_tables3.Gen.facts F _ (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : InRange (tbl m) := by
  obtain ⟨hb, h1, h2⟩ := Cert.Pre_tables3.words_of_fn _ _ _ _ _ h
  refine ⟨?_, ?_, fun i => ?_⟩
  · rw [nuOf_eq m c]; exact h1
  · rw [nuOf_eq m c]; exact h2
  · have e : ∀ x, (tbl m 0) x = m ((c : Thread nD τ).loc main_arg0) x := fun x => by
      rw [← V_tbl m c 0]; exact congrFun (V_arg0 m c) x
    show ((tbl m 0) _ : BitVec 32).toNat < 32
    rw [e]
    exact hb _

end Cert.Kernel3.Ffn

end
-- ==== Proof.Ffn1.Ref.lean ====
/- The experts' first product and its gate, read at an element: the reference's term and the body's payload. -/
module

public import proofs.«01_k».proof.Proof.Gen.Kernel3Ideal.Skeleton
public import proofs.«01_k».proof.Proof.Gen.Reference3Ideal.Run
public import proofs.«01_k».proof.Proof.FfnGather

@[expose] public section

set_option maxRecDepth 16384

noncomputable section

open Idealize.ShloMosaic Idealize.ShloMosaic.TcCoe Idealize.SL.Sem

namespace Cert.Reference3Ideal.Ffn

open Cert.Reference3Ideal Cert.Reference3Ideal.Gen

/-- The list the reference takes the experts' rows by. -/
def Rows (be : IVec S160 32) : IVec S160x1 32 :=
  FfnGather.wrapped be bcast_S_S160 bcast_S_S160 bcast_S160_S160x1_0

/-- Every row block's weights. -/
def Wts (be : IVec S160 32) (w : FVec Ideal S1x32x4096x2048 .f32) : FVec Ideal S160x4096x2048 .f32 :=
  Host.gather gather_S32x4096x2048_S160x1_S160x4096x2048_12_0_n_n_0_1_140962048 (shapeCast _ w shapeCasts_S1x32x4096x2048_S32x4096x2048) (Rows be)

/-- Every row block's bias. -/
def Bias (be : IVec S160 32) (b : FVec Ideal S1x32x2048 .f32) : FVec Ideal S160x2048 .f32 :=
  Host.gather gather_S32x2048_S160x1_S160x2048_1_0_n_n_0_1_12048 (shapeCast _ b shapeCasts_S1x32x2048_S32x2048) (Rows be)

/-- The product before the gate. -/
def Hid (x : FVec Ideal S40960x4096 .f32) (W : FVec Ideal S160x4096x2048 .f32) (B : FVec Ideal S160x2048 .f32) : FVec Ideal S160x256x2048 .f32 :=
  addf (Host.dotGeneral dot_S160x256x4096_S160x4096x2048_S160x256x2048_2_1_1_2_0_0 none (shapeCast _ x shapeCasts_S40960x4096_S160x256x4096) W)
    (broadcastInDim S160x256x2048 ![0, 1, 2] bcast_S160x1x2048_S160x256x2048_0_1_2 (broadcastInDim S160x1x2048 ![0, 2] bcast_S160x2048_S160x1x2048_0_2 B))

/-- The gated half, cut off at 7. -/
def Glu (H : FVec Ideal S160x256x2048 .f32) : FVec Ideal S160x256x1024 .f32 :=
  minimumf (extractStridedSlice S160x256x1024 ![0, 0, 0] H slices_S160x256x2048_S160x256x1024_0_0_0)
    (broadcastInDim S160x256x1024 ![] bcast_S_S160x256x1024 (constant S_ .f32 0x40E00000#32))

/-- The logistic of 1.702 times the gated half. -/
def Sig (A : FVec Ideal S160x256x1024 .f32) : FVec Ideal S160x256x1024 .f32 :=
  Host.divf (broadcastInDim S160x256x1024 ![] bcast_S_S160x256x1024 (constant S_ .f32 0x3F800000#32))
    (addf (broadcastInDim S160x256x1024 ![] bcast_S_S160x256x1024 (constant S_ .f32 0x3F800000#32))
      (Host.exp (Host.negf (mulf (broadcastInDim S160x256x1024 ![] bcast_S_S160x256x1024 (constant S_ .f32 0x3FD9DB23#32)) A))))

/-- The other half, cut off at -7 and 7. -/
def Lin (H : FVec Ideal S160x256x2048 .f32) : FVec Ideal S160x256x1024 .f32 :=
  minimumf (broadcastInDim S160x256x1024 ![] bcast_S_S160x256x1024 (id (constant S_ .f32 0x40E00000#32)))
    (maximumf (broadcastInDim S160x256x1024 ![] bcast_S_S160x256x1024 (id (constant S_ .f32 0xC0E00000#32)))
      (extractStridedSlice S160x256x1024 ![0, 0, 1024] H slices_S160x256x2048_S160x256x1024_0_0_1024))

/-- The gate: `min(g,7) * sigmoid(1.702 min(g,7)) * (clip(l,-7,7) + 1)`. -/
def gate (g l : Ideal .f32) : Ideal .f32 :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + 1)

/-- The result of the product before the gate. -/
def Out (H : FVec Ideal S160x256x2048 .f32) : FVec Ideal S40960x1024 .bf16 :=
  truncf .bf16 (shapeCast _ (mulf (mulf (Glu H) (Sig (Glu H)))
    (addf (Lin H) (broadcastInDim S160x256x1024 ![] bcast_S_S160x256x1024 (constant S_ .f32 0x3F800000#32)))) shapeCasts_S160x256x1024_S40960x1024) bitsLt_bf16_f32

/-- The reference's result as a function of its arguments. -/
def Res (be : IVec S160 32) (x : FVec Ideal S40960x4096 .f32) (w : FVec Ideal S1x32x4096x2048 .f32) (b : FVec Ideal S1x32x2048 .f32) :
    FVec Ideal S40960x1024 .bf16 := Out (Hid x (Wts be w) (Bias be b))

theorem wts_at (be : IVec S160 32) (w : FVec Ideal S1x32x4096x2048 .f32) (t : Fin 160) (k : Fin 4096) (f : Fin 2048)
    (h : (be (ix1 t)).toNat < 32) : Wts be w (ix3 t k f) = w (ix4 0 ⟨(be (ix1 t)).toNat, h⟩ k f) := by
  have hr : Rows be (ix2 t 0) = be (ix1 t) := FfnGather.wrapped_at be bcast_S_S160 bcast_S_S160 bcast_S160_S160x1_0 t h
  have e := FfnGather.gather3 gather_S32x4096x2048_S160x1_S160x4096x2048_12_0_n_n_0_1_140962048_wf
    (shapeCast S32x4096x2048 w shapeCasts_S1x32x4096x2048_S32x4096x2048) (Rows be) t k f (by rw [hr]; exact h) (by decide)
  refine (show Wts be w (ix3 t k f) = _ from e).trans ?_
  have h2 : (⟨(Rows be (ix2 t 0)).toNat, by rw [hr]; exact h⟩ : Fin 32) = ⟨(be (ix1 t)).toNat, h⟩ := Fin.ext (congrArg BitVec.toNat hr)
  rw [h2]
  pointwise

theorem bias_at (be : IVec S160 32) (b : FVec Ideal S1x32x2048 .f32) (t : Fin 160) (f : Fin 2048)
    (h : (be (ix1 t)).toNat < 32) : Bias be b (ix2 t f) = b (ix3 0 ⟨(be (ix1 t)).toNat, h⟩ f) := by
  have hr : Rows be (ix2 t 0) = be (ix1 t) := FfnGather.wrapped_at be bcast_S_S160 bcast_S_S160 bcast_S160_S160x1_0 t h
  have e := FfnGather.gather2 gather_S32x2048_S160x1_S160x2048_1_0_n_n_0_1_12048_wf
    (shapeCast S32x2048 b shapeCasts_S1x32x2048_S32x2048) (Rows be) t f (by rw [hr]; exact h) (by decide)
  refine (show Bias be b (ix2 t f) = _ from e).trans ?_
  have h2 : (⟨(Rows be (ix2 t 0)).toNat, by rw [hr]; exact h⟩ : Fin 32) = ⟨(be (ix1 t)).toNat, h⟩ := Fin.ext (congrArg BitVec.toNat hr)
  rw [h2]
  pointwise

/-- The product before the gate at row `256 t + p`. -/
theorem hid_at (x : FVec Ideal S40960x4096 .f32) (W : FVec Ideal S160x4096x2048 .f32) (B : FVec Ideal S160x2048 .f32)
    (t : Fin 160) (p : Fin 256) (f : Fin 2048) (r : Fin 40960) (hr : r.val = 256 * t.val + p.val) :
    Hid x W B (ix3 t p f) = (∑ k : Fin 4096, x (ix2 r k) * W (ix3 t k f)) + B (ix2 t f) := by
  pointwise [Hid]
  have e : (⟨t.val * 256 + p.val, by omega⟩ : Fin 40960) = r := Fin.ext (by show t.val * 256 + p.val = r.val; omega)
  exact Ideal.add_congr (Finset.sum_congr rfl fun k _ => Ideal.mul_congr (congrArg (fun r' => x (ix2 r' k)) e) rfl) rfl

/-- The result at row `256 t + p`. -/
theorem out_at (H : FVec Ideal S160x256x2048 .f32) (t : Fin 160) (p : Fin 256) (f : Fin 1024) (r : Fin 40960) (hr : r.val = 256 * t.val + p.val)
    (g l : Fin 2048) (hg : g.val = f.val) (hl : l.val = 1024 + f.val) :
    Out H (ix2 r f) = gate (H (ix3 t p g)) (H (ix3 t p l)) := by
  have h1 : r.val / 256 = t.val := by omega
  have h2 : r.val % 256 = p.val := by omega
  pointwise [Out, Glu, Sig, Lin]
  have h3 : (⟨r.val / 256, by omega⟩ : Fin 160) = t := Fin.ext h1
  have h4 : (⟨r.val % 256, by omega⟩ : Fin 256) = p := Fin.ext h2
  have h5 : (⟨f.val, by omega⟩ : Fin 2048) = g := Fin.ext hg.symm
  have h6 : (⟨1024 + f.val, by omega⟩ : Fin 2048) = l := Fin.ext hl.symm
  rw [h3, h4, h5, h6]
  rfl

theorem res_at (be : IVec S160 32) (x : FVec Ideal S40960x4096 .f32) (w : FVec Ideal S1x32x4096x2048 .f32) (b : FVec Ideal S1x32x2048 .f32)
    (t : Fin 160) (p : Fin 256) (f : Fin 1024) (r : Fin 40960) (hr : r.val = 256 * t.val + p.val)
    (g l : Fin 2048) (hg : g.val = f.val) (hl : l.val = 1024 + f.val) (h : (be (ix1 t)).toNat < 32) :
    Res be x w b (ix2 r f) = gate ((∑ k : Fin 4096, x (ix2 r k) * w (ix4 0 ⟨(be (ix1 t)).toNat, h⟩ k g)) + b (ix3 0 ⟨(be (ix1 t)).toNat, h⟩ g))
      ((∑ k : Fin 4096, x (ix2 r k) * w (ix4 0 ⟨(be (ix1 t)).toNat, h⟩ k l)) + b (ix3 0 ⟨(be (ix1 t)).toNat, h⟩ l)) := by
  unfold Res
  rw [out_at _ t p f r hr g l hg hl, hid_at x _ _ t p g r hr, hid_at x _ _ t p l r hr, bias_at be b t g h, bias_at be b t l h]
  simp only [wts_at be w t _ _ h]

end Cert.Reference3Ideal.Ffn

namespace Cert.Kernel3Ideal.Ffn

open Cert.Kernel3Ideal Cert.Kernel3Ideal.Gen

/-- The payload at an element of its block. -/
theorem pay_at (X : FVec Ideal S256x4096 .f32) (W : FVec Ideal S1x4096x512 .bf16) (B : FVec Ideal S1x1x512 .f32)
    (W' : FVec Ideal S1x4096x512 .bf16) (B' : FVec Ideal S1x1x512 .f32) (p : Fin 256) (q : Fin 512) :
    k0_pay1 (F := Ideal) X W B W' B' (ix2 p q)
      = Cert.Reference3Ideal.Ffn.gate ((∑ k : Fin 4096, X (ix2 p k) * W (ix3 0 k q)) + B (ix3 0 0 q)) ((∑ k : Fin 4096, X (ix2 p k) * W' (ix3 0 k q)) + B' (ix3 0 0 q)) := by
  pointwise [k0_pay1]
  rfl

end Cert.Kernel3Ideal.Ffn

end
-- ==== Proof.Ffn1.Value.lean ====
/- The experts' first product and its gate: at the rows of the blocks in use the array the call leaves is the reference's term. -/
module

public import proofs.«01_k».proof.Proof.Ffn1.FrameIdeal
public import proofs.«01_k».proof.Proof.Ffn1.Ref
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)

namespace Cert.Kernel3Ideal.Ffn

open Cert.Kernel3Ideal Cert.Kernel3Ideal.Gen

variable (m : (ℓ : Loc nD τ sig) → Buf (Elt Ideal) ℓ)

/-! ## The host operations' buffers -/

theorem V_v1 (c : Dev nD) : V m c main_v1 = truncf (F := Ideal) .bf16 (shapeCast S32x4096x2048 (m ((c : Thread nD τ).loc main_arg3)) shapeCasts_S1x32x4096x2048_S32x4096x2048) bitsLt_bf16_f32 := by
  unfold V hostOps0
  after_results <;> rfl

theorem V_v3 (c : Dev nD) : V m c main_v3 = shapeCast S32x1x2048 (shapeCast S32x2048 (m ((c : Thread nD τ).loc main_arg4)) shapeCasts_S1x32x2048_S32x2048) shapeCasts_S32x2048_S32x1x2048 := by
  unfold V hostOps0
  after_results <;> rfl

theorem weights_at (w : FVec Ideal S1x32x4096x2048 .f32) (e : Fin 32) (k : Fin 4096) (f : Fin 2048) :
    truncf (F := Ideal) .bf16 (shapeCast S32x4096x2048 w shapeCasts_S1x32x4096x2048_S32x4096x2048) bitsLt_bf16_f32 (ix3 e k f) = w (ix4 0 e k f) := by
  pointwise

theorem biases_at (b : FVec Ideal S1x32x2048 .f32) (e : Fin 32) (f : Fin 2048) :
    shapeCast S32x1x2048 (shapeCast S32x2048 b shapeCasts_S1x32x2048_S32x2048) shapeCasts_S32x2048_S32x1x2048 (ix3 e 0 f) = b (ix3 0 e f) := by
  pointwise

/-! ## The blocks of a point -/

/-- The expert of row block `i`. -/
theorem beOf_at (c : Dev nD) (t : Fin grid0.N) (i : Fin 160) (hi : i.val = t.val % 160) :
    beOf (tbl m) (grid0.coords t) = m ((c : Thread nD τ).loc main_arg0) (ix1 i) := by
  rw [← V_arg0 m c]
  show (tbl m 0) _ = _
  rw [← V_tbl m c 0]
  refine congrArg (V m c main_arg0) ?_
  funext a
  apply Fin.ext
  fin_cases a
  show (BitVec.ofNat 32 (grid0.coords t 1).val).toNat + 0 * 1 = i.val
  rw [(coords_val t).2, BitVec.toNat_ofNat]
  omega

theorem index0_at (hO : Ok m) (hR : InRange (tbl m)) (t : Fin (cfgM m hO).N) :
    ((cfgM m hO).win 0).index t = ![min (t.val % 160) ((nuOf (tbl m)).toNat - 1), 0] := by
  have e := index_0 (tbl m) hR (grid0.coords t)
  rw [(coords_val t).2] at e
  exact e
theorem index1_at (hO : Ok m) (t : Fin (cfgM m hO).N) :
    ((cfgM m hO).win 1).index t = ![(beOf (tbl m) (grid0.coords t)).toNat, 0, t.val / 160] := by
  have e := index_1 (tbl m) (grid0.coords t)
  rw [(coords_val t).1] at e
  exact e
theorem index2_at (hO : Ok m) (t : Fin (cfgM m hO).N) :
    ((cfgM m hO).win 2).index t = ![(beOf (tbl m) (grid0.coords t)).toNat, 0, 2 + t.val / 160] := by
  have e := index_2 (tbl m) (grid0.coords t)
  rw [(coords_val t).1] at e
  exact e
theorem index3_at (hO : Ok m) (t : Fin (cfgM m hO).N) :
    ((cfgM m hO).win 3).index t = ![(beOf (tbl m) (grid0.coords t)).toNat, 0, t.val / 160] := by
  have e := index_3 (tbl m) (grid0.coords t)
  rw [(coords_val t).1] at e
  exact e
theorem index4_at (hO : Ok m) (t : Fin (cfgM m hO).N) :
    ((cfgM m hO).win 4).index t = ![(beOf (tbl m) (grid0.coords t)).toNat, 0, 2 + t.val / 160] := by
  have e := index_4 (tbl m) (grid0.coords t)
  rw [(coords_val t).1] at e
  exact e

theorem blk_0 (hO : Ok m) (hR : InRange (tbl m)) (c : Dev nD) (t : Fin (cfgM m hO).N) (p : Fin 256) (k : Fin 4096) (r : Fin 40960)
    (hr : r.val = min (t.val % 160) ((nuOf (tbl m)).toNat - 1) * 256 + p.val) :
    (iblk m hO c 0 t : FVec Ideal S256x4096 .f32) (ix2 p k) = (m ((c : Thread nD τ).loc main_arg2) : FVec Ideal S40960x4096 .f32) (ix2 r k) := by
  rw [← V_arg2 m c]
  have e : (((cfgM m hO).win 0).rect t).emb (ix2 p k) = (ix2 r k : S40960x4096.Idx) := by
    funext a
    apply Fin.ext
    have h := Window.rect_emb_val ((cfgM m hO).win 0) t (ix2 p k) a rfl
    rw [index0_at m hO hR] at h
    refine h.trans ?_
    fin_cases a
    · show min (t.val % 160) ((nuOf (tbl m)).toNat - 1) * 256 + p.val = r.val
      exact hr.symm
    · show 0 * 4096 + k.val = k.val
      omega
  exact congrArg (V m c main_arg2) e

theorem blk_1 (hO : Ok m) (c : Dev nD) (t : Fin (cfgM m hO).N) (k : Fin 4096) (q : Fin 512) (f : Fin 2048) (e : Fin 32)
    (he : e.val = (beOf (tbl m) (grid0.coords t)).toNat) (hf : f.val = (t.val / 160) * 512 + q.val) :
    (iblk m hO c 1 t : FVec Ideal S1x4096x512 .bf16) (ix3 0 k q) = (m ((c : Thread nD τ).loc main_arg3) : FVec Ideal S1x32x4096x2048 .f32) (ix4 0 e k f) := by
  have e1 : (((cfgM m hO).win 1).rect t).emb (ix3 0 k q) = (ix3 e k f : S32x4096x2048.Idx) := by
    funext a
    apply Fin.ext
    have h := Window.rect_emb_val ((cfgM m hO).win 1) t (ix3 0 k q) a rfl
    rw [index1_at m hO] at h
    refine h.trans ?_
    fin_cases a
    · show (beOf (tbl m) (grid0.coords t)).toNat * 1 + 0 = e.val
      omega
    · show 0 * 4096 + k.val = k.val
      omega
    · show (t.val / 160) * 512 + q.val = f.val
      omega
  exact (congrArg (V m c main_v1) e1).trans ((congrFun (V_v1 m c) _).trans (weights_at _ e k f))

theorem blk_2 (hO : Ok m) (c : Dev nD) (t : Fin (cfgM m hO).N) (k : Fin 4096) (q : Fin 512) (f : Fin 2048) (e : Fin 32)
    (he : e.val = (beOf (tbl m) (grid0.coords t)).toNat) (hf : f.val = (2 + t.val / 160) * 512 + q.val) :
    (iblk m hO c 2 t : FVec Ideal S1x4096x512 .bf16) (ix3 0 k q) = (m ((c : Thread nD τ).loc main_arg3) : FVec Ideal S1x32x4096x2048 .f32) (ix4 0 e k f) := by
  have e1 : (((cfgM m hO).win 2).rect t).emb (ix3 0 k q) = (ix3 e k f : S32x4096x2048.Idx) := by
    funext a
    apply Fin.ext
    have h := Window.rect_emb_val ((cfgM m hO).win 2) t (ix3 0 k q) a rfl
    rw [index2_at m hO] at h
    refine h.trans ?_
    fin_cases a
    · show (beOf (tbl m) (grid0.coords t)).toNat * 1 + 0 = e.val
      omega
    · show 0 * 4096 + k.val = k.val
      omega
    · show (2 + t.val / 160) * 512 + q.val = f.val
      omega
  exact (congrArg (V m c main_v1) e1).trans ((congrFun (V_v1 m c) _).trans (weights_at _ e k f))

theorem blk_3 (hO : Ok m) (c : Dev nD) (t : Fin (cfgM m hO).N) (q : Fin 512) (f : Fin 2048) (e : Fin 32)
    (he : e.val = (beOf (tbl m) (grid0.coords t)).toNat) (hf : f.val = (t.val / 160) * 512 + q.val) :
    (iblk m hO c 3 t : FVec Ideal S1x1x512 .f32) (ix3 0 0 q) = (m ((c : Thread nD τ).loc main_arg4) : FVec Ideal S1x32x2048 .f32) (ix3 0 e f) := by
  have e1 : (((cfgM m hO).win 3).rect t).emb (ix3 0 0 q) = (ix3 e 0 f : S32x1x2048.Idx) := by
    funext a
    apply Fin.ext
    have h := Window.rect_emb_val ((cfgM m hO).win 3) t (ix3 0 0 q) a rfl
    rw [index3_at m hO] at h
    refine h.trans ?_
    fin_cases a
    · show (beOf (tbl m) (grid0.coords t)).toNat * 1 + 0 = e.val
      omega
    · show 0 * 1 + 0 = 0
      omega
    · show (t.val / 160) * 512 + q.val = f.val
      omega
  exact (congrArg (V m c main_v3) e1).trans ((congrFun (V_v3 m c) _).trans (biases_at _ e f))

theorem blk_4 (hO : Ok m) (c : Dev nD) (t : Fin (cfgM m hO).N) (q : Fin 512) (f : Fin 2048) (e : Fin 32)
    (he : e.val = (beOf (tbl m) (grid0.coords t)).toNat) (hf : f.val = (2 + t.val / 160) * 512 + q.val) :
    (iblk m hO c 4 t : FVec Ideal S1x1x512 .f32) (ix3 0 0 q) = (m ((c : Thread nD τ).loc main_arg4) : FVec Ideal S1x32x2048 .f32) (ix3 0 e f) := by
  have e1 : (((cfgM m hO).win 4).rect t).emb (ix3 0 0 q) = (ix3 e 0 f : S32x1x2048.Idx) := by
    funext a
    apply Fin.ext
    have h := Window.rect_emb_val ((cfgM m hO).win 4) t (ix3 0 0 q) a rfl
    rw [index4_at m hO] at h
    refine h.trans ?_
    fin_cases a
    · show (beOf (tbl m) (grid0.coords t)).toNat * 1 + 0 = e.val
      omega
    · show 0 * 1 + 0 = 0
      omega
    · show (2 + t.val / 160) * 512 + q.val = f.val
      omega
  exact (congrArg (V m c main_v3) e1).trans ((congrFun (V_v3 m c) _).trans (biases_at _ e f))

/-- The reference's term at a memory's arguments. -/
def G (c : Dev nD) : FVec Ideal S40960x1024 .bf16 :=
  Cert.Reference3Ideal.Ffn.Res (m ((c : Thread nD τ).loc main_arg0)) (m ((c : Thread nD τ).loc main_arg2))
    (m ((c : Thread nD τ).loc main_arg3)) (m ((c : Thread nD τ).loc main_arg4))

/-- What a point in use leaves is the reference's term at its block. -/
theorem pay_eq (hO : Ok m) (hR : InRange (tbl m)) (c : Dev nD) (t : Fin (cfgM m hO).N) (hl : t.val % 160 < (nuOf (tbl m)).toNat)
    (p : Fin 256) (q : Fin 512) (r : Fin 40960) (f : Fin 1024) (hr : r.val = t.val % 160 * 256 + p.val) (hf : f.val = t.val / 160 * 512 + q.val) :
    payAt m hO c t (ix2 p q) = G m c (ix2 r f) := by
  have hi : t.val % 160 < 160 := Nat.mod_lt _ (by decide)
  have hbe := beOf_at m c t ⟨t.val % 160, hi⟩ rfl
  have hlt : (m ((c : Thread nD τ).loc main_arg0) (ix1 ⟨t.val % 160, hi⟩) : BitVec 32).toNat < 32 := by
    rw [← hbe]; exact hR.be_lt _
  have hf1 := f.isLt
  let g : Fin 2048 := ⟨f.val, by omega⟩
  let l : Fin 2048 := ⟨1024 + f.val, by omega⟩
  have hg : g.val = t.val / 160 * 512 + q.val := hf
  have hl2 : l.val = (2 + t.val / 160) * 512 + q.val := by show 1024 + f.val = _; omega
  unfold G
  rw [Cert.Reference3Ideal.Ffn.res_at _ _ _ _ ⟨t.val % 160, hi⟩ p f r (by show r.val = 256 * (t.val % 160) + p.val; omega) g l rfl rfl hlt]
  refine (pay_at (iblk m hO c 0 t) (iblk m hO c 1 t) (iblk m hO c 3 t) (iblk m hO c 2 t) (iblk m hO c 4 t) p q).trans ?_
  have hx : ∀ k : Fin 4096, (iblk m hO c 0 t : FVec Ideal S256x4096 .f32) (ix2 p k) = (m ((c : Thread nD τ).loc main_arg2) : FVec Ideal S40960x4096 .f32) (ix2 r k) :=
    fun k => blk_0 m hO hR c t p k r (by rw [hr, Nat.min_eq_left (by omega)])
  refine congrArg₂ Cert.Reference3Ideal.Ffn.gate (Ideal.add_congr (Finset.sum_congr rfl fun k _ => Ideal.mul_congr (hx k) ?_) ?_)
    (Ideal.add_congr (Finset.sum_congr rfl fun k _ => Ideal.mul_congr (hx k) ?_) ?_)
  · exact blk_1 m hO c t k q g ⟨_, hlt⟩ (congrArg BitVec.toNat hbe.symm) hg
  · exact blk_3 m hO c t q g ⟨_, hlt⟩ (congrArg BitVec.toNat hbe.symm) hg
  · exact blk_2 m hO c t k q l ⟨_, hlt⟩ (congrArg BitVec.toNat hbe.symm) hl2
  · exact blk_4 m hO c t q l ⟨_, hlt⟩ (congrArg BitVec.toNat hbe.symm) hl2

/-- The point a block's contents come from. -/
theorem src_val (hO : Ok m) (hR : InRange (tbl m)) (t : Fin (cfgM m hO).N) :
    (src m hO t).val % 160 = min (t.val % 160) ((nuOf (tbl m)).toNat - 1) ∧ (src m hO t).val / 160 = t.val / 160 := by
  have := hR.nu_pos
  show (t.val - (t.val % 160 + 1 - (nuOf (tbl m)).toNat)) % 160 = _ ∧ (t.val - (t.val % 160 + 1 - (nuOf (tbl m)).toNat)) / 160 = _
  omega

/-- The blocks a write-back writes hold the reference's term. -/
theorem flushed_eq (hO : Ok m) (hR : InRange (tbl m)) (c : Dev nD) (t : Fin (cfgM m hO).N) (y : (((cfgM m hO).win 5).xblock ((cfgM m hO).grid.coords t)).Idx) :
    _root_.cast (congrArg (Elt Ideal) (((cfgM m hO).win 5).blk t).view.elt_eq.symm) ((dats m hO 0 c).flushed 5 t y)
      = G m c ((((cfgM m hO).win 5).blk t).view.emb y) := by
  have hN : t.val < 320 := t.isLt
  have hnu := hR.nu_le
  have hpos := hR.nu_pos
  obtain ⟨h1, h2⟩ := src_val m hO hR t
  let p : Fin 256 := ⟨(y (0 : Fin 2)).val, (y (0 : Fin 2)).isLt⟩
  let q : Fin 512 := ⟨(y (1 : Fin 2)).val, (y (1 : Fin 2)).isLt⟩
  let r : Fin 40960 := ⟨min (t.val % 160) ((nuOf (tbl m)).toNat - 1) * 256 + p.val, by have := p.isLt; omega⟩
  let f : Fin 1024 := ⟨t.val / 160 * 512 + q.val, by have := q.isLt; omega⟩
  have e1 : (((cfgM m hO).win 5).rect t).emb y = (ix2 r f : S40960x1024.Idx) := by
    funext a
    apply Fin.ext
    have h := Window.rect_emb_val ((cfgM m hO).win 5) t y a rfl
    rw [index_at m hO hR] at h
    refine h.trans ?_
    fin_cases a <;> rfl
  have e2 : ((cfgM m hO).win 5).xinj ((cfgM m hO).grid.coords t) y = (ix2 p q : S256x512.Idx) := by
    funext a
    apply Fin.ext
    fin_cases a <;> rfl
  have e3 := pay_eq m hO hR c (src m hO t) (by rw [h1]; omega) p q r f (by rw [h1]) (by rw [h2])
  exact (congrFun (after_5 m hO c t) _).trans ((congrArg (payAt m hO c (src m hO t)) e2).trans (e3.trans (congrArg (G m c) e1.symm)))

/-- At a row of a block in use the array after the run is the reference's term. -/
theorem final (hO : Ok m) (hR : InRange (tbl m)) (c : Dev nD) (r : Fin 40960) (f : Fin 1024) (hr : r.val < (nuOf (tbl m)).toNat * 256) :
    ((dats m hO 0 c).arrAt 5 (cfgM m hO).N : FVec Ideal S40960x1024 .bf16) (ix2 r f) = G m c (ix2 r f) := by
  have hpos := hR.nu_pos
  have hnu := hR.nu_le
  have hf : f.val / 512 < 2 := by have := f.isLt; omega
  -- the last point whose block is the element's
  let n : ℕ := f.val / 512 * 160 + if r.val / 256 + 1 = (nuOf (tbl m)).toNat then 159 else r.val / 256
  have hn1 : n % 160 = if r.val / 256 + 1 = (nuOf (tbl m)).toNat then 159 else r.val / 256 := by
    show (f.val / 512 * 160 + _) % 160 = _
    split <;> omega
  have hn2 : n / 160 = f.val / 512 := by
    show (f.val / 512 * 160 + _) / 160 = _
    split <;> omega
  have hmin : min (n % 160) ((nuOf (tbl m)).toNat - 1) = r.val / 256 := by
    rw [hn1]; split <;> omega
  have hnN : n < 320 := by omega
  let t : Fin (cfgM m hO).N := ⟨n, hnN⟩
  have hidx : ((cfgM m hO).win 5).index t = ![r.val / 256, f.val / 512] := by
    rw [index_at m hO hR t, ← hmin, ← hn2]
  have hfl : ((cfgM m hO).win 5).flush t = true := by
    have hout : ((cfgM m hO).win 5).isOut = true := rfl
    unfold Window.flush
    rw [hout, Bool.true_and]
    by_cases he : n + 1 = 320
    · exact Bool.or_eq_true_iff.mpr (.inl (decide_eq_true he))
    · refine Bool.or_eq_true_iff.mpr (.inr (decide_eq_true ⟨show n + 1 < 320 by omega, fun h => ?_⟩))
      rw [hidx, index_at m hO hR] at h
      have h0 : min ((n + 1) % 160) ((nuOf (tbl m)).toNat - 1) = r.val / 256 := congrFun h 0
      have h1 : (n + 1) / 160 = f.val / 512 := congrFun h 1
      split at hn1 <;> omega
  have hmem : (ix2 r f : S40960x1024.Idx) ∈ (((cfgM m hO).win 5).blk t).view.set := by
    refine (Window.emb_mem_blk_iff ((cfgM m hO).win 5) t (ix2 r f) rfl).mpr fun a => ?_
    rw [hidx]
    fin_cases a
    · show r.val / 256 * 256 ≤ r.val ∧ r.val < r.val / 256 * 256 + 256
      omega
    · show f.val / 512 * 512 ≤ f.val ∧ f.val < f.val / 512 * 512 + 512
      omega
  exact (dats m hO 0 c).arrAt_forall_of_flushed 5 (fun i v => v = G m c i) (fun t _ y => flushed_eq m hO hR c t y) (cfgM m hO).N t (ix2 r f) t.isLt hfl hmem

end Cert.Kernel3Ideal.Ffn

end
-- ==== Proof.Ffn1.Claim.lean ====
/- The experts' first product and its gate: the frames and the value claim. -/
module

public import proofs.«01_k».proof.Defs
public import proofs.«01_k».proof.Proof.Ffn1.Pre
public import proofs.«01_k».proof.Proof.Ffn1.Value
public import Idealize.ShloMosaic.Lib.Claim
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

/-- Every run leaves the reference's term at the rows of the blocks in use, and the arguments as they were. -/
theorem run_value (m : (ℓ : Loc nD τ sig) → Buf (Elt Ideal) ℓ) (ρ : Dev nD → PrngReg) (hR : InRange (tbl m)) :
    θ_run defs (onTc (τ := τ) (main (F := Ideal))) ⟨m, fun _ => 0, ρ⟩ (fun r => ∀ c : Dev nD,
      (∀ (i : Fin 40960) (f : Fin 1024), i.val < (nuOf (tbl m)).toNat * 256 → r.2.mem ((c.tc : Thread nD τ).loc main_v4) (ix2 i f) = G m c (ix2 i f))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hO : Ok m := ok_of_inRange (tbl m) hR
  (θ_run defs _ _).mono (fun r ⟨h, _⟩ c => ⟨fun i f hi => (congrFun ((h c).1 5) (ix2 i f)).trans (final m hO hR c i f hi),
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats m hO 0 c).arrAt_in 0 rfl _).trans ((A_eq m hO c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c)⟩) (run_all m ρ hO hR)

end Cert.Kernel3Ideal.Ffn

namespace Cert.Reference3Ideal.Ffn

/-- The reference's run, its result by name. -/
theorem run_named (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => ∀ c : Dev Cert.Reference3Ideal.nD,
      r.2.mem ((c.tc : Thread Cert.Reference3Ideal.nD Cert.Reference3Ideal.τ).loc Cert.Reference3Ideal.main_v39)
        = Res (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg2))
            (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))
      ∧ r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)) :=
  (θ_run Cert.Reference3Ideal.defs _ _).mono (fun _ h c => ⟨(h c).1.trans rfl, (h c).2⟩) (Cert.Reference3Ideal.Value.run (F := Ideal) m g)

end Cert.Reference3Ideal.Ffn

namespace Cert.Proof

/-- The program keeps its arguments and ends quiescent, where the tables are in range. -/
theorem ffn1_frame : Cert.quiescent_Kernel3 (hKernel3 := Cert.Kernel3.Gen.facts) (hPre_tables3 := Cert.Pre_tables3.Gen.facts) := fun m ρ hpre =>
  Cert.Kernel3.Ffn.frame m ρ (Cert.Kernel3.Ffn.inRange m 0 (hpre 0))

theorem ffn1_ideal_frame : Cert.quiescent_Kernel3Ideal (hKernel3Ideal := Cert.Kernel3Ideal.Gen.facts) (hPre_tables3 := Cert.Pre_tables3.Gen.facts) := fun m ρ hpre =>
  Cert.Kernel3Ideal.Ffn.frame m ρ (Cert.Kernel3Ideal.Ffn.inRange m 0 (hpre 0))

theorem ffn1_ref_frame : Cert.quiescent_Reference3Ideal (hReference3Ideal := Cert.Reference3Ideal.Gen.facts) := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The first product and gate's value, at the rows of the blocks in use. -/
theorem ffn1_value : Cert.algebraic_Kernel3Ideal_Reference3Ideal_on_used3 (hKernel3Ideal := Cert.Kernel3Ideal.Gen.facts) (hReference3Ideal := Cert.Reference3Ideal.Gen.facts)
    (hPre_tables3 := Cert.Pre_tables3.Gen.facts) (hOn_used3 := Cert.On_used3.Gen.facts) := fun m g m' g' hpre heq => by
  have hR := Cert.Kernel3Ideal.Ffn.inRange m 0 (hpre 0)
  refine ⟨fun c => Cert.Kernel3Ideal.Ffn.G m c, ?_, ?_⟩
  · refine (θ_run _ _ _).mono (fun r h c => ⟨fun i hi => ?_, (h c).2⟩) (Cert.Kernel3Ideal.Ffn.run_value m g hR)
    have hi' := hi
    rw [eq_ix2 i] at hi' ⊢
    refine (h c).1 (i 0) (i 1) ?_
    rw [Cert.Kernel3Ideal.Ffn.nuOf_eq m c]
    refine Cert.On_used3.row_of_fn _ _ _ _ _ ?_ (i 0) (i 1) hi'
    rw [← Cert.Kernel3Ideal.Ffn.nuOf_eq m c]
    exact hR.nu_le
  · refine (θ_run _ _ _).mono (fun r h c => ⟨fun i _ => ?_, (h c).2⟩) (Cert.Reference3Ideal.Ffn.run_named m' g')
    obtain ⟨e0, e1, e2, e3, e4⟩ := heq c
    refine (congrFun (h c).1 i).trans ?_
    rw [e0, e2, e3, e4]
    rfl

end Cert.Proof

end
-- ==== Proof.Ffn2.RunIdeal.lean ====
module

public import proofs.«01_k».proof.Proof.Gen.Kernel4Ideal.Launch
public import proofs.«01_k».proof.Proof.Gen.Kernel4Ideal.Skeleton
public import proofs.«01_k».proof.Proof.FfnAux
public import Idealize.ShloMosaic.Lib.Ring
public import Idealize.ShloMosaic.Lib.Tactic
public import Idealize.ShloMosaic.Lib.Claim

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of a table's buffer on core `c`, and the buffer held at half the full share. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

/-- The table of each row block's expert, the table of the number of used blocks, and the latter's word as the body loads it. -/
abbrev beTab : Memref sig .tc .smem S160 .i32 := Memref.whole main_arg0
abbrev nuTab : Memref sig .tc .smem S1 .i32 := Memref.whole main_arg1
abbrev nuWord {c : Dev nD} (x : TabBuf (F := F) c nuTab) : BitVec 32 :=
  View.readAt (Elt F) nuTab.view (Rect.unit (s := S1) ![0] S1.size inb_S1_S1_0).toLoadRect x (Shape.Idx.first (numel1_S1.symm ▸ Nat.one_pos))

set_option maxHeartbeats 1000000 in
/-- A used block: the body stores its payload. -/
theorem run_live (c : Dev nD) (i : grid0.Coords) (arg4 : Memref sig .tc .vmem S256x1024 .bf16) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S256x2048 .f32) (harg7 : arg7.IsWhole)
    (x0 : Vec F S256x1024 .bf16) (x1 : Vec F S1x1024x2048 .bf16) (x2 : Vec F S1x1x2048 .f32) (xt1 : TabBuf (F := F) c nuTab)
    (hc : k0_cond1 i (nuWord xt1) = 1#1) (E : Set ℕ) (K : PUnit → sProp 𝕄) :
    iprop(owns (c : Thread nD τ) arg4 fullShare x0 ∗ owns (c : Thread nD τ) arg5 fullShare x1 ∗ owns (c : Thread nD τ) arg6 fullShare x2 ∗ (∃ d, owns (c : Thread nD τ) arg7 fullShare d)
        ∗ tabHalf c nuTab xt1
        ∗ (iprop(owns (c : Thread nD τ) arg4 fullShare x0 ∗ owns (c : Thread nD τ) arg5 fullShare x1 ∗ owns (c : Thread nD τ) arg6 fullShare x2 ∗ owns (c : Thread nD τ) arg7 fullShare (k0_pay1 x0 x1 x2)
          ∗ tabHalf c nuTab xt1) -∗ K ⟨⟩))
      ⊢ wp frame (wpE (defs₀ (F := F)) Variants.none c none) E (cc0_ffn2 i (Memref.whole main_arg0) (Memref.isWhole_whole _) (Memref.whole main_arg1) (Memref.isWhole_whole _) arg4 harg4 arg5 harg5 arg6 harg6 arg7 harg7) K := by
  simp only [cc0_ffn2_eq_skeleton]; unfold cc0_ffn2_skel
  unfold owns
  have e0 : View.readAt (Elt F) arg4.view (Rect.unit (s := S256x1024) ![0, 0] S256x1024.size inb_S256x1024_S256x1024_0_0).toLoadRect (harg4.unread x0) = x0 :=
    FfnAux.load_whole harg4 x0 (by funext a; fin_cases a <;> rfl) _
  have e1 : View.readAt (Elt F) arg5.view (Rect.unit (s := S1x1024x2048) ![0, 0, 0] S1x1024x2048.size inb_S1x1024x2048_S1x1024x2048_0_0_0).toLoadRect (harg5.unread x1) = x1 :=
    FfnAux.load_whole harg5 x1 (by funext a; fin_cases a <;> rfl) _
  have e2 : View.readAt (Elt F) arg6.view (Rect.unit (s := S1x1x2048) ![0, 0, 0] S1x1x2048.size inb_S1x1x2048_S1x1x2048_0_0_0).toLoadRect (harg6.unread x2) = x2 :=
    FfnAux.load_whole harg6 x2 (by funext a; fin_cases a <;> rfl) _
  iintro ⟨⟨%f0, %hf0, H0⟩, ⟨%f1, %hf1, H1⟩, ⟨%f2, %hf2, H2⟩, ⟨%d5, %f5, -, H5⟩, HT1, Hk⟩
  obtain rfl := harg4.eq_unread hf0; obtain rfl := harg5.eq_unread hf1; obtain rfl := harg6.eq_unread hf2
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H5]
  · iexists _; isplitr
    swap; · iexact H5
    ipureintro

    exact FfnAux.store_whole arg7.view f5 _ (by funext a; fin_cases a <;> rfl) _
  iexact HT1

/-- A block past the used ones: the body does nothing. -/
theorem run_idle (c : Dev nD) (i : grid0.Coords) (arg4 : Memref sig .tc .vmem S256x1024 .bf16) (harg4 : arg4.IsWhole) (arg5 : Memref sig .tc .vmem S1x1024x2048 .bf16) (harg5 : arg5.IsWhole) (arg6 : Memref sig .tc .vmem S1x1x2048 .f32) (harg6 : arg6.IsWhole) (arg7 : Memref sig .tc .vmem S256x2048 .f32) (harg7 : arg7.IsWhole)
    (xt1 : TabBuf (F := F) c nuTab)
    (hc : ¬ k0_cond1 i (nuWord xt1) = 1#1) (E : Set ℕ) (K : PUnit → sProp 𝕄) :
    iprop(tabHalf c nuTab xt1 ∗ (tabHalf c nuTab xt1 -∗ K ⟨⟩))
      ⊢ wp frame (wpE (defs₀ (F := F)) Variants.none c none) E (cc0_ffn2 i (Memref.whole main_arg0) (Memref.isWhole_whole _) (Memref.whole main_arg1) (Memref.isWhole_whole _) arg4 harg4 arg5 harg5 arg6 harg6 arg7 harg7) K := by
  simp only [cc0_ffn2_eq_skeleton]; unfold cc0_ffn2_skel
  iintro ⟨HT1, Hk⟩
  sl_exec
  sl_step
  iapply Hk
  iexact HT1

end Cert.Kernel4Ideal.Ffn

end
-- ==== Proof.Ffn2.FrameIdeal.lean ====
module

public import proofs.«01_k».proof.Proof.Ffn2.RunIdeal
public import Idealize.ShloMosaic.Lib.Pipeline.TableIdle

@[expose] public section

set_option maxRecDepth 16384

noncomputable section

namespace Cert.Kernel4Ideal.Ffn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The index maps at tables in range -/

/-- The number of used blocks, and the expert of a point's row block, as the index maps read them. -/
def nuOf (pf : pre0.Contents (Elt F)) : BitVec 32 := pf.at 1 (Rect.unit (s := S1) ![0] S1.size inb_S1_S1_0) numel1_S1
def beOf (pf : pre0.Contents (Elt F)) (i : grid0.Coords) : BitVec 32 :=
  pf.at 0 (Rect.unit (s := S160) (k0_off1 i) S1.size (k0_off1_inb i)) numel1_S1

/-- Tables a routing makes: between one and all blocks used, every expert's number below 32. -/
structure InRange (pf : pre0.Contents (Elt F)) : Prop where
  nu_pos : 1 ≤ (nuOf pf).toNat
  nu_le : (nuOf pf).toNat ≤ 160
  be_lt : ∀ i, (beOf pf i).toNat < 32

theorem InRange.row_lt {pf : pre0.Contents (Elt F)} (h : InRange pf) (i : ℕ) : min i ((nuOf pf).toNat - 1) < 160 := by
  have := h.nu_pos; have := h.nu_le; omega

theorem ofNat_val {j : ℕ} (h : j < 2) : (BitVec.ofNat 32 j).toNat = j := by rw [BitVec.toNat_ofNat]; omega
theorem two_add_val {j : ℕ} (h : j < 2) : (Scalar.addi 2#32 (BitVec.ofNat 32 j)).toNat = 2 + j := by
  show (2#32 + BitVec.ofNat 32 j).toNat = _
  rw [BitVec.toNat_add, ofNat_val h, show (2#32 : BitVec 32).toNat = 2 from rfl]; omega

theorem index_0 (pf : pre0.Contents (Elt F)) (h : InRange pf) (i : grid0.Coords) :
    cc0_transform_0 inb_S1_S1_0 numel1_S1 pf i = ![min (i 1).val ((nuOf pf).toNat - 1), 0] := by
  have hi : (i 1).val < 160 := (i 1).isLt
  have e1 : (Scalar.minsi (BitVec.ofNat 32 (i 1).val) (Scalar.subi (nuOf pf) 1#32)).toNat = min (i 1).val ((nuOf pf).toNat - 1) :=
    FfnAux.row_eq hi h.nu_pos h.nu_le
  show ![(Scalar.minsi (BitVec.ofNat 32 (i 1).val) (Scalar.subi (nuOf pf) 1#32)).toNat, (0#32 : BitVec 32).toNat] = _
  rw [e1]; rfl
theorem index_1 (pf : pre0.Contents (Elt F)) (i : grid0.Coords) :
    cc0_transform_1 k0_off1_inb numel1_S1 pf i = ![(beOf pf i).toNat, 0, (i 0).val] := by
  have h0 : (i 0).val < 2 := (i 0).isLt
  show ![(beOf pf i).toNat, (0#32 : BitVec 32).toNat, (BitVec.ofNat 32 (i 0).val).toNat] = _
  rw [ofNat_val h0]; rfl
theorem index_2 (pf : pre0.Contents (Elt F)) (i : grid0.Coords) :
    cc0_transform_2 k0_off1_inb numel1_S1 pf i = ![(beOf pf i).toNat, 0, (i 0).val] := by
  have h0 : (i 0).val < 2 := (i 0).isLt
  show ![(beOf pf i).toNat, (0#32 : BitVec 32).toNat, (BitVec.ofNat 32 (i 0).val).toNat] = _
  rw [ofNat_val h0]; rfl
theorem index_3 (pf : pre0.Contents (Elt F)) (h : InRange pf) (i : grid0.Coords) :
    cc0_transform_3 inb_S1_S1_0 numel1_S1 pf i = ![min (i 1).val ((nuOf pf).toNat - 1), (i 0).val] := by
  have hi : (i 1).val < 160 := (i 1).isLt
  have e1 : (Scalar.minsi (BitVec.ofNat 32 (i 1).val) (Scalar.subi (nuOf pf) 1#32)).toNat = min (i 1).val ((nuOf pf).toNat - 1) :=
    FfnAux.row_eq hi h.nu_pos h.nu_le
  show ![(Scalar.minsi (BitVec.ofNat 32 (i 1).val) (Scalar.subi (nuOf pf) 1#32)).toNat, (BitVec.ofNat 32 (i 0).val).toNat] = _
  rw [e1, ofNat_val (show (i 0).val < 2 from (i 0).isLt)]

theorem words_block {s : Shape} {size ix : Fin s.rank → ℕ} {h : ∀ a, (ix a + 1) * size a ≤ s.size a} (h2 : 2 ≤ s.rank)
    (hd : 2 ∣ size (s.rowAx h2)) : (Rect.block size ix h).WholeWords (EltTy.packing .bf16) :=
  .inl (.inr ⟨h2, rfl, .inl ⟨Dvd.dvd.mul_left hd _, hd⟩⟩)

theorem ok_of_inRange (pf : pre0.Contents (Elt F)) (h : InRange pf) : ok0 pf := by
  refine ⟨fun i => ?_, fun i => ?_, fun i => ?_, fun i => ?_⟩
  · refine ⟨fun a => ?_, .inr (words_block (by decide) (by decide))⟩
    rw [index_0 pf h i]
    have h0 : (i 0).val < 2 := (i 0).isLt
    have hr := h.row_lt (i 1).val
    fin_cases a
    · show (min (i 1).val ((nuOf pf).toNat - 1) + 1) * 256 ≤ 40960; omega
    · show (0 + 1) * 1024 ≤ 1024; omega
  · refine ⟨fun a => ?_, .inr (words_block (by decide) (by decide))⟩
    rw [index_1 pf i]
    have h0 : (i 0).val < 2 := (i 0).isLt
    have hb := h.be_lt i
    fin_cases a
    · show ((beOf pf i).toNat + 1) * 1 ≤ 32; omega
    · show (0 + 1) * 1024 ≤ 1024; omega
    · show ((i 0).val + 1) * 2048 ≤ 4096; omega
  · refine ⟨fun a => ?_, .inl rfl⟩
    rw [index_2 pf i]
    have h0 : (i 0).val < 2 := (i 0).isLt
    have hb := h.be_lt i
    fin_cases a
    · show ((beOf pf i).toNat + 1) * 1 ≤ 32; omega
    · show (0 + 1) * 1 ≤ 1; omega
    · show ((i 0).val + 1) * 2048 ≤ 4096; omega
  · refine ⟨fun a => ?_, .inl rfl⟩
    rw [index_3 pf h i]
    have h0 : (i 0).val < 2 := (i 0).isLt
    have hr := h.row_lt (i 1).val
    fin_cases a
    · show (min (i 1).val ((nuOf pf).toNat - 1) + 1) * 256 ≤ 40960; omega
    · show ((i 0).val + 1) * 2048 ≤ 4096; omega

theorem one_idx (x y : S1.Idx) : x = y := funext fun a => by
  fin_cases a; exact Subsingleton.elim (α := Fin 1) _ _

theorem atD_eq (pf : pre0.Contents (Elt F)) : (pf.atD 1 ![0] : BitVec 32) = nuOf pf :=
  (dif_pos (by intro a; fin_cases a; decide)).trans (congrArg (pf 1) (one_idx _ _))

/-- The output window is idle at a block past the used ones. -/
theorem idle_eq (pf : pre0.Contents (Elt F)) (h : InRange pf) (i : grid0.Coords) :
    idle0 pf 3 i = !decide ((i 1).val < (nuOf pf).toNat) := by
  have hi : (i 1).val < 160 := (i 1).isLt
  have e : (k0_cond1 i (nuOf pf) = 1#1) ↔ (i 1).val < (nuOf pf).toNat := FfnAux.guard_iff hi h.nu_le
  show (!(k0_cond1 i (pf.atD 1 ![0]) == 1#1)) = _
  rw [atD_eq]; congr 1
  by_cases hc : (i 1).val < (nuOf pf).toNat
  · rw [e.mpr hc]; simp [hc]
  · have hne : ¬ k0_cond1 i (nuOf pf) = 1#1 := fun hh => hc (e.mp hh)
    simp [hc, hne]

/-- The coordinates of the grid's points. -/
theorem coords_val : ∀ t : Fin grid0.N, (grid0.coords t 0).val = t.val / 160 ∧ (grid0.coords t 1).val = t.val % 160 := by
  decide +kernel

variable (m : (ℓ : Loc nD τ sig) → Buf (Elt F) ℓ) (ρ : Dev nD → PrngReg)

/-! ## The program up to its pallas_call -/

/-- A core's buffers after the host operations. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- No host operation writes `main_arg0`. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg1`. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg2`. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg3`. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))
/-- No host operation writes `main_arg4`. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    refine ⟨?_, ?_, ?_, ?_⟩ <;> exact StableHlo.devRef_ne_of_ne (by decide)))

/-- The tables as the pallas_call finds them. -/
def tbl : pre0.Contents (Elt F) := fun j => V m (0 : Dev nD) (pre0.ref j)
theorem V_tbl (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem tables_eq (c : Dev nD) : (Pipeline.ΦT pre0 (tbl m) c : sProp 𝕄) = iprop(tabHalf c beTab (tbl m 0) ∗ tabHalf c nuTab (tbl m 1)) := by
  unfold Pipeline.ΦT Pipeline.prefHeld
  rw [show (Finset.univ : Finset (Fin 2)) = insert (0 : Fin 2) {(1 : Fin 2)} from by decide,
    bigSep_insert (by decide), bigSep_singleton]
  rfl

theorem nuWord_eq (c : Dev nD) : nuWord (F := F) (c := c) (tbl m 1) = nuOf (tbl m) :=
  congrArg (tbl m 1) (one_idx _ _)

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

abbrev buf0 (hO : Ok m) (t : Fin (cfgM m hO).N) : Memref sig .tc .vmem S256x1024 .bf16 := spec0_0.stage ((cfgM m hO).slots t 0)
abbrev buf1 (hO : Ok m) (t : Fin (cfgM m hO).N) : Memref sig .tc .vmem S1x1024x2048 .bf16 := spec0_1.stage ((cfgM m hO).slots t 1)
abbrev buf2 (hO : Ok m) (t : Fin (cfgM m hO).N) : Memref sig .tc .vmem S1x1x2048 .f32 := spec0_2.stage ((cfgM m hO).slots t 2)
abbrev buf3 (hO : Ok m) (t : Fin (cfgM m hO).N) : Memref sig .tc .vmem S256x2048 .f32 := spec0_3.stage ((cfgM m hO).slots t 3)

/-- The kernel body at a point, on the memrefs the pipeline hands it. -/
abbrev bodyAt (a : (pcfg0 (F := F)).Adm) (t : Fin (cfg0 a).N) : Prog (TpuEff nD τ sig (Elt F) Λ₀ .tc) PUnit :=
  cc0_ffn2 (grid0.coords t) (Memref.whole main_arg0) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

/-! ## What the output's staging buffer holds -/

/-- The last point at or before `t` whose block is used. -/
def src (hO : Ok m) (t : Fin (cfgM m hO).N) : Fin (cfgM m hO).N :=
  ⟨t.val - (t.val % 160 + 1 - (nuOf (tbl m)).toNat), lt_of_le_of_lt (Nat.sub_le _ _) t.isLt⟩

/-- The payload of a point. -/
def payAt (hO : Ok m) (c : Dev nD) (s : Fin (cfgM m hO).N) : Vec F S256x2048 .f32 :=
  k0_pay1 (iblk m hO c 0 s) (iblk m hO c 1 s) (iblk m hO c 2 s)

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => payAt m hO c (src m hO t)
  Φ _ := iprop(Pipeline.ΦA spec0 c ∗ Pipeline.ΦT pre0 (tbl m) c)
  q w := fullShare
  owed _ := 0

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = payAt m hO c (src m hO t) := by dsimp only [dats]; try rfl
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

theorem src_live (hO : Ok m) (t : Fin (cfgM m hO).N) (h : t.val % 160 < (nuOf (tbl m)).toNat) : src m hO t = t :=
  Fin.ext (by show t.val - (t.val % 160 + 1 - (nuOf (tbl m)).toNat) = t.val; omega)

theorem src_pred (hO : Ok m) (hR : InRange (tbl m)) (t u : Fin (cfgM m hO).N) (hu : u.val + 1 = t.val) (h : ¬ t.val % 160 < (nuOf (tbl m)).toNat) :
    src m hO t = src m hO u :=
  Fin.ext (by
    have := hR.nu_pos
    show t.val - (t.val % 160 + 1 - (nuOf (tbl m)).toNat) = u.val - (u.val % 160 + 1 - (nuOf (tbl m)).toNat)
    omega)

theorem idle_at (hO : Ok m) (hR : InRange (tbl m)) (t : Fin (cfgM m hO).N) :
    (cfgM m hO).idle (3 : Fin 4) ((cfgM m hO).grid.coords t) = !decide (t.val % 160 < (nuOf (tbl m)).toNat) := by
  have e1 : (cfgM m hO).idle (3 : Fin 4) ((cfgM m hO).grid.coords t) = idle0 (tbl m) 3 (grid0.coords t) := by
    with_reducible rfl
  have e2 : (!decide ((grid0.coords t 1).val < (nuOf (tbl m)).toNat)) = !decide (t.val % 160 < (nuOf (tbl m)).toNat) := by
    rw [(coords_val t).2]
  exact e1.trans ((idle_eq (tbl m) hR (grid0.coords t)).trans e2)

theorem index_at (hO : Ok m) (hR : InRange (tbl m)) (t : Fin (cfgM m hO).N) :
    ((cfgM m hO).win 3).index t = ![min (t.val % 160) ((nuOf (tbl m)).toNat - 1), t.val / 160] := by
  have e := index_3 (tbl m) hR (grid0.coords t)
  rw [(coords_val t).2, (coords_val t).1] at e
  exact e

/-- Before an idle point nothing is written back. -/
theorem flush_pred (hO : Ok m) (hR : InRange (tbl m)) (u : Fin (cfgM m hO).N) (hu : u.val + 1 < (cfgM m hO).N) (h : ¬ (u.val + 1) % 160 < (nuOf (tbl m)).toNat) :
    ((cfgM m hO).win 3).flush u = false := by
  unfold Window.flush
  have hi : ((cfgM m hO).win 3).index ⟨u.val + 1, hu⟩ = ((cfgM m hO).win 3).index u := by
    rw [index_at m hO hR, index_at m hO hR]
    have := hR.nu_pos
    have h1 : min ((u.val + 1) % 160) ((nuOf (tbl m)).toNat - 1) = min (u.val % 160) ((nuOf (tbl m)).toNat - 1) := by omega
    have h2 : (u.val + 1) / 160 = u.val / 160 := by omega
    show ![min ((u.val + 1) % 160) ((nuOf (tbl m)).toNat - 1), (u.val + 1) / 160] = _
    rw [h1, h2]
  have hN : ¬ u.val + 1 = (cfgM m hO).grid.N := Nat.ne_of_lt hu
  rw [Bool.and_eq_false_iff]; right
  rw [Bool.or_eq_false_iff]
  exact ⟨decide_eq_false hN, decide_eq_false fun ⟨_, hne⟩ => hne hi⟩

theorem not_fresh (hO : Ok m) (hR : InRange (tbl m)) : ∀ n, n < (cfgM m hO).N → ¬ n % 160 < (nuOf (tbl m)).toNat → (cfgM m hO).fresh 3 n = false
  | 0, _, h => absurd (show 0 % 160 < (nuOf (tbl m)).toNat from hR.nu_pos) h
  | n + 1, hn, h => by
    rw [Pipeline.Cfg.fresh_succ (cfgM m hO) 3 n (by omega), flush_pred m hO hR ⟨n, by omega⟩ hn h, Bool.false_or]
    by_cases hl : n % 160 < (nuOf (tbl m)).toNat
    · rw [idle_at m hO hR]; simp [hl]
    · rw [not_fresh hO hR n (by omega) hl, Bool.and_false]

/-- What an idle point finds is what it should leave. -/
theorem before_idle (hO : Ok m) (hR : InRange (tbl m)) (c : Dev nD) (t : Fin (cfgM m hO).N) (h : ¬ t.val % 160 < (nuOf (tbl m)).toNat) (d) :
    (dats m hO 0 c).before 3 t d = (dats m hO 0 c).after 3 t := by
  have ht : t.val ≠ 0 := fun h0 => h (by rw [h0]; exact hR.nu_pos)
  rw [(dats m hO 0 c).before_out_traj 3 rfl (fun _ _ => rfl)
    (fun t ht hi _ => by
      rw [idle_at m hO hR] at hi
      rw [after_3, after_3, src_pred m hO hR t ⟨t.val - 1, by omega⟩ (by show t.val - 1 + 1 = t.val; omega) (by simpa using hi)]) t.val t rfl d,
    not_fresh m hO hR t.val t.isLt h, after_3, after_3, src_pred m hO hR t ⟨t.val - 1, by omega⟩ (by show t.val - 1 + 1 = t.val; omega) h]
  rfl

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (buf0 m hO t) fullShare ((dats m hO 0 c).before 0 t d))
    ∗ (∃ d, owns (c : Thread nD τ) (buf1 m hO t) fullShare ((dats m hO 0 c).before 1 t d))
    ∗ (∃ d, owns (c : Thread nD τ) (buf2 m hO t) fullShare ((dats m hO 0 c).before 2 t d))
    ∗ (∃ d, owns (c : Thread nD τ) (buf3 m hO t) fullShare ((dats m hO 0 c).before 3 t d)))

def bodyPost (hO : Ok m) (c : Dev nD) (t : Fin (cfgM m hO).N) (X : sProp 𝕄) : sProp 𝕄 :=
  iprop((dats m hO 0 c).Φ t.succ ∗ (dats m hO 0 c).owesAt () t.succ
    ∗ owns (c : Thread nD τ) (buf0 m hO t) fullShare ((dats m hO 0 c).after 0 t)
    ∗ owns (c : Thread nD τ) (buf1 m hO t) fullShare ((dats m hO 0 c).after 1 t)
    ∗ owns (c : Thread nD τ) (buf2 m hO t) fullShare ((dats m hO 0 c).after 2 t)
    ∗ X)

theorem cond_iff (hO : Ok m) (hR : InRange (tbl m)) (c : Dev nD) (t : Fin (cfgM m hO).N) :
    k0_cond1 (grid0.coords t) (nuWord (F := F) (c := c) (tbl m 1)) = 1#1 ↔ t.val % 160 < (nuOf (tbl m)).toNat := by
  rw [nuWord_eq, ← (coords_val t).2]
  exact FfnAux.guard_iff (show (grid0.coords t 1).val < 160 from (grid0.coords t 1).isLt) hR.nu_le

/-- A used block: the output's buffer ends at the payload. -/
theorem body_live (hO : Ok m) (hR : InRange (tbl m)) (c : Dev nD) (t : Fin (cfgM m hO).N) (h : t.val % 160 < (nuOf (tbl m)).toNat) :
    bodyPre m hO c t ⊢ wp frame (wpE (defs₀ (F := F)) Variants.none c none) Set.univ (bodyAt (adm m hO) t)
      (fun _ => bodyPost m hO c t (owns (c : Thread nD τ) (buf3 m hO t) fullShare ((dats m hO 0 c).after 3 t))) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2, after_3, src_live m hO t h]
  rw [show (dats m hO 0 c).Φ t.castSucc = iprop(Pipeline.ΦA spec0 c ∗ Pipeline.ΦT pre0 (tbl m) c) from rfl, tables_eq]
  unfold payAt
  iintro ⟨⟨HΦ, ⟨HT0, HT1⟩⟩, Ho, ⟨%d0, H0⟩, ⟨%d1, H1⟩, ⟨%d2, H2⟩, ⟨%d3, H3⟩⟩
  iapply (run_live c (grid0.coords t) _ _ _ _ _ _ _ _ (iblk m hO c 0 t) (iblk m hO c 1 t) (iblk m hO c 2 t) (tbl m 1) ((cond_iff m hO hR c t).mpr h) Set.univ _)
  isplitl [H0]; · iexact H0
  isplitl [H1]; · iexact H1
  isplitl [H2]; · iexact H2
  isplitl [H3]; · iexists _; iexact H3
  isplitl [HT1]; · iexact HT1
  iintro ⟨H0, H1, H2, H3, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

/-- A block past the used ones: everything is as found. -/
theorem body_idle (hO : Ok m) (hR : InRange (tbl m)) (c : Dev nD) (t : Fin (cfgM m hO).N) (h : ¬ t.val % 160 < (nuOf (tbl m)).toNat) :
    bodyPre m hO c t ⊢ wp frame (wpE (defs₀ (F := F)) Variants.none c none) Set.univ (bodyAt (adm m hO) t)
      (fun _ => bodyPost m hO c t (iprop(∃ d, owns (c : Thread nD τ) (buf3 m hO t) fullShare ((dats m hO 0 c).before 3 t d)))) := by
  unfold bodyPre bodyPost bodyAt
  simp only [before_0, before_1, before_2]
  rw [show (dats m hO 0 c).Φ t.succ = (dats m hO 0 c).Φ t.castSucc from rfl,
    show (dats m hO 0 c).owesAt () t.succ = (dats m hO 0 c).owesAt () t.castSucc from rfl,
    after_0, after_1, after_2]
  rw [show (dats m hO 0 c).Φ t.castSucc = iprop(Pipeline.ΦA spec0 c ∗ Pipeline.ΦT pre0 (tbl m) c) from rfl, tables_eq]
  iintro ⟨⟨HΦ, ⟨HT0, HT1⟩⟩, Ho, ⟨%d0, H0⟩, ⟨%d1, H1⟩, ⟨%d2, H2⟩, ⟨%d3, H3⟩⟩
  iapply (run_idle c (grid0.coords t) _ _ _ _ _ _ _ _ (tbl m 1) (fun hc => h ((cond_iff m hO hR c t).mp hc)) Set.univ _)
  isplitl [HT1]; · iexact HT1
  iintro HT1
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexists _; iexact H3

theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (hR : InRange (tbl m)) (c : Dev nD) : BodyObligation (dats (F := F) m hO 0 c) (defs₀ (F := F)) Variants.none () Set.univ := fun t => by
  rw [bigSep_W0, bigSep_W0, row_eq m hO]
  by_cases h : t.val % 160 < (nuOf (tbl m)).toNat
  · have hi : (cfgM m hO).idle (3 : Fin 4) ((cfgM m hO).grid.coords t) = false := (idle_at m hO hR t).trans (by simp [h])
    rw [hi]
    exact triple_restated (body_live m hO hR c t h) rfl .rfl fun _ => .rfl
  · have hi : (cfgM m hO).idle (3 : Fin 4) ((cfgM m hO).grid.coords t) = true := (idle_at m hO hR t).trans (by simp [h])
    rw [hi]
    cases hf : ((cfgM m hO).win (3 : Fin 4)).flush t with
    | false => exact triple_restated (body_idle m hO hR c t h) rfl .rfl fun _ => .rfl
    | true =>
      have e : (iprop(∃ d, owns (c : Thread nD τ) (buf3 m hO t) fullShare ((dats m hO 0 c).before 3 t d)) : sProp 𝕄)
          ⊢ owns (c : Thread nD τ) (buf3 m hO t) fullShare ((dats m hO 0 c).after 3 t) := by
        iintro ⟨%d, H⟩
        rw [before_idle m hO hR c t h d]
        iexact H
      exact triple_restated (body_idle m hO hR c t h) rfl .rfl fun _ => by
        unfold bodyPost
        exact sep_mono .rfl (sep_mono .rfl ((sep_mono .rfl (sep_mono .rfl (sep_mono .rfl e)))))

/-! ## The run and the frame -/

set_option backward.isDefEq.respectTransparency.types false in
/-- Every run ends with the arrays at what the pipeline's data say and every counter at zero. -/
theorem run_all (hO : Ok m) (hR : InRange (tbl m)) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hR c).loose) (hshare := fun c w => by unfold Dat.share; split <;> rfl)
    (howed := fun _ _ => rfl) (V := V m) (hmain := hmain m Variants.none) (hA := A_eq m hO) (hpf := V_tbl m)
    (hΦ := fun _ _ => rfl)

/-- The frame: the arguments end as they began, every counter at zero. -/
theorem frame (hR : InRange (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  have hO : Ok m := ok_of_inRange (tbl m) hR
  (θ_run defs _ _).mono (fun r ⟨h, hs⟩ => ⟨fun c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats m hO 0 c).arrAt_in 0 rfl _).trans ((A_eq m hO c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c)⟩, hs⟩) (run_all m ρ hO hR)

end Cert.Kernel4Ideal.Ffn

end
-- ==== Proof.Ffn2.Pre.lean ====
/- The condition on the tables and the mask of the rows in use, read back. -/
module

public import proofs.«01_k».proof.Proof.Gen.Pre_tables4
public import proofs.«01_k».proof.Proof.Gen.On_used4
public import proofs.«01_k».proof.Proof.Ffn2.FrameIdeal
public import proofs.«01_k».proof.Proof.Ffn2.FrameBits
public import proofs.«01_k».proof.Proof.FfnGather

@[expose] public section

set_option maxRecDepth 16384

noncomputable section

open Idealize.ShloMosaic Idealize.ShloMosaic.TcCoe Idealize.SL.Sem

namespace Cert.Pre_tables4

variable {F : FTy → Type} [FloatOps F]

/-- The tables' words are in range. -/
theorem words_of_fn (a0 : IVec S160 32) (a1 : IVec S1 32) (a2 : FVec F S40960x1024 .bf16) (a3 : FVec F S1x32x1024x4096 .f32) (a4 : FVec F S1x32x4096 .f32)
    (h : @fn Gen.facts F _ a0 a1 a2 a3 a4 = fun _ => 1#1) :
    (∀ i, (a0 i).toNat < 32) ∧ 1 ≤ (a1 (ix1 0)).toNat ∧ (a1 (ix1 0)).toNat ≤ 160 := by
  have hj := congrFun h (fun i => i.elim0)
  obtain ⟨hj, hle⟩ := FfnGather.and_one _ _ hj
  obtain ⟨hall, hge⟩ := FfnGather.and_one _ _ hj
  refine ⟨FfnGather.all_lt a0 _ _ (fun _ => rfl) (fun _ => rfl) _ _ _ hall, ?_⟩
  have e : shapeCast S_ a1 Gen.shapeCasts_S1_S_ (fun i => i.elim0) = a1 (ix1 0) := congrArg a1 (Cert.Kernel4Ideal.Ffn.one_idx _ _)
  have hge' : IntOp.cmpi .sge (shapeCast S_ a1 Gen.shapeCasts_S1_S_ (fun i => i.elim0)) 1#32 = 1#1 := hge
  have hle' : IntOp.cmpi .sle (shapeCast S_ a1 Gen.shapeCasts_S1_S_ (fun i => i.elim0)) 160#32 = 1#1 := hle
  rw [e] at hge' hle'
  exact FfnGather.range_of_words hge' hle'

end Cert.Pre_tables4

namespace Cert.On_used4

variable {F : FTy → Type} [FloatOps F]

/-- A row the mask selects is a row of a block in use. -/
theorem row_of_fn (a0 : IVec S160 32) (a1 : IVec S1 32) (a2 : FVec F S40960x1024 .bf16) (a3 : FVec F S1x32x1024x4096 .f32) (a4 : FVec F S1x32x4096 .f32)
    (hnu : (a1 (ix1 0)).toNat ≤ 160) (r : Fin 40960) (f : Fin 4096)
    (h : @fn Gen.facts F _ a0 a1 a2 a3 a4 (ix2 r f) = 1#1) : r.val < (a1 (ix1 0)).toNat * 256 := by
  have e : ∀ j, shapeCast S_ a1 Gen.shapeCasts_S1_S_ j = a1 (ix1 0) := fun j => congrArg a1 (Cert.Kernel4Ideal.Ffn.one_idx _ _)
  have h' : IntOp.cmpi .slt (BitVec.ofNat 32 r.val) (IntOp.muli (shapeCast S_ a1 Gen.shapeCasts_S1_S_ (fun i => i.elim0)) 256#32) = 1#1 := by
    refine Eq.trans ?_ h
    show _ = IntOp.cmpi .slt (BitVec.ofNat 32 r.val) (IntOp.muli (shapeCast S_ a1 Gen.shapeCasts_S1_S_ _) 256#32)
    rw [e, e]
  rw [e] at h'
  exact FfnGather.row_of_word r.isLt hnu h'

end Cert.On_used4

namespace Cert.Kernel4Ideal.Ffn

open Cert.Kernel4Ideal Cert.Kernel4Ideal.Gen

variable {F : FTy → Type} [FloatOps F] (m : (ℓ : Loc nD τ sig) → Buf (Elt F) ℓ)

theorem nuOf_eq (c : Dev nD) : nuOf (tbl m) = m ((c : Thread nD τ).loc main_arg1) (ix1 0) := by
  rw [← V_arg1 m c]
  show (tbl m 1) _ = _
  rw [← V_tbl m c 1]
  exact congrArg (V m c main_arg1) (one_idx _ _)

theorem inRange (c : Dev nD) (h : @Cert.Pre_tables4.fn Cert.Pre_tables4.Gen.facts F _ (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : InRange (tbl m) := by
  obtain ⟨hb, h1, h2⟩ := Cert.Pre_tables4.words_of_fn _ _ _ _ _ h
  refine ⟨?_, ?_, fun i => ?_⟩
  · rw [nuOf_eq m c]; exact h1
  · rw [nuOf_eq m c]; exact h2
  · have e : ∀ x, (tbl m 0) x = m ((c : Thread nD τ).loc main_arg0) x := fun x => by
      rw [← V_tbl m c 0]; exact congrFun (V_arg0 m c) x
    show ((tbl m 0) _ : BitVec 32).toNat < 32
    rw [e]
    exact hb _

end Cert.Kernel4Ideal.Ffn

namespace Cert.Kernel4.Ffn

open Cert.Kernel4 Cert.Kernel4.Gen

variable {F : FTy → Type} [FloatOps F] (m : (ℓ : Loc nD τ sig) → Buf (Elt F) ℓ)

theorem nuOf_eq (c : Dev nD) : nuOf (tbl m) = m ((c : Thread nD τ).loc main_arg1) (ix1 0) := by
  rw [← V_arg1 m c]
  show (tbl m 1) _ = _
  rw [← V_tbl m c 1]
  exact congrArg (V m c main_arg1) (one_idx _ _)

theorem inRange (c : Dev nD) (h : @Cert.Pre_tables4.fn Cert.Pre_tables4.Gen.facts F _ (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : InRange (tbl m) := by
  obtain ⟨hb, h1, h2⟩ := Cert.Pre_tables4.words_of_fn _ _ _ _ _ h
  refine ⟨?_, ?_, fun i => ?_⟩
  · rw [nuOf_eq m c]; exact h1
  · rw [nuOf_eq m c]; exact h2
  · have e : ∀ x, (tbl m 0) x = m ((c : Thread nD τ).loc main_arg0) x := fun x => by
      rw [← V_tbl m c 0]; exact congrFun (V_arg0 m c) x
    show ((tbl m 0) _ : BitVec 32).toNat < 32
    rw [e]
    exact hb _

end Cert.Kernel4.Ffn

end
-- ==== Proof.Ffn2.Ref.lean ====
/- The experts' second product, read at an element: the reference's term and the body's payload. -/
module

public import proofs.«01_k».proof.Proof.Gen.Kernel4Ideal.Skeleton
public import proofs.«01_k».proof.Proof.Gen.Reference4Ideal.Run
public import proofs.«01_k».proof.Proof.FfnGather

@[expose] public section

set_option maxRecDepth 16384

noncomputable section

open Idealize.ShloMosaic Idealize.ShloMosaic.TcCoe Idealize.SL.Sem

namespace Cert.Reference4Ideal.Ffn

open Cert.Reference4Ideal Cert.Reference4Ideal.Gen

/-- The list the reference takes the experts' rows by. -/
def Rows (be : IVec S160 32) : IVec S160x1 32 :=
  FfnGather.wrapped be bcast_S_S160 bcast_S_S160 bcast_S160_S160x1_0

/-- Every row block's weights. -/
def Wts (be : IVec S160 32) (w : FVec Ideal S1x32x1024x4096 .f32) : FVec Ideal S160x1024x4096 .f32 :=
  Host.gather gather_S32x1024x4096_S160x1_S160x1024x4096_12_0_n_n_0_1_110244096 (shapeCast _ w shapeCasts_S1x32x1024x4096_S32x1024x4096) (Rows be)

/-- Every row block's bias. -/
def Bias (be : IVec S160 32) (b : FVec Ideal S1x32x4096 .f32) : FVec Ideal S160x4096 .f32 :=
  Host.gather gather_S32x4096_S160x1_S160x4096_1_0_n_n_0_1_14096 (shapeCast _ b shapeCasts_S1x32x4096_S32x4096) (Rows be)

/-- The result at the experts' weights and biases of every row block. -/
def Out (x : FVec Ideal S40960x1024 .bf16) (W : FVec Ideal S160x1024x4096 .f32) (B : FVec Ideal S160x4096 .f32) : FVec Ideal S40960x4096 .f32 :=
  shapeCast _ (addf (Host.dotGeneral dot_S160x256x1024_S160x1024x4096_S160x256x4096_2_1_1_2_0_0 none (shapeCast _ (extf .f32 x bitsLt_bf16_f32) shapeCasts_S40960x1024_S160x256x1024) W)
    (broadcastInDim S160x256x4096 ![0, 1, 2] bcast_S160x1x4096_S160x256x4096_0_1_2 (broadcastInDim S160x1x4096 ![0, 2] bcast_S160x4096_S160x1x4096_0_2 B))) shapeCasts_S160x256x4096_S40960x4096

/-- The reference's result as a function of its arguments. -/
def Res (be : IVec S160 32) (x : FVec Ideal S40960x1024 .bf16) (w : FVec Ideal S1x32x1024x4096 .f32) (b : FVec Ideal S1x32x4096 .f32) :
    FVec Ideal S40960x4096 .f32 := Out x (Wts be w) (Bias be b)

theorem wts_at (be : IVec S160 32) (w : FVec Ideal S1x32x1024x4096 .f32) (t : Fin 160) (k : Fin 1024) (f : Fin 4096)
    (h : (be (ix1 t)).toNat < 32) : Wts be w (ix3 t k f) = w (ix4 0 ⟨(be (ix1 t)).toNat, h⟩ k f) := by
  have hr : Rows be (ix2 t 0) = be (ix1 t) := FfnGather.wrapped_at be bcast_S_S160 bcast_S_S160 bcast_S160_S160x1_0 t h
  have e := FfnGather.gather3 gather_S32x1024x4096_S160x1_S160x1024x4096_12_0_n_n_0_1_110244096_wf
    (shapeCast S32x1024x4096 w shapeCasts_S1x32x1024x4096_S32x1024x4096) (Rows be) t k f (by rw [hr]; exact h) (by decide)
  refine (show Wts be w (ix3 t k f) = _ from e).trans ?_
  have h2 : (⟨(Rows be (ix2 t 0)).toNat, by rw [hr]; exact h⟩ : Fin 32) = ⟨(be (ix1 t)).toNat, h⟩ := Fin.ext (congrArg BitVec.toNat hr)
  rw [h2]
  pointwise

theorem bias_at (be : IVec S160 32) (b : FVec Ideal S1x32x4096 .f32) (t : Fin 160) (f : Fin 4096)
    (h : (be (ix1 t)).toNat < 32) : Bias be b (ix2 t f) = b (ix3 0 ⟨(be (ix1 t)).toNat, h⟩ f) := by
  have hr : Rows be (ix2 t 0) = be (ix1 t) := FfnGather.wrapped_at be bcast_S_S160 bcast_S_S160 bcast_S160_S160x1_0 t h
  have e := FfnGather.gather2 gather_S32x4096_S160x1_S160x4096_1_0_n_n_0_1_14096_wf
    (shapeCast S32x4096 b shapeCasts_S1x32x4096_S32x4096) (Rows be) t f (by rw [hr]; exact h) (by decide)
  refine (show Bias be b (ix2 t f) = _ from e).trans ?_
  have h2 : (⟨(Rows be (ix2 t 0)).toNat, by rw [hr]; exact h⟩ : Fin 32) = ⟨(be (ix1 t)).toNat, h⟩ := Fin.ext (congrArg BitVec.toNat hr)
  rw [h2]
  pointwise

/-- The result at row `256 t + p`. -/
theorem out_at (x : FVec Ideal S40960x1024 .bf16) (W : FVec Ideal S160x1024x4096 .f32) (B : FVec Ideal S160x4096 .f32)
    (t : Fin 160) (p : Fin 256) (f : Fin 4096) (r : Fin 40960) (hr : r.val = 256 * t.val + p.val) :
    Out x W B (ix2 r f) = (∑ k : Fin 1024, x (ix2 r k) * W (ix3 t k f)) + B (ix2 t f) := by
  have h1 : r.val / 256 = t.val := by omega
  have h2 : r.val % 256 = p.val := by omega
  pointwise [Out]
  have h3 : (⟨r.val / 256, by omega⟩ : Fin 160) = t := Fin.ext h1
  rw [h3]

theorem res_at (be : IVec S160 32) (x : FVec Ideal S40960x1024 .bf16) (w : FVec Ideal S1x32x1024x4096 .f32) (b : FVec Ideal S1x32x4096 .f32)
    (t : Fin 160) (p : Fin 256) (f : Fin 4096) (r : Fin 40960) (hr : r.val = 256 * t.val + p.val) (h : (be (ix1 t)).toNat < 32) :
    Res be x w b (ix2 r f) = (∑ k : Fin 1024, x (ix2 r k) * w (ix4 0 ⟨(be (ix1 t)).toNat, h⟩ k f)) + b (ix3 0 ⟨(be (ix1 t)).toNat, h⟩ f) := by
  unfold Res
  rw [out_at x _ _ t p f r hr, bias_at be b t f h]
  simp only [wts_at be w t _ f h]

end Cert.Reference4Ideal.Ffn

namespace Cert.Kernel4Ideal.Ffn

open Cert.Kernel4Ideal Cert.Kernel4Ideal.Gen

/-- The payload at an element of its block. -/
theorem pay_at (X : FVec Ideal S256x1024 .bf16) (W : FVec Ideal S1x1024x2048 .bf16) (B : FVec Ideal S1x1x2048 .f32) (p : Fin 256) (q : Fin 2048) :
    k0_pay1 (F := Ideal) X W B (ix2 p q) = (∑ k : Fin 1024, X (ix2 p k) * W (ix3 0 k q)) + B (ix3 0 0 q) := by
  pointwise [k0_pay1]

end Cert.Kernel4Ideal.Ffn

end
-- ==== Proof.Ffn2.Value.lean ====
/- The experts' second product: at the rows of the blocks in use the array the call leaves is the reference's term. -/
module

public import proofs.«01_k».proof.Proof.Ffn2.FrameIdeal
public import proofs.«01_k».proof.Proof.Ffn2.Ref
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat Cfg Window)

namespace Cert.Kernel4Ideal.Ffn

open Cert.Kernel4Ideal Cert.Kernel4Ideal.Gen

variable (m : (ℓ : Loc nD τ sig) → Buf (Elt Ideal) ℓ)

/-! ## The host operations' buffers -/

theorem V_v1 (c : Dev nD) : V m c main_v1 = truncf (F := Ideal) .bf16 (shapeCast S32x1024x4096 (m ((c : Thread nD τ).loc main_arg3)) shapeCasts_S1x32x1024x4096_S32x1024x4096) bitsLt_bf16_f32 := by
  unfold V hostOps0
  after_results <;> rfl

theorem V_v3 (c : Dev nD) : V m c main_v3 = shapeCast S32x1x4096 (shapeCast S32x4096 (m ((c : Thread nD τ).loc main_arg4)) shapeCasts_S1x32x4096_S32x4096) shapeCasts_S32x4096_S32x1x4096 := by
  unfold V hostOps0
  after_results <;> rfl

theorem weights_at (w : FVec Ideal S1x32x1024x4096 .f32) (e : Fin 32) (k : Fin 1024) (f : Fin 4096) :
    truncf (F := Ideal) .bf16 (shapeCast S32x1024x4096 w shapeCasts_S1x32x1024x4096_S32x1024x4096) bitsLt_bf16_f32 (ix3 e k f) = w (ix4 0 e k f) := by
  pointwise

theorem biases_at (b : FVec Ideal S1x32x4096 .f32) (e : Fin 32) (f : Fin 4096) :
    shapeCast S32x1x4096 (shapeCast S32x4096 b shapeCasts_S1x32x4096_S32x4096) shapeCasts_S32x4096_S32x1x4096 (ix3 e 0 f) = b (ix3 0 e f) := by
  pointwise

/-! ## The blocks of a point -/

/-- The expert of row block `i`. -/
theorem beOf_at (c : Dev nD) (t : Fin grid0.N) (i : Fin 160) (hi : i.val = t.val % 160) :
    beOf (tbl m) (grid0.coords t) = m ((c : Thread nD τ).loc main_arg0) (ix1 i) := by
  rw [← V_arg0 m c]
  show (tbl m 0) _ = _
  rw [← V_tbl m c 0]
  refine congrArg (V m c main_arg0) ?_
  funext a
  apply Fin.ext
  fin_cases a
  show (BitVec.ofNat 32 (grid0.coords t 1).val).toNat + 0 * 1 = i.val
  rw [(coords_val t).2, BitVec.toNat_ofNat]
  omega

theorem index0_at (hO : Ok m) (hR : InRange (tbl m)) (t : Fin (cfgM m hO).N) :
    ((cfgM m hO).win 0).index t = ![min (t.val % 160) ((nuOf (tbl m)).toNat - 1), 0] := by
  have e := index_0 (tbl m) hR (grid0.coords t)
  rw [(coords_val t).2] at e
  exact e
theorem index1_at (hO : Ok m) (t : Fin (cfgM m hO).N) :
    ((cfgM m hO).win 1).index t = ![(beOf (tbl m) (grid0.coords t)).toNat, 0, t.val / 160] := by
  have e := index_1 (tbl m) (grid0.coords t)
  rw [(coords_val t).1] at e
  exact e
theorem index2_at (hO : Ok m) (t : Fin (cfgM m hO).N) :
    ((cfgM m hO).win 2).index t = ![(beOf (tbl m) (grid0.coords t)).toNat, 0, t.val / 160] := by
  have e := index_2 (tbl m) (grid0.coords t)
  rw [(coords_val t).1] at e
  exact e

theorem blk_0 (hO : Ok m) (hR : InRange (tbl m)) (c : Dev nD) (t : Fin (cfgM m hO).N) (p : Fin 256) (k : Fin 1024) (r : Fin 40960)
    (hr : r.val = min (t.val % 160) ((nuOf (tbl m)).toNat - 1) * 256 + p.val) :
    (iblk m hO c 0 t : FVec Ideal S256x1024 .bf16) (ix2 p k) = (m ((c : Thread nD τ).loc main_arg2) : FVec Ideal S40960x1024 .bf16) (ix2 r k) := by
  rw [← V_arg2 m c]
  have e : (((cfgM m hO).win 0).rect t).emb (ix2 p k) = (ix2 r k : S40960x1024.Idx) := by
    funext a
    apply Fin.ext
    have h := Window.rect_emb_val ((cfgM m hO).win 0) t (ix2 p k) a rfl
    rw [index0_at m hO hR] at h
    refine h.trans ?_
    fin_cases a
    · show min (t.val % 160) ((nuOf (tbl m)).toNat - 1) * 256 + p.val = r.val
      exact hr.symm
    · show 0 * 1024 + k.val = k.val
      omega
  exact congrArg (V m c main_arg2) e

theorem blk_1 (hO : Ok m) (c : Dev nD) (t : Fin (cfgM m hO).N) (k : Fin 1024) (q : Fin 2048) (f : Fin 4096) (e : Fin 32)
    (he : e.val = (beOf (tbl m) (grid0.coords t)).toNat) (hf : f.val = t.val / 160 * 2048 + q.val) :
    (iblk m hO c 1 t : FVec Ideal S1x1024x2048 .bf16) (ix3 0 k q) = (m ((c : Thread nD τ).loc main_arg3) : FVec Ideal S1x32x1024x4096 .f32) (ix4 0 e k f) := by
  have e1 : (((cfgM m hO).win 1).rect t).emb (ix3 0 k q) = (ix3 e k f : S32x1024x4096.Idx) := by
    funext a
    apply Fin.ext
    have h := Window.rect_emb_val ((cfgM m hO).win 1) t (ix3 0 k q) a rfl
    rw [index1_at m hO] at h
    refine h.trans ?_
    fin_cases a
    · show (beOf (tbl m) (grid0.coords t)).toNat * 1 + 0 = e.val
      omega
    · show 0 * 1024 + k.val = k.val
      omega
    · show t.val / 160 * 2048 + q.val = f.val
      omega
  exact (congrArg (V m c main_v1) e1).trans ((congrFun (V_v1 m c) _).trans (weights_at _ e k f))

theorem blk_2 (hO : Ok m) (c : Dev nD) (t : Fin (cfgM m hO).N) (q : Fin 2048) (f : Fin 4096) (e : Fin 32)
    (he : e.val = (beOf (tbl m) (grid0.coords t)).toNat) (hf : f.val = t.val / 160 * 2048 + q.val) :
    (iblk m hO c 2 t : FVec Ideal S1x1x2048 .f32) (ix3 0 0 q) = (m ((c : Thread nD τ).loc main_arg4) : FVec Ideal S1x32x4096 .f32) (ix3 0 e f) := by
  have e1 : (((cfgM m hO).win 2).rect t).emb (ix3 0 0 q) = (ix3 e 0 f : S32x1x4096.Idx) := by
    funext a
    apply Fin.ext
    have h := Window.rect_emb_val ((cfgM m hO).win 2) t (ix3 0 0 q) a rfl
    rw [index2_at m hO] at h
    refine h.trans ?_
    fin_cases a
    · show (beOf (tbl m) (grid0.coords t)).toNat * 1 + 0 = e.val
      omega
    · show 0 * 1 + 0 = 0
      omega
    · show t.val / 160 * 2048 + q.val = f.val
      omega
  exact (congrArg (V m c main_v3) e1).trans ((congrFun (V_v3 m c) _).trans (biases_at _ e f))

/-- The reference's term at a memory's arguments. -/
def G (c : Dev nD) : FVec Ideal S40960x4096 .f32 :=
  Cert.Reference4Ideal.Ffn.Res (m ((c : Thread nD τ).loc main_arg0)) (m ((c : Thread nD τ).loc main_arg2))
    (m ((c : Thread nD τ).loc main_arg3)) (m ((c : Thread nD τ).loc main_arg4))

/-- What a point in use leaves is the reference's term at its block. -/
theorem pay_eq (hO : Ok m) (hR : InRange (tbl m)) (c : Dev nD) (t : Fin (cfgM m hO).N) (hl : t.val % 160 < (nuOf (tbl m)).toNat)
    (p : Fin 256) (q : Fin 2048) (r : Fin 40960) (f : Fin 4096) (hr : r.val = t.val % 160 * 256 + p.val) (hf : f.val = t.val / 160 * 2048 + q.val) :
    payAt m hO c t (ix2 p q) = G m c (ix2 r f) := by
  have hi : t.val % 160 < 160 := Nat.mod_lt _ (by decide)
  have hbe := beOf_at m c t ⟨t.val % 160, hi⟩ rfl
  have hlt : (m ((c : Thread nD τ).loc main_arg0) (ix1 ⟨t.val % 160, hi⟩) : BitVec 32).toNat < 32 := by
    rw [← hbe]; exact hR.be_lt _
  unfold G
  rw [Cert.Reference4Ideal.Ffn.res_at _ _ _ _ ⟨t.val % 160, hi⟩ p f r (by show r.val = 256 * (t.val % 160) + p.val; omega) hlt]
  refine (pay_at (iblk m hO c 0 t) (iblk m hO c 1 t) (iblk m hO c 2 t) p q).trans ?_
  refine Ideal.add_congr (Finset.sum_congr rfl fun k _ => Ideal.mul_congr ?_ ?_) ?_
  · exact blk_0 m hO hR c t p k r (by rw [hr, Nat.min_eq_left (by omega)])
  · exact blk_1 m hO c t k q f ⟨_, hlt⟩ (congrArg BitVec.toNat hbe.symm) hf
  · exact blk_2 m hO c t q f ⟨_, hlt⟩ (congrArg BitVec.toNat hbe.symm) hf

/-- The point a block's contents come from. -/
theorem src_val (hO : Ok m) (hR : InRange (tbl m)) (t : Fin (cfgM m hO).N) :
    (src m hO t).val % 160 = min (t.val % 160) ((nuOf (tbl m)).toNat - 1) ∧ (src m hO t).val / 160 = t.val / 160 := by
  have := hR.nu_pos
  show (t.val - (t.val % 160 + 1 - (nuOf (tbl m)).toNat)) % 160 = _ ∧ (t.val - (t.val % 160 + 1 - (nuOf (tbl m)).toNat)) / 160 = _
  omega

/-- The blocks a write-back writes hold the reference's term. -/
theorem flushed_eq (hO : Ok m) (hR : InRange (tbl m)) (c : Dev nD) (t : Fin (cfgM m hO).N) (y : (((cfgM m hO).win 3).xblock ((cfgM m hO).grid.coords t)).Idx) :
    _root_.cast (congrArg (Elt Ideal) (((cfgM m hO).win 3).blk t).view.elt_eq.symm) ((dats m hO 0 c).flushed 3 t y)
      = G m c ((((cfgM m hO).win 3).blk t).view.emb y) := by
  have hN : t.val < 320 := t.isLt
  have hnu := hR.nu_le
  have hpos := hR.nu_pos
  obtain ⟨h1, h2⟩ := src_val m hO hR t
  let p : Fin 256 := ⟨(y (0 : Fin 2)).val, (y (0 : Fin 2)).isLt⟩
  let q : Fin 2048 := ⟨(y (1 : Fin 2)).val, (y (1 : Fin 2)).isLt⟩
  let r : Fin 40960 := ⟨min (t.val % 160) ((nuOf (tbl m)).toNat - 1) * 256 + p.val, by have := p.isLt; omega⟩
  let f : Fin 4096 := ⟨t.val / 160 * 2048 + q.val, by have := q.isLt; omega⟩
  have e1 : (((cfgM m hO).win 3).rect t).emb y = (ix2 r f : S40960x4096.Idx) := by
    funext a
    apply Fin.ext
    have h := Window.rect_emb_val ((cfgM m hO).win 3) t y a rfl
    rw [index_at m hO hR] at h
    refine h.trans ?_
    fin_cases a <;> rfl
  have e2 : ((cfgM m hO).win 3).xinj ((cfgM m hO).grid.coords t) y = (ix2 p q : S256x2048.Idx) := by
    funext a
    apply Fin.ext
    fin_cases a <;> rfl
  have e3 := pay_eq m hO hR c (src m hO t) (by rw [h1]; omega) p q r f (by rw [h1]) (by rw [h2])
  exact (congrFun (after_3 m hO c t) _).trans ((congrArg (payAt m hO c (src m hO t)) e2).trans (e3.trans (congrArg (G m c) e1.symm)))

/-- At a row of a block in use the array after the run is the reference's term. -/
theorem final (hO : Ok m) (hR : InRange (tbl m)) (c : Dev nD) (r : Fin 40960) (f : Fin 4096) (hr : r.val < (nuOf (tbl m)).toNat * 256) :
    ((dats m hO 0 c).arrAt 3 (cfgM m hO).N : FVec Ideal S40960x4096 .f32) (ix2 r f) = G m c (ix2 r f) := by
  have hpos := hR.nu_pos
  have hnu := hR.nu_le
  have hf : f.val / 2048 < 2 := by have := f.isLt; omega
  -- the last point whose block is the element's
  let n : ℕ := f.val / 2048 * 160 + if r.val / 256 + 1 = (nuOf (tbl m)).toNat then 159 else r.val / 256
  have hn1 : n % 160 = if r.val / 256 + 1 = (nuOf (tbl m)).toNat then 159 else r.val / 256 := by
    show (f.val / 2048 * 160 + _) % 160 = _
    split <;> omega
  have hn2 : n / 160 = f.val / 2048 := by
    show (f.val / 2048 * 160 + _) / 160 = _
    split <;> omega
  have hmin : min (n % 160) ((nuOf (tbl m)).toNat - 1) = r.val / 256 := by
    rw [hn1]; split <;> omega
  have hnN : n < 320 := by omega
  let t : Fin (cfgM m hO).N := ⟨n, hnN⟩
  have hidx : ((cfgM m hO).win 3).index t = ![r.val / 256, f.val / 2048] := by
    rw [index_at m hO hR t, ← hmin, ← hn2]
  have hfl : ((cfgM m hO).win 3).flush t = true := by
    have hout : ((cfgM m hO).win 3).isOut = true := rfl
    unfold Window.flush
    rw [hout, Bool.true_and]
    by_cases he : n + 1 = 320
    · exact Bool.or_eq_true_iff.mpr (.inl (decide_eq_true he))
    · refine Bool.or_eq_true_iff.mpr (.inr (decide_eq_true ⟨show n + 1 < 320 by omega, fun h => ?_⟩))
      rw [hidx, index_at m hO hR] at h
      have h0 : min ((n + 1) % 160) ((nuOf (tbl m)).toNat - 1) = r.val / 256 := congrFun h 0
      have h1 : (n + 1) / 160 = f.val / 2048 := congrFun h 1
      split at hn1 <;> omega
  have hmem : (ix2 r f : S40960x4096.Idx) ∈ (((cfgM m hO).win 3).blk t).view.set := by
    refine (Window.emb_mem_blk_iff ((cfgM m hO).win 3) t (ix2 r f) rfl).mpr fun a => ?_
    rw [hidx]
    fin_cases a
    · show r.val / 256 * 256 ≤ r.val ∧ r.val < r.val / 256 * 256 + 256
      omega
    · show f.val / 2048 * 2048 ≤ f.val ∧ f.val < f.val / 2048 * 2048 + 2048
      omega
  exact (dats m hO 0 c).arrAt_forall_of_flushed 3 (fun i v => v = G m c i) (fun t _ y => flushed_eq m hO hR c t y) (cfgM m hO).N t (ix2 r f) t.isLt hfl hmem

end Cert.Kernel4Ideal.Ffn

end
-- ==== Proof.Ffn2.Claim.lean ====
/- The experts' second product: the frames and the value claim. -/
module

public import proofs.«01_k».proof.Defs
public import proofs.«01_k».proof.Proof.Ffn2.Pre
public import proofs.«01_k».proof.Proof.Ffn2.Value
public import Idealize.ShloMosaic.Lib.Claim
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Kernel4Ideal.Ffn

open Cert.Kernel4Ideal Cert.Kernel4Ideal.Gen

/-- Every run leaves the reference's term at the rows of the blocks in use, and the arguments as they were. -/
theorem run_value (m : (ℓ : Loc nD τ sig) → Buf (Elt Ideal) ℓ) (ρ : Dev nD → PrngReg) (hR : InRange (tbl m)) :
    θ_run defs (onTc (τ := τ) (main (F := Ideal))) ⟨m, fun _ => 0, ρ⟩ (fun r => ∀ c : Dev nD,
      (∀ (i : Fin 40960) (f : Fin 4096), i.val < (nuOf (tbl m)).toNat * 256 → r.2.mem ((c.tc : Thread nD τ).loc main_v4) (ix2 i f) = G m c (ix2 i f))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hO : Ok m := ok_of_inRange (tbl m) hR
  (θ_run defs _ _).mono (fun r ⟨h, _⟩ c => ⟨fun i f hi => (congrFun ((h c).1 3) (ix2 i f)).trans (final m hO hR c i f hi),
      ((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats m hO 0 c).arrAt_in 0 rfl _).trans ((A_eq m hO c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c)⟩) (run_all m ρ hO hR)

end Cert.Kernel4Ideal.Ffn

namespace Cert.Reference4Ideal.Ffn

/-- The reference's run, its result by name. -/
theorem run_named (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => ∀ c : Dev Cert.Reference4Ideal.nD,
      r.2.mem ((c.tc : Thread Cert.Reference4Ideal.nD Cert.Reference4Ideal.τ).loc Cert.Reference4Ideal.main_v22)
        = Res (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg2))
            (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)) :=
  (θ_run Cert.Reference4Ideal.defs _ _).mono (fun _ h c => ⟨(h c).1.trans rfl, (h c).2⟩) (Cert.Reference4Ideal.Value.run (F := Ideal) m g)

end Cert.Reference4Ideal.Ffn

namespace Cert.Proof

/-- The program keeps its arguments and ends quiescent, where the tables are in range. -/
theorem ffn2_frame : Cert.quiescent_Kernel4 (hKernel4 := Cert.Kernel4.Gen.facts) (hPre_tables4 := Cert.Pre_tables4.Gen.facts) := fun m ρ hpre =>
  Cert.Kernel4.Ffn.frame m ρ (Cert.Kernel4.Ffn.inRange m 0 (hpre 0))

theorem ffn2_ideal_frame : Cert.quiescent_Kernel4Ideal (hKernel4Ideal := Cert.Kernel4Ideal.Gen.facts) (hPre_tables4 := Cert.Pre_tables4.Gen.facts) := fun m ρ hpre =>
  Cert.Kernel4Ideal.Ffn.frame m ρ (Cert.Kernel4Ideal.Ffn.inRange m 0 (hpre 0))

theorem ffn2_ref_frame : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The second product's value, at the rows of the blocks in use. -/
theorem ffn2_value : Cert.algebraic_Kernel4Ideal_Reference4Ideal_on_used4 (hKernel4Ideal := Cert.Kernel4Ideal.Gen.facts) (hReference4Ideal := Cert.Reference4Ideal.Gen.facts)
    (hPre_tables4 := Cert.Pre_tables4.Gen.facts) (hOn_used4 := Cert.On_used4.Gen.facts) := fun m g m' g' hpre heq => by
  have hR := Cert.Kernel4Ideal.Ffn.inRange m 0 (hpre 0)
  refine ⟨fun c => Cert.Kernel4Ideal.Ffn.G m c, ?_, ?_⟩
  · refine (θ_run _ _ _).mono (fun r h c => ⟨fun i hi => ?_, (h c).2⟩) (Cert.Kernel4Ideal.Ffn.run_value m g hR)
    have hi' := hi
    rw [eq_ix2 i] at hi' ⊢
    refine (h c).1 (i 0) (i 1) ?_
    rw [Cert.Kernel4Ideal.Ffn.nuOf_eq m c]
    refine Cert.On_used4.row_of_fn _ _ _ _ _ ?_ (i 0) (i 1) hi'
    rw [← Cert.Kernel4Ideal.Ffn.nuOf_eq m c]
    exact hR.nu_le
  · refine (θ_run _ _ _).mono (fun r h c => ⟨fun i _ => ?_, (h c).2⟩) (Cert.Reference4Ideal.Ffn.run_named m' g')
    obtain ⟨e0, e1, e2, e3, e4⟩ := heq c
    refine (congrFun (h c).1 i).trans ?_
    rw [e0, e2, e3, e4]
    rfl

end Cert.Proof

end
-- ==== Proof.Inproj.RunIdeal.lean ====
module

public import proofs.«01_k».proof.Proof.Gen.Kernel5Ideal.Launch
public import proofs.«01_k».proof.Proof.Gen.Kernel5Ideal.Skeleton
public import proofs.«01_k».proof.Proof.Gen.Kernel5Ideal.Loops
public import proofs.«01_k».proof.Proof.FfnAux
public import Idealize.ShloMosaic.Lib.Ring
public import Idealize.ShloMosaic.Lib.Tactic
public import Idealize.ShloMosaic.Lib.Claim
public import Idealize.ShloMosaic.Lib.Pipeline.Value
public import Idealize.ShloMosaic.Lib.Pipeline.ValueKit

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Rows 16·k … 16·k + 15 of a block of x. -/
def rows (x0 : Vec F S512x4096 .f32) (k : Fin 32) : Vec F S16x4096 .f32 :=
  fun z => x0 (ix2 ⟨16 * k.val + (z 0).val, by have h1 : (z 0).val < 16 := (z 0).isLt; have h2 := k.isLt; omega⟩ (z 1))

/-- The normed and modulated rows of one block, as the loop leaves them in the scratch buffer. -/
def hv (x0 : Vec F S512x4096 .f32) (g sc sh : Vec F S1x4096 .f32) : Vec F S512x4096 .bf16 :=
  fun y => k0_pay1 (rows x0 ⟨(y 0).val / 16, by have h1 : (y 0).val < 512 := (y 0).isLt; omega⟩) g sc sh
    (ix2 ⟨(y 0).val % 16, Nat.mod_lt _ (by norm_num)⟩ (y 1))

/-- The rows a trip works on begin at 16·k. -/
theorem off1_eq (k : Fin k0_t1_loop.trips) : k0_off1 k = ![16 * k.val, 0] := by
  have hk : k.val < 32 := Nat.lt_of_lt_of_le k.isLt k0_t1_abs.2.1
  unfold k0_off1 Scf.iv
  have : (Scalar.indexCast (Scalar.muli (0#32 + BitVec.ofNat 32 k.val * 1#32) 16#32)).toNat = 16 * k.val := by
    show ((0#32 + BitVec.ofNat 32 k.val * 1#32) * 16#32).toNat = _
    rw [BitVec.toNat_mul, BitVec.toNat_add, BitVec.toNat_mul, BitVec.toNat_ofNat]
    simp; omega
  funext a; fin_cases a
  · exact this
  · rfl

/-- One trip of the loop stores one piece, a block of `hv`. -/
theorem trip_piece (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole) (k0_h1 : k0_cond1 i = 1#1) (x0 : Vec F S512x4096 .f32) (g sc sh : Vec F S1x4096 .f32) (k : Fin k0_t1_loop.trips)  :
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread x0) (harg3.unread g) (harg4.unread sc) (harg5.unread sh) k)
     = [⟨Rect.unit (s := S512x4096) (k0_off1 k) S16x4096.size (k0_off1_inb i k k0_h1), k0_pay1 (View.readAt (Elt F) arg2.view (Rect.unit (s := S512x4096) (k0_off1 k) S16x4096.size (k0_off1_inb i k k0_h1)).toLoadRect (harg2.unread x0)) g sc sh⟩] := by
  have e3 : View.readAt (Elt F) arg3.view (Rect.unit (s := S1x4096) ![0, 0] S1x4096.size inb_S1x4096_S1x4096_0_0).toLoadRect (harg3.unread g) = g :=
    FfnAux.load_whole harg3 g (by funext a; fin_cases a <;> rfl) _
  have e4 : View.readAt (Elt F) arg4.view (Rect.unit (s := S1x4096) ![0, 0] S1x4096.size inb_S1x4096_S1x4096_0_0).toLoadRect (harg4.unread sc) = sc :=
    FfnAux.load_whole harg4 sc (by funext a; fin_cases a <;> rfl) _
  have e5 : View.readAt (Elt F) arg5.view (Rect.unit (s := S1x4096) ![0, 0] S1x4096.size inb_S1x4096_S1x4096_0_0).toLoadRect (harg5.unread sh) = sh :=
    FfnAux.load_whole harg5 sh (by funext a; fin_cases a <;> rfl) _
  unfold tripL_k0_t1 trip_k0_t1
  dsimp only
  rw [e3, e4, e5]

/-- The place of an element of a trip's rows in the block. -/
theorem off1_idx (i : grid0.Coords) (k0_h1 : k0_cond1 i = 1#1) (k : Fin k0_t1_loop.trips) (x : S16x4096.Idx) (hk : k.val < 32) :
    (Rect.unit (s := S512x4096) (k0_off1 k) S16x4096.size (k0_off1_inb i k k0_h1)).emb x
      = ix2 ⟨16 * k.val + (x 0).val, by have h1 : (x 0).val < 16 := (x 0).isLt; omega⟩ (x 1) := by
  funext a
  refine Fin.ext ?_
  show (k0_off1 k) a + 1 * (x a).val = _
  rw [off1_eq]
  fin_cases a
  · show 16 * k.val + 1 * (x 0).val = 16 * k.val + (x 0).val; omega
  · show 0 + 1 * (x 1).val = (x 1).val; omega

/-- All the trips' pieces are blocks of `hv`, and they fill the buffer. -/
theorem pieces_spec (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole) (k0_h1 : k0_cond1 i = 1#1) (x0 : Vec F S512x4096 .f32) (g sc sh : Vec F S1x4096 .f32) (n : ℕ) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread x0) (harg3.unread g) (harg4.unread sc) (harg5.unread sh) n,
      ∀ x : p.1.shape.Idx, p.2 x = hv x0 g sc sh (p.1.emb x))
    ∧ ∀ y : S512x4096.Idx, (y 0).val < 16 * n → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread x0) (harg3.unread g) (harg4.unread sc) (harg5.unread sh) n, y ∈ p.1.set := by
  induction n with
  | zero => exact ⟨fun p hp => absurd hp List.not_mem_nil, fun y hy => absurd hy (by omega)⟩
  | succ n ih =>
    obtain ⟨h1, h2⟩ := ih (by omega)
    have hk : n < 32 := Nat.lt_of_lt_of_le (Nat.lt_of_succ_le hn) k0_t1_abs.2.1
    have hs := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread x0) (harg3.unread g) (harg4.unread sc) (harg5.unread sh) ⟨n, hn⟩
    rw [trip_piece] at hs
    rw [show n + 1 = (⟨n, hn⟩ : Fin k0_t1_loop.trips).val + 1 from rfl, hs]
    constructor
    · intro p hp x
      rcases List.mem_cons.mp hp with rfl | hp
      · rw [off1_idx i k0_h1 ⟨n, hn⟩ x hk]
        have hr : (View.readAt (Elt F) arg2.view (Rect.unit (s := S512x4096) (k0_off1 ⟨n, hn⟩) S16x4096.size (k0_off1_inb i ⟨n, hn⟩ k0_h1)).toLoadRect (harg2.unread x0)) = rows x0 ⟨n, hk⟩ := by
          funext z
          rw [Memref.IsWhole.readAt_unread]
          exact congrArg x0 (off1_idx i k0_h1 ⟨n, hn⟩ z hk)
        have hx : (x 0).val < 16 := (x 0).isLt
        show k0_pay1 _ g sc sh x = k0_pay1 (rows x0 ⟨(16 * n + (x 0).val) / 16, _⟩) g sc sh (ix2 ⟨(16 * n + (x 0).val) % 16, _⟩ (x 1))
        rw [hr]
        have a1 : (⟨(16 * n + (x 0).val) / 16, by omega⟩ : Fin 32) = ⟨n, hk⟩ := Fin.ext (by show (16 * n + (x 0).val) / 16 = n; omega)
        have a2 : (ix2 ⟨(16 * n + (x 0).val) % 16, by omega⟩ (x 1) : S16x4096.Idx) = x := by
          funext a; refine Fin.ext ?_
          fin_cases a
          · show (16 * n + (x 0).val) % 16 = (x 0).val; omega
          · rfl
        rw [a1, a2]
      · exact h1 p hp x
    · intro y hy
      change (y 0).val < 16 * (n + 1) at hy
      by_cases hlt : (y 0).val < 16 * n
      · obtain ⟨p, hp, hy'⟩ := h2 y hlt
        exact ⟨p, List.mem_cons_of_mem _ hp, hy'⟩
      · refine ⟨_, List.mem_cons_self, ?_⟩
        rw [Rect.mem_set_unit]
        intro a
        rw [off1_eq]
        have h4096 : (y 1).val < 4096 := (y 1).isLt
        fin_cases a
        · show 16 * n ≤ (y 0).val ∧ (y 0).val < 16 * n + 16; omega
        · show 0 ≤ (y 1).val ∧ (y 1).val < 0 + 4096; omega

/-- The loop runs 32 times. -/
theorem trips_eq : k0_t1_loop.trips = 32 := by decide +kernel

/-- After the loop the scratch buffer holds `hv`, whatever it held before. -/
theorem scratch_eq (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole) (k0_h1 : k0_cond1 i = 1#1) (x0 : Vec F S512x4096 .f32) (g sc sh : Vec F S1x4096 .f32) (G : BufTy.Contents (Elt F) arg15.view.ty) :
    arg15.view.read (Elt F) (arg15.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 (harg2.unread x0) (harg3.unread g) (harg4.unread sc) (harg5.unread sh) k0_t1_loop.trips)) = hv x0 g sc sh := by
  obtain ⟨h1, h2⟩ := pieces_spec (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 k0_h1 x0 g sc sh k0_t1_loop.trips le_rfl
  have h3 : ∀ y, _ := fun y : S512x4096.Idx => h2 y (by rw [trips_eq]; exact (y 0).isLt)
  funext y
  rw [View.read_writes_apply_eq_canon _ _ _ _ (h3 y)]
  exact View.canon_apply_of_pieces (hv x0 g sc sh) _ h1 y (h3 y)

/-- So a load of the whole of it is `hv`. -/
theorem scratch_load {m : Memref sig .tc .vmem S512x4096 .bf16} (f : BufTy.Contents (Elt F) m.view.ty) :
    View.readAt (Elt F) m.view (Rect.unit (s := S512x4096) ![0, 0] S512x4096.size inb_S512x4096_S512x4096_0_0).toLoadRect f = m.view.read (Elt F) f := by
  rw [View.readAt_eq_ld]
  exact View.ld_unit_zero (by funext a; fin_cases a <;> rfl) _ _

set_option maxHeartbeats 4000000 in
/-- The first point of a row block: the loop, and a block of the pooled features. -/
theorem run_loop (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole)
    (x0 : Vec F S512x4096 .f32) (x1 : Vec F S1x4096 .f32) (x2 : Vec F S1x4096 .f32) (x3 : Vec F S1x4096 .f32) (x4 : Vec F S4096x512 .bf16)
    (hc1 : k0_cond1 i = 1#1) (hc2 : k0_cond2 i = 1#1) (hc3 : ¬ k0_cond3 i = 1#1) (hc4 : ¬ k0_cond4 i = 1#1) (hc5 : ¬ k0_cond5 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg11 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg11 fullShare (k0_pay3 (hv x0 x1 x2 x3) x4) ∗ owns (c : Thread nD τ) arg15 fullShare (hv x0 x1 x2 x3)) -∗ K ⟨⟩))
      ⊢ wp frame (wpE (defs₀ (F := F)) Variants.none c none) E (cc0_inproj (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  have e2 : View.readAt (Elt F) arg2.view (Rect.unit (s := S512x4096) ![0, 0] S512x4096.size inb_S512x4096_S512x4096_0_0).toLoadRect (harg2.unread x0) = x0 :=
    FfnAux.load_whole harg2 x0 (by funext a; fin_cases a <;> rfl) _
  have e3 : View.readAt (Elt F) arg3.view (Rect.unit (s := S1x4096) ![0, 0] S1x4096.size inb_S1x4096_S1x4096_0_0).toLoadRect (harg3.unread x1) = x1 :=
    FfnAux.load_whole harg3 x1 (by funext a; fin_cases a <;> rfl) _
  have e4 : View.readAt (Elt F) arg4.view (Rect.unit (s := S1x4096) ![0, 0] S1x4096.size inb_S1x4096_S1x4096_0_0).toLoadRect (harg4.unread x2) = x2 :=
    FfnAux.load_whole harg4 x2 (by funext a; fin_cases a <;> rfl) _
  have e5 : View.readAt (Elt F) arg5.view (Rect.unit (s := S1x4096) ![0, 0] S1x4096.size inb_S1x4096_S1x4096_0_0).toLoadRect (harg5.unread x3) = x3 :=
    FfnAux.load_whole harg5 x3 (by funext a; fin_cases a <;> rfl) _
  have e6 : View.readAt (Elt F) arg6.view (Rect.unit (s := S4096x512) ![0, 0] S4096x512.size inb_S4096x512_S4096x512_0_0).toLoadRect (harg6.unread x4) = x4 :=
    FfnAux.load_whole harg6 x4 (by funext a; fin_cases a <;> rfl) _
  iintro ⟨⟨%f2, %hf2, H2⟩, ⟨%f3, %hf3, H3⟩, ⟨%f4, %hf4, H4⟩, ⟨%f5, %hf5, H5⟩, ⟨%f6, %hf6, H6⟩, ⟨%d11, %f11, -, H11⟩, ⟨%d15, %f15, -, H15⟩, Hk⟩
  obtain rfl := harg2.eq_unread hf2
  obtain rfl := harg3.eq_unread hf3
  obtain rfl := harg4.eq_unread hf4
  obtain rfl := harg5.eq_unread hf5
  obtain rfl := harg6.eq_unread hf6
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H11]
  · iexists _; isplitr
    swap; · iexact H11
    ipureintro
    refine (FfnAux.store_whole arg11.view f11 _ (by funext a; fin_cases a <;> rfl) _).trans (congrArg (fun h => k0_pay3 h x4) ?_)
    unfold run_loop.sl.v3
    exact (scratch_load _).trans (scratch_eq Variants.none c none i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 f15)
  · iexists _; isplitr
    swap; · iexact H15
    ipureintro
    exact scratch_eq Variants.none c none i arg2 harg2 arg3 harg3 arg4 harg4 arg5 harg5 arg6 harg6 arg7 harg7 arg8 harg8 arg9 harg9 arg10 harg10 arg11 harg11 arg12 harg12 arg13 harg13 arg14 harg14 arg15 harg15 hc1 x0 x1 x2 x3 f15

set_option maxHeartbeats 4000000 in
/-- The next points: a block of the pooled features. -/
theorem run_pool (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole)
    (x4 : Vec F S4096x512 .bf16) (hh : Vec F S512x4096 .bf16)
    (hc1 : ¬ k0_cond1 i = 1#1) (hc2 : k0_cond2 i = 1#1) (hc3 : ¬ k0_cond3 i = 1#1) (hc4 : ¬ k0_cond4 i = 1#1) (hc5 : ¬ k0_cond5 i = 1#1) (E : Set ℕ) (K : PUnit → sProp 𝕄) :
    iprop(owns (c : Thread nD τ) arg6 fullShare x4 ∗ owns (c : Thread nD τ) arg15 fullShare hh ∗ (∃ d, owns (c : Thread nD τ) arg11 fullShare d)
        ∗ (iprop(owns (c : Thread nD τ) arg6 fullShare x4 ∗ owns (c : Thread nD τ) arg15 fullShare hh ∗ owns (c : Thread nD τ) arg11 fullShare (k0_pay3 hh x4)) -∗ K ⟨⟩))
      ⊢ wp frame (wpE (defs₀ (F := F)) Variants.none c none) E (cc0_inproj (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  have e6 : View.readAt (Elt F) arg6.view (Rect.unit (s := S4096x512) ![0, 0] S4096x512.size inb_S4096x512_S4096x512_0_0).toLoadRect (harg6.unread x4) = x4 :=
    FfnAux.load_whole harg6 x4 (by funext a; fin_cases a <;> rfl) _
  have e15 : View.readAt (Elt F) arg15.view (Rect.unit (s := S512x4096) ![0, 0] S512x4096.size inb_S512x4096_S512x4096_0_0).toLoadRect (harg15.unread hh) = hh :=
    FfnAux.load_whole harg15 hh (by funext a; fin_cases a <;> rfl) _
  iintro ⟨⟨%f6, %hf6, H6⟩, ⟨%f15, %hf15, H15⟩, ⟨%d11, %f11, -, H11⟩, Hk⟩
  obtain rfl := harg6.eq_unread hf6
  obtain rfl := harg15.eq_unread hf15
  sl_exec
  sl_step
  iapply Hk
  isplitl [H6]
  · iexists _; isplitr; · ipureintro; exact harg6.read_unread _
    iexact H6
  isplitl [H15]
  · iexists _; isplitr; · ipureintro; exact harg15.read_unread _
    iexact H15
  · iexists _; isplitr
    swap; · iexact H11
    ipureintro
    exact FfnAux.store_whole arg11.view f11 _ (by funext a; fin_cases a <;> rfl) _

set_option maxHeartbeats 4000000 in
/-- The last point: the values, transposed. -/
theorem run_v (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole)
    (x4 : Vec F S4096x512 .bf16) (hh : Vec F S512x4096 .bf16)
    (hc1 : ¬ k0_cond1 i = 1#1) (hc2 : ¬ k0_cond2 i = 1#1) (hc3 : ¬ k0_cond3 i = 1#1) (hc4 : ¬ k0_cond4 i = 1#1) (hc5 : k0_cond5 i = 1#1) (E : Set ℕ) (K : PUnit → sProp 𝕄) :
    iprop(owns (c : Thread nD τ) arg6 fullShare x4 ∗ owns (c : Thread nD τ) arg15 fullShare hh ∗ (∃ d, owns (c : Thread nD τ) arg14 fullShare d)
        ∗ (iprop(owns (c : Thread nD τ) arg6 fullShare x4 ∗ owns (c : Thread nD τ) arg15 fullShare hh ∗ owns (c : Thread nD τ) arg14 fullShare (k0_pay6 hh x4)) -∗ K ⟨⟩))
      ⊢ wp frame (wpE (defs₀ (F := F)) Variants.none c none) E (cc0_inproj (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  unfold owns
  have e6 : View.readAt (Elt F) arg6.view (Rect.unit (s := S4096x512) ![0, 0] S4096x512.size inb_S4096x512_S4096x512_0_0).toLoadRect (harg6.unread x4) = x4 :=
    FfnAux.load_whole harg6 x4 (by funext a; fin_cases a <;> rfl) _
  have e15 : View.readAt (Elt F) arg15.view (Rect.unit (s := S512x4096) ![0, 0] S512x4096.size inb_S512x4096_S512x4096_0_0).toLoadRect (harg15.unread hh) = hh :=
    FfnAux.load_whole harg15 hh (by funext a; fin_cases a <;> rfl) _
  iintro ⟨⟨%f6, %hf6, H6⟩, ⟨%f15, %hf15, H15⟩, ⟨%d14, %f14, -, H14⟩, Hk⟩
  obtain rfl := harg6.eq_unread hf6
  obtain rfl := harg15.eq_unread hf15
  sl_exec
  sl_step
  iapply Hk
  isplitl [H6]
  · iexists _; isplitr; · ipureintro; exact harg6.read_unread _
    iexact H6
  isplitl [H15]
  · iexists _; isplitr; · ipureintro; exact harg15.read_unread _
    iexact H15
  · iexists _; isplitr
    swap; · iexact H14
    ipureintro
    exact FfnAux.store_whole arg14.view f14 _ (by funext a; fin_cases a <;> rfl) _

/-- The lanes of head `h` of four. -/
def sl (v : FVec F S512x512 .f32) (h : Fin 4) : FVec F S512x128 .f32 :=
  fun z => v (ix2 (z 0) ⟨128 * h.val + (z 1).val, by have h1 : (z 1).val < 128 := (z 1).isLt; have h2 := h.isLt; omega⟩)

/-- One head normed: each row over the root of its mean square, times the gains. -/
def headNorm (v : FVec F S512x128 .f32) (g : Vec F S1x128 .f32) : FVec F S512x128 .f32 :=
  mulf (mulf v (broadcastTo S512x128 (rsqrt (addf (divf (shapeCast S512x1 (multiReduction .add [1] S512 (mulf v v) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 g broadcasts_S1x128_S512x128)

/-- A normed head rotated: itself times the cosines plus its partner times the signed sines. -/
def headRope (n : FVec F S512x128 .f32) (cs sn : Vec F S512x128 .f32) : FVec F S512x128 .f32 :=
  addf (mulf n cs) (mulf (select k0_pay10 (dynamicRotate 1 96#32 none n rotates_S512x128_d1) (dynamicRotate 1 32#32 none n rotates_S512x128_d1)) sn)

/-- A head of queries, transposed, and a head of keys. -/
def qHead (v : FVec F S512x128 .f32) (g : Vec F S1x128 .f32) (cs sn : Vec F S512x128 .f32) : FVec F S128x512 .bf16 :=
  truncf .bf16 (transpose S128x512 [1, 0] (mulf (headRope (headNorm v g) cs sn) (broadcast S512x128 (Named.named κ "q_scale" 0x3E0293EE#32))) transposes_S512x128_p1_0_S128x512) bitsLt_bf16_f32
def kHead (v : FVec F S512x128 .f32) (g : Vec F S1x128 .f32) (cs sn : Vec F S512x128 .f32) : FVec F S512x128 .bf16 :=
  truncf .bf16 (headRope (headNorm v g) cs sn) bitsLt_bf16_f32

/-- Four heads of queries, one under another, and four heads of keys side by side. -/
def qtv (v : FVec F S512x512 .f32) (g : Vec F S1x128 .f32) (cs sn : Vec F S512x128 .f32) : Vec F S512x512 .bf16 :=
  fun y => qHead (sl v ⟨(y 0).val / 128, by have h1 : (y 0).val < 512 := (y 0).isLt; omega⟩) g cs sn (ix2 ⟨(y 0).val % 128, Nat.mod_lt _ (by norm_num)⟩ (y 1))
def kv (v : FVec F S512x512 .f32) (g : Vec F S1x128 .f32) (cs sn : Vec F S512x128 .f32) : Vec F S512x512 .bf16 :=
  fun y => kHead (sl v ⟨(y 1).val / 128, by have h1 : (y 1).val < 512 := (y 1).isLt; omega⟩) g cs sn (ix2 (y 0) ⟨(y 1).val % 128, Nat.mod_lt _ (by norm_num)⟩)

theorem slice_eq (v : FVec F S512x512 .f32) (h : Fin 4) {o : ℕ} (ho : o = 128 * h.val) (hs : S512x512.Slices ![0, o] S512x128) :
    extractStridedSlice S512x128 ![0, o] v hs = sl v h := by
  subst ho
  funext z
  refine congrArg v ?_
  funext a; refine Fin.ext ?_
  fin_cases a
  · show 0 + (z 0).val = (z 0).val; omega
  · rfl

theorem q_piece (v : FVec F S512x512 .f32) (g : Vec F S1x128 .f32) (cs sn : Vec F S512x128 .f32) (h : Fin 4) {o : ℕ} (ho : o = 128 * h.val)
    (inb : ∀ a, (![o, 0] : Fin 2 → ℕ) a + S128x512.size a ≤ S512x512.size a) (x : S128x512.Idx) :
    qHead (sl v h) g cs sn x = qtv v g cs sn ((Rect.unit (s := S512x512) ![o, 0] S128x512.size inb).emb x) := by
  subst ho
  have hx : (x 0).val < 128 := (x 0).isLt
  have hh := h.isLt
  have e0 : ((Rect.unit (s := S512x512) ![128 * h.val, 0] S128x512.size inb).emb x 0).val = 128 * h.val + (x 0).val := by
    show 128 * h.val + 1 * (x 0).val = _; omega
  have e1 : (Rect.unit (s := S512x512) ![128 * h.val, 0] S128x512.size inb).emb x 1 = x 1 := Fin.ext (by
    show 0 + 1 * (x 1).val = _; omega)
  unfold qtv
  have a1 : (⟨((Rect.unit (s := S512x512) ![128 * h.val, 0] S128x512.size inb).emb x 0).val / 128, by rw [e0]; omega⟩ : Fin 4) = h := Fin.ext (by
    show ((Rect.unit (s := S512x512) ![128 * h.val, 0] S128x512.size inb).emb x 0).val / 128 = _
    rw [e0]; omega)
  have a2 : (ix2 ⟨((Rect.unit (s := S512x512) ![128 * h.val, 0] S128x512.size inb).emb x 0).val % 128, Nat.mod_lt _ (by norm_num)⟩ ((Rect.unit (s := S512x512) ![128 * h.val, 0] S128x512.size inb).emb x 1) : S128x512.Idx) = x := by
    funext a; refine Fin.ext ?_
    fin_cases a
    · show ((Rect.unit (s := S512x512) ![128 * h.val, 0] S128x512.size inb).emb x 0).val % 128 = (x 0).val
      rw [e0]; omega
    · exact congrArg Fin.val e1
  exact (congrArg₂ (fun (h' : Fin 4) (z : S128x512.Idx) => qHead (sl v h') g cs sn z) a1 a2).symm

theorem k_piece (v : FVec F S512x512 .f32) (g : Vec F S1x128 .f32) (cs sn : Vec F S512x128 .f32) (h : Fin 4) {o : ℕ} (ho : o = 128 * h.val)
    (inb : ∀ a, (![0, o] : Fin 2 → ℕ) a + S512x128.size a ≤ S512x512.size a) (x : S512x128.Idx) :
    kHead (sl v h) g cs sn x = kv v g cs sn ((Rect.unit (s := S512x512) ![0, o] S512x128.size inb).emb x) := by
  subst ho
  have hx : (x 1).val < 128 := (x 1).isLt
  have hh := h.isLt
  have e0 : ((Rect.unit (s := S512x512) ![0, 128 * h.val] S512x128.size inb).emb x 1).val = 128 * h.val + (x 1).val := by
    show 128 * h.val + 1 * (x 1).val = _; omega
  have e1 : (Rect.unit (s := S512x512) ![0, 128 * h.val] S512x128.size inb).emb x 0 = x 0 := Fin.ext (by
    show 0 + 1 * (x 0).val = _; omega)
  unfold kv
  have a1 : (⟨((Rect.unit (s := S512x512) ![0, 128 * h.val] S512x128.size inb).emb x 1).val / 128, by rw [e0]; omega⟩ : Fin 4) = h := Fin.ext (by
    show ((Rect.unit (s := S512x512) ![0, 128 * h.val] S512x128.size inb).emb x 1).val / 128 = _
    rw [e0]; omega)
  have a2 : (ix2 ((Rect.unit (s := S512x512) ![0, 128 * h.val] S512x128.size inb).emb x 0) ⟨((Rect.unit (s := S512x512) ![0, 128 * h.val] S512x128.size inb).emb x 1).val % 128, Nat.mod_lt _ (by norm_num)⟩ : S512x128.Idx) = x := by
    funext a; refine Fin.ext ?_
    fin_cases a
    · exact congrArg Fin.val e1
    · show ((Rect.unit (s := S512x512) ![0, 128 * h.val] S512x128.size inb).emb x 1).val % 128 = (x 1).val
      rw [e0]; omega
  exact (congrArg₂ (fun (h' : Fin 4) (z : S512x128.Idx) => kHead (sl v h') g cs sn z) a1 a2).symm

theorem q_read (w : View sig .tc .vmem S512x512 .bf16) (f : w.ty.Contents (Elt F)) (v : FVec F S512x512 .f32) (g : Vec F S1x128 .f32) (cs sn : Vec F S512x128 .f32) :
    w.read (Elt F) (w.writes (Elt F) f
      [⟨Rect.unit (s := S512x512) ![384, 0] S128x512.size inb_S512x512_S128x512_384_0, qHead (extractStridedSlice S512x128 ![0, 384] v slices_S512x512_o0_384_S512x128) g cs sn⟩,
       ⟨Rect.unit (s := S512x512) ![256, 0] S128x512.size inb_S512x512_S128x512_256_0, qHead (extractStridedSlice S512x128 ![0, 256] v slices_S512x512_o0_256_S512x128) g cs sn⟩,
       ⟨Rect.unit (s := S512x512) ![128, 0] S128x512.size inb_S512x512_S128x512_128_0, qHead (extractStridedSlice S512x128 ![0, 128] v slices_S512x512_o0_128_S512x128) g cs sn⟩,
       ⟨Rect.unit (s := S512x512) ![0, 0] S128x512.size inb_S512x512_S128x512_0_0, qHead (extractStridedSlice S512x128 ![0, 0] v slices_S512x512_o0_0_S512x128) g cs sn⟩]) = qtv v g cs sn := by
  rw [slice_eq v 3 (o := 384) rfl, slice_eq v 2 (o := 256) rfl, slice_eq v 1 (o := 128) rfl, slice_eq v 0 (o := 0) rfl]
  funext y
  have hc : ∃ p ∈ ([⟨Rect.unit (s := S512x512) ![384, 0] S128x512.size inb_S512x512_S128x512_384_0, qHead (sl v 3) g cs sn⟩,
       ⟨Rect.unit (s := S512x512) ![256, 0] S128x512.size inb_S512x512_S128x512_256_0, qHead (sl v 2) g cs sn⟩,
       ⟨Rect.unit (s := S512x512) ![128, 0] S128x512.size inb_S512x512_S128x512_128_0, qHead (sl v 1) g cs sn⟩,
       ⟨Rect.unit (s := S512x512) ![0, 0] S128x512.size inb_S512x512_S128x512_0_0, qHead (sl v 0) g cs sn⟩] : List (View.Piece (Elt F) S512x512 .bf16)), y ∈ p.1.set := by
    have h0 : (y 0).val < 512 := (y 0).isLt
    have h1 : (y 1).val < 512 := (y 1).isLt
    have key : ∀ (o : ℕ) (inb : ∀ a, (![o, 0] : Fin 2 → ℕ) a + S128x512.size a ≤ S512x512.size a), o ≤ (y 0).val → (y 0).val < o + 128 → y ∈ (Rect.unit (s := S512x512) ![o, 0] S128x512.size inb).set := by
      intro o inb ha hb
      rw [Rect.mem_set_unit]
      intro a; fin_cases a
      · exact ⟨ha, hb⟩
      · exact ⟨Nat.zero_le _, by show (y 1).val < 0 + 512; omega⟩
    by_cases c3 : 384 ≤ (y 0).val
    · exact ⟨_, List.mem_cons_self, key 384 (by intro a; fin_cases a <;> decide) c3 (by omega)⟩
    by_cases c2 : 256 ≤ (y 0).val
    · exact ⟨_, List.mem_cons_of_mem _ List.mem_cons_self, key 256 (by intro a; fin_cases a <;> decide) c2 (by omega)⟩
    by_cases c1 : 128 ≤ (y 0).val
    · exact ⟨_, List.mem_cons_of_mem _ (List.mem_cons_of_mem _ List.mem_cons_self), key 128 (by intro a; fin_cases a <;> decide) c1 (by omega)⟩
    exact ⟨_, List.mem_cons_of_mem _ (List.mem_cons_of_mem _ (List.mem_cons_of_mem _ List.mem_cons_self)), key 0 (by intro a; fin_cases a <;> decide) (by omega) (by omega)⟩
  rw [View.read_writes_apply_eq_canon _ _ _ _ hc]
  refine View.canon_apply_of_pieces (qtv v g cs sn) _ ?_ y hc
  intro p hp
  simp only [List.mem_cons, List.not_mem_nil, _root_.or_false] at hp
  rcases hp with rfl | rfl | rfl | rfl
  · exact q_piece v g cs sn 3 (o := 384) rfl inb_S512x512_S128x512_384_0
  · exact q_piece v g cs sn 2 (o := 256) rfl inb_S512x512_S128x512_256_0
  · exact q_piece v g cs sn 1 (o := 128) rfl inb_S512x512_S128x512_128_0
  · exact q_piece v g cs sn 0 (o := 0) rfl inb_S512x512_S128x512_0_0

theorem k_read (w : View sig .tc .vmem S512x512 .bf16) (f : w.ty.Contents (Elt F)) (v : FVec F S512x512 .f32) (g : Vec F S1x128 .f32) (cs sn : Vec F S512x128 .f32) :
    w.read (Elt F) (w.writes (Elt F) f
      [⟨Rect.unit (s := S512x512) ![0, 384] S512x128.size inb_S512x512_S512x128_0_384, kHead (extractStridedSlice S512x128 ![0, 384] v slices_S512x512_o0_384_S512x128) g cs sn⟩,
       ⟨Rect.unit (s := S512x512) ![0, 256] S512x128.size inb_S512x512_S512x128_0_256, kHead (extractStridedSlice S512x128 ![0, 256] v slices_S512x512_o0_256_S512x128) g cs sn⟩,
       ⟨Rect.unit (s := S512x512) ![0, 128] S512x128.size inb_S512x512_S512x128_0_128, kHead (extractStridedSlice S512x128 ![0, 128] v slices_S512x512_o0_128_S512x128) g cs sn⟩,
       ⟨Rect.unit (s := S512x512) ![0, 0] S512x128.size inb_S512x512_S512x128_0_0, kHead (extractStridedSlice S512x128 ![0, 0] v slices_S512x512_o0_0_S512x128) g cs sn⟩]) = kv v g cs sn := by
  rw [slice_eq v 3 (o := 384) rfl, slice_eq v 2 (o := 256) rfl, slice_eq v 1 (o := 128) rfl, slice_eq v 0 (o := 0) rfl]
  funext y
  have hc : ∃ p ∈ ([⟨Rect.unit (s := S512x512) ![0, 384] S512x128.size inb_S512x512_S512x128_0_384, kHead (sl v 3) g cs sn⟩,
       ⟨Rect.unit (s := S512x512) ![0, 256] S512x128.size inb_S512x512_S512x128_0_256, kHead (sl v 2) g cs sn⟩,
       ⟨Rect.unit (s := S512x512) ![0, 128] S512x128.size inb_S512x512_S512x128_0_128, kHead (sl v 1) g cs sn⟩,
       ⟨Rect.unit (s := S512x512) ![0, 0] S512x128.size inb_S512x512_S512x128_0_0, kHead (sl v 0) g cs sn⟩] : List (View.Piece (Elt F) S512x512 .bf16)), y ∈ p.1.set := by
    have h0 : (y 0).val < 512 := (y 0).isLt
    have h1 : (y 1).val < 512 := (y 1).isLt
    have key : ∀ (o : ℕ) (inb : ∀ a, (![0, o] : Fin 2 → ℕ) a + S512x128.size a ≤ S512x512.size a), o ≤ (y 1).val → (y 1).val < o + 128 → y ∈ (Rect.unit (s := S512x512) ![0, o] S512x128.size inb).set := by
      intro o inb ha hb
      rw [Rect.mem_set_unit]
      intro a; fin_cases a
      · exact ⟨Nat.zero_le _, by show (y 0).val < 0 + 512; omega⟩
      · exact ⟨ha, hb⟩
    by_cases c3 : 384 ≤ (y 1).val
    · exact ⟨_, List.mem_cons_self, key 384 (by intro a; fin_cases a <;> decide) c3 (by omega)⟩
    by_cases c2 : 256 ≤ (y 1).val
    · exact ⟨_, List.mem_cons_of_mem _ List.mem_cons_self, key 256 (by intro a; fin_cases a <;> decide) c2 (by omega)⟩
    by_cases c1 : 128 ≤ (y 1).val
    · exact ⟨_, List.mem_cons_of_mem _ (List.mem_cons_of_mem _ List.mem_cons_self), key 128 (by intro a; fin_cases a <;> decide) c1 (by omega)⟩
    exact ⟨_, List.mem_cons_of_mem _ (List.mem_cons_of_mem _ (List.mem_cons_of_mem _ List.mem_cons_self)), key 0 (by intro a; fin_cases a <;> decide) (by omega) (by omega)⟩
  rw [View.read_writes_apply_eq_canon _ _ _ _ hc]
  refine View.canon_apply_of_pieces (kv v g cs sn) _ ?_ y hc
  intro p hp
  simp only [List.mem_cons, List.not_mem_nil, _root_.or_false] at hp
  rcases hp with rfl | rfl | rfl | rfl
  · exact k_piece v g cs sn 3 (o := 384) rfl inb_S512x512_S512x128_0_384
  · exact k_piece v g cs sn 2 (o := 256) rfl inb_S512x512_S512x128_0_256
  · exact k_piece v g cs sn 1 (o := 128) rfl inb_S512x512_S512x128_0_128
  · exact k_piece v g cs sn 0 (o := 0) rfl inb_S512x512_S512x128_0_0

set_option maxHeartbeats 4000000 in
/-- The query points: four heads of queries, transposed. -/
theorem run_q (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole)
    (x4 : Vec F S4096x512 .bf16) (x5 : Vec F S512x128 .f32) (x6 : Vec F S512x128 .f32) (x7 : Vec F S1x128 .f32) (hh : Vec F S512x4096 .bf16)
    (hc1 : ¬ k0_cond1 i = 1#1) (hc2 : ¬ k0_cond2 i = 1#1) (hc3 : k0_cond3 i = 1#1) (hc4 : ¬ k0_cond4 i = 1#1) (hc5 : ¬ k0_cond5 i = 1#1) (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg15 fullShare hh ∗ (∃ d, owns (c : Thread nD τ) arg12 fullShare d)
        ∗ (iprop(owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg15 fullShare hh ∗ owns (c : Thread nD τ) arg12 fullShare (qtv (k0_pay2 hh x4) x7 x5 x6)) -∗ K ⟨⟩))
      ⊢ wp frame (wpE (defs₀ (F := F)) Variants.none c none) E (cc0_inproj (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  unfold owns
  have e6 : View.readAt (Elt F) arg6.view (Rect.unit (s := S4096x512) ![0, 0] S4096x512.size inb_S4096x512_S4096x512_0_0).toLoadRect (harg6.unread x4) = x4 :=
    FfnAux.load_whole harg6 x4 (by funext a; fin_cases a <;> rfl) _
  have e7 : View.readAt (Elt F) arg7.view (Rect.unit (s := S512x128) ![0, 0] S512x128.size inb_S512x128_S512x128_0_0).toLoadRect (harg7.unread x5) = x5 :=
    FfnAux.load_whole harg7 x5 (by funext a; fin_cases a <;> rfl) _
  have e8 : View.readAt (Elt F) arg8.view (Rect.unit (s := S512x128) ![0, 0] S512x128.size inb_S512x128_S512x128_0_0).toLoadRect (harg8.unread x6) = x6 :=
    FfnAux.load_whole harg8 x6 (by funext a; fin_cases a <;> rfl) _
  have e9 : View.readAt (Elt F) arg9.view (Rect.unit (s := S1x128) ![0, 0] S1x128.size inb_S1x128_S1x128_0_0).toLoadRect (harg9.unread x7) = x7 :=
    FfnAux.load_whole harg9 x7 (by funext a; fin_cases a <;> rfl) _
  have e15 : View.readAt (Elt F) arg15.view (Rect.unit (s := S512x4096) ![0, 0] S512x4096.size inb_S512x4096_S512x4096_0_0).toLoadRect (harg15.unread hh) = hh :=
    FfnAux.load_whole harg15 hh (by funext a; fin_cases a <;> rfl) _
  iintro ⟨⟨%f6, %hf6, H6⟩, ⟨%f7, %hf7, H7⟩, ⟨%f8, %hf8, H8⟩, ⟨%f9, %hf9, H9⟩, ⟨%f15, %hf15, H15⟩, ⟨%d12, %f12, -, H12⟩, Hk⟩
  obtain rfl := harg6.eq_unread hf6
  obtain rfl := harg7.eq_unread hf7
  obtain rfl := harg8.eq_unread hf8
  obtain rfl := harg9.eq_unread hf9
  obtain rfl := harg15.eq_unread hf15
  sl_exec
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H15]
  · iexists _; isplitr; · ipureintro; exact harg15.read_unread _
    iexact H15
  · iexists _; isplitr
    swap; · iexact H12
    ipureintro
    exact q_read arg12.view f12 (k0_pay2 hh x4) x7 x5 x6

set_option maxHeartbeats 4000000 in
/-- The key point: four heads of keys. -/
theorem run_k (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S4096x512 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x4096 .bf16) (harg15 : arg15.IsWhole)
    (x4 : Vec F S4096x512 .bf16) (x5 : Vec F S512x128 .f32) (x6 : Vec F S512x128 .f32) (x8 : Vec F S1x128 .f32) (hh : Vec F S512x4096 .bf16)
    (hc1 : ¬ k0_cond1 i = 1#1) (hc2 : ¬ k0_cond2 i = 1#1) (hc3 : ¬ k0_cond3 i = 1#1) (hc4 : k0_cond4 i = 1#1) (hc5 : ¬ k0_cond5 i = 1#1) (E : Set ℕ) (K : PUnit → sProp 𝕄) :
    iprop(owns (c : Thread nD τ) arg6 fullShare x4 ∗ owns (c : Thread nD τ) arg7 fullShare x5 ∗ owns (c : Thread nD τ) arg8 fullShare x6 ∗ owns (c : Thread nD τ) arg10 fullShare x8 ∗ owns (c : Thread nD τ) arg15 fullShare hh ∗ (∃ d, owns (c : Thread nD τ) arg13 fullShare d)
        ∗ (iprop(owns (c : Thread nD τ) arg6 fullShare x4 ∗ owns (c : Thread nD τ) arg7 fullShare x5 ∗ owns (c : Thread nD τ) arg8 fullShare x6 ∗ owns (c : Thread nD τ) arg10 fullShare x8 ∗ owns (c : Thread nD τ) arg15 fullShare hh ∗ owns (c : Thread nD τ) arg13 fullShare (kv (k0_pay2 hh x4) x8 x5 x6)) -∗ K ⟨⟩))
      ⊢ wp frame (wpE (defs₀ (F := F)) Variants.none c none) E (cc0_inproj (F := F) i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_inproj_eq_skeleton]; unfold cc0_inproj_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  unfold owns
  have e6 : View.readAt (Elt F) arg6.view (Rect.unit (s := S4096x512) ![0, 0] S4096x512.size inb_S4096x512_S4096x512_0_0).toLoadRect (harg6.unread x4) = x4 :=
    FfnAux.load_whole harg6 x4 (by funext a; fin_cases a <;> rfl) _
  have e7 : View.readAt (Elt F) arg7.view (Rect.unit (s := S512x128) ![0, 0] S512x128.size inb_S512x128_S512x128_0_0).toLoadRect (harg7.unread x5) = x5 :=
    FfnAux.load_whole harg7 x5 (by funext a; fin_cases a <;> rfl) _
  have e8 : View.readAt (Elt F) arg8.view (Rect.unit (s := S512x128) ![0, 0] S512x128.size inb_S512x128_S512x128_0_0).toLoadRect (harg8.unread x6) = x6 :=
    FfnAux.load_whole harg8 x6 (by funext a; fin_cases a <;> rfl) _
  have e10 : View.readAt (Elt F) arg10.view (Rect.unit (s := S1x128) ![0, 0] S1x128.size inb_S1x128_S1x128_0_0).toLoadRect (harg10.unread x8) = x8 :=
    FfnAux.load_whole harg10 x8 (by funext a; fin_cases a <;> rfl) _
  have e15 : View.readAt (Elt F) arg15.view (Rect.unit (s := S512x4096) ![0, 0] S512x4096.size inb_S512x4096_S512x4096_0_0).toLoadRect (harg15.unread hh) = hh :=
    FfnAux.load_whole harg15 hh (by funext a; fin_cases a <;> rfl) _
  iintro ⟨⟨%f6, %hf6, H6⟩, ⟨%f7, %hf7, H7⟩, ⟨%f8, %hf8, H8⟩, ⟨%f10, %hf10, H10⟩, ⟨%f15, %hf15, H15⟩, ⟨%d13, %f13, -, H13⟩, Hk⟩
  obtain rfl := harg6.eq_unread hf6
  obtain rfl := harg7.eq_unread hf7
  obtain rfl := harg8.eq_unread hf8
  obtain rfl := harg10.eq_unread hf10
  obtain rfl := harg15.eq_unread hf15
  sl_exec
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H10]
  · iexists _; isplitr; · ipureintro; exact harg10.read_unread _
    iexact H10
  isplitl [H15]
  · iexists _; isplitr; · ipureintro; exact harg15.read_unread _
    iexact H15
  · iexists _; isplitr
    swap; · iexact H13
    ipureintro
    exact k_read arg13.view f13 (k0_pay2 hh x4) x8 x5 x6

end Cert.Kernel5Ideal.Inproj

end
-- ==== Proof.Inproj.FrameIdeal.lean ====
module

public import proofs.«01_k».proof.Proof.Inproj.RunIdeal
public import proofs.«01_k».proof.Proof.Gen.Kernel5Ideal.Points
public import Idealize.ShloMosaic.Lib.Pipeline.TableIdle

@[expose] public section

set_option maxRecDepth 16384

noncomputable section

namespace Cert.Kernel5Ideal.Inproj

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule: which step of a row block does what -/

theorem coords_val : ∀ t : Fin grid0.N, (grid0.coords t 0).val = t.val / 10 ∧ (grid0.coords t 1).val = t.val % 10 := by
  decide +kernel
theorem cond1_iff : ∀ t : Fin grid0.N, k0_cond1 (grid0.coords t) = 1#1 ↔ t.val % 10 = 0 := by decide +kernel
theorem cond2_iff : ∀ t : Fin grid0.N, k0_cond2 (grid0.coords t) = 1#1 ↔ (0 ≤ t.val % 10 ∧ t.val % 10 ≤ 3) := by decide +kernel
theorem cond3_iff : ∀ t : Fin grid0.N, k0_cond3 (grid0.coords t) = 1#1 ↔ (4 ≤ t.val % 10 ∧ t.val % 10 ≤ 7) := by decide +kernel
theorem cond4_iff : ∀ t : Fin grid0.N, k0_cond4 (grid0.coords t) = 1#1 ↔ (8 ≤ t.val % 10 ∧ t.val % 10 ≤ 8) := by decide +kernel
theorem cond5_iff : ∀ t : Fin grid0.N, k0_cond5 (grid0.coords t) = 1#1 ↔ (9 ≤ t.val % 10 ∧ t.val % 10 ≤ 9) := by decide +kernel

theorem bne_one (b : BitVec 1) (p : Prop) [Decidable p] (h : b = 1#1 ↔ p) : (!(b == 1#1)) = !decide p := by
  congr 1
  by_cases hp : p
  · rw [h.mpr hp]; simp [hp]
  · have hne : ¬ b = 1#1 := fun hh => hp (h.mp hh)
    simp [hp, hne]

theorem idle_9 (t : Fin cfg0.N) : cfg0.idle 9 (cfg0.grid.coords t) = !decide (0 ≤ t.val % 10 ∧ t.val % 10 ≤ 3) :=
  bne_one (k0_cond2 (grid0.coords t)) _ (cond2_iff t)
theorem idle_10 (t : Fin cfg0.N) : cfg0.idle 10 (cfg0.grid.coords t) = !decide (4 ≤ t.val % 10 ∧ t.val % 10 ≤ 7) :=
  bne_one (k0_cond3 (grid0.coords t)) _ (cond3_iff t)
theorem idle_11 (t : Fin cfg0.N) : cfg0.idle 11 (cfg0.grid.coords t) = !decide (8 ≤ t.val % 10 ∧ t.val % 10 ≤ 8) :=
  bne_one (k0_cond4 (grid0.coords t)) _ (cond4_iff t)
theorem idle_12 (t : Fin cfg0.N) : cfg0.idle 12 (cfg0.grid.coords t) = !decide (9 ≤ t.val % 10 ∧ t.val % 10 ≤ 9) :=
  bne_one (k0_cond5 (grid0.coords t)) _ (cond5_iff t)
theorem flushF_9 : ∀ t : Fin grid0.N, win0_9.flushF t = true ↔ ((0 ≤ t.val % 10 ∧ t.val % 10 < 3) ∨ t.val % 10 = 9) := by decide +kernel
theorem flush_9 (t : Fin cfg0.N) : (cfg0.win 9).flush t = true ↔ ((0 ≤ t.val % 10 ∧ t.val % 10 < 3) ∨ t.val % 10 = 9) := by
  rw [← flushF_9 t, ← Window.flush_eq_flushF]
theorem flushF_10 : ∀ t : Fin grid0.N, win0_10.flushF t = true ↔ ((4 ≤ t.val % 10 ∧ t.val % 10 < 7) ∨ t.val % 10 = 9) := by decide +kernel
theorem flush_10 (t : Fin cfg0.N) : (cfg0.win 10).flush t = true ↔ ((4 ≤ t.val % 10 ∧ t.val % 10 < 7) ∨ t.val % 10 = 9) := by
  rw [← flushF_10 t, ← Window.flush_eq_flushF]
theorem flush_11 (t : Fin cfg0.N) : (cfg0.win 11).flush t = true ↔ ((8 ≤ t.val % 10 ∧ t.val % 10 < 8) ∨ t.val % 10 = 9) :=
  (flush0_11 t).trans ⟨.inr, fun h => h.elim (fun h => absurd h (by omega)) id⟩
theorem flush_12 (t : Fin cfg0.N) : (cfg0.win 12).flush t = true ↔ ((9 ≤ t.val % 10 ∧ t.val % 10 < 9) ∨ t.val % 10 = 9) :=
  (flush0_12 t).trans ⟨.inr, fun h => h.elim (fun h => absurd h (by omega)) id⟩
/-- The step whose payload an output's buffer holds at step `t`: the last of its steps at or before `t`
    (its first step, before that one). -/
def src (lo hi : ℕ) (hh : hi < 10) (t : Fin cfg0.N) : Fin cfg0.N :=
  ⟨10 * (t.val / 10) + max lo (min hi (t.val % 10)) % 10, by
    have h : t.val < 160 := t.isLt
    have : max lo (min hi (t.val % 10)) % 10 < 10 := Nat.mod_lt _ (by decide)
    show _ < 160
    omega⟩

theorem src_live {lo hi : ℕ} (hh : hi < 10) (t : Fin cfg0.N) (h : lo ≤ t.val % 10 ∧ t.val % 10 ≤ hi) : src lo hi hh t = t :=
  Fin.ext (by show 10 * (t.val / 10) + max lo (min hi (t.val % 10)) % 10 = t.val; omega)

theorem src_pred {lo hi : ℕ} (hl : lo ≤ hi) (hh : hi < 10) (t u : Fin cfg0.N) (hu : u.val + 1 = t.val) (h0 : t.val % 10 ≠ 0)
    (h : ¬ (lo ≤ t.val % 10 ∧ t.val % 10 ≤ hi)) : src lo hi hh t = src lo hi hh u :=
  Fin.ext (by
    show 10 * (t.val / 10) + max lo (min hi (t.val % 10)) % 10 = 10 * (u.val / 10) + max lo (min hi (u.val % 10)) % 10
    omega)

theorem not_fresh {w : Fin cfg0.W} {lo hi : ℕ} (hl : lo ≤ hi)
    (hidle : ∀ t, cfg0.idle w (cfg0.grid.coords t) = !decide (lo ≤ t.val % 10 ∧ t.val % 10 ≤ hi))
    (hflush : ∀ t, (cfg0.win w).flush t = true ↔ ((lo ≤ t.val % 10 ∧ t.val % 10 < hi) ∨ t.val % 10 = 9)) :
    ∀ n, n < cfg0.N → hi < n % 10 → cfg0.fresh w n = false
  | 0, _, h => absurd h (by omega)
  | n + 1, hn, h => by
    have hf : (cfg0.win w).flush ⟨n, Nat.lt_of_succ_lt hn⟩ = false := by
      rw [← Bool.not_eq_true, hflush ⟨n, Nat.lt_of_succ_lt hn⟩]
      show ¬ ((lo ≤ n % 10 ∧ n % 10 < hi) ∨ n % 10 = 9)
      omega
    rw [Cfg.fresh_succ cfg0 w n (Nat.lt_of_succ_lt hn), hf, Bool.false_or]
    by_cases hn' : hi < n % 10
    · rw [not_fresh hl hidle hflush n (Nat.lt_of_succ_lt hn) hn', Bool.and_false]
    · rw [hidle ⟨n, Nat.lt_of_succ_lt hn⟩]
      have : lo ≤ n % 10 ∧ n % 10 ≤ hi := by omega
      simp [this]

/-- After the wrap of a row block the buffer has just been written back. -/
theorem fresh_start {w : Fin cfg0.W} {lo hi : ℕ}
    (hflush : ∀ t, (cfg0.win w).flush t = true ↔ ((lo ≤ t.val % 10 ∧ t.val % 10 < hi) ∨ t.val % 10 = 9)) (n : ℕ) (hn : n < cfg0.N)
    (h0 : n ≠ 0) (h : n % 10 = 0) : cfg0.fresh w n = true := by
  obtain ⟨k, rfl⟩ : ∃ k, n = k + 1 := ⟨n - 1, by omega⟩
  have hf : (cfg0.win w).flush ⟨k, Nat.lt_of_succ_lt hn⟩ = true := by
    rw [hflush ⟨k, Nat.lt_of_succ_lt hn⟩]
    right; show k % 10 = 9; omega
  rw [Cfg.fresh_succ cfg0 w k (Nat.lt_of_succ_lt hn), hf, Bool.true_or]

/-- At a step that leaves an output alone and after which the output is written back, the buffer already holds
    what is to be written. -/
theorem before_idle {c : Dev nD} (dat : Dat τ (Elt F) Unit ℕ (UR sig nD τ) ℕ cfg0 c) (w : Fin cfg0.W) {lo hi : ℕ} (hl : lo ≤ hi) (hh : hi < 10)
    (hout : (cfg0.win w).isOut = true) (hclip : ∀ (i : cfg0.grid.Coords) a, (cfg0.win w).clip i a = none)
    (hidle : ∀ t, cfg0.idle w (cfg0.grid.coords t) = !decide (lo ≤ t.val % 10 ∧ t.val % 10 ≤ hi))
    (hflush : ∀ t, (cfg0.win w).flush t = true ↔ ((lo ≤ t.val % 10 ∧ t.val % 10 < hi) ∨ t.val % 10 = 9))
    (hpred : ∀ t u : Fin cfg0.N, u.val + 1 = t.val → t.val % 10 ≠ 0 → ¬ (lo ≤ t.val % 10 ∧ t.val % 10 ≤ hi) → dat.after w t = dat.after w u)
    (t : Fin cfg0.N) (hi' : cfg0.idle w (cfg0.grid.coords t) = true) (hf : (cfg0.win w).flush t = true) (d) :
    dat.before w t d = dat.after w t := by
  have hn : ¬ (lo ≤ t.val % 10 ∧ t.val % 10 ≤ hi) := by
    have e := hidle t
    rw [hi'] at e
    exact of_decide_eq_false ((Bool.not_eq_true' _).mp e.symm)
  have h9 : t.val % 10 = 9 := ((hflush t).mp hf).resolve_left (fun h => hn ⟨h.1, h.2.le⟩)
  rw [dat.before_out_traj w hout hclip (fun t ht hi hfr => by
      rw [hidle t] at hi
      refine hpred t ⟨t.val - 1, by omega⟩ (by show t.val - 1 + 1 = t.val; omega) (fun h0 => ?_) (of_decide_eq_false ((Bool.not_eq_true' _).mp hi))
      rw [fresh_start hflush t.val t.isLt ht h0] at hfr
      exact absurd hfr (by decide)) t.val t rfl d,
    not_fresh hl hidle hflush t.val t.isLt (by omega), ← hpred t ⟨t.val - 1, by omega⟩ (by show t.val - 1 + 1 = t.val; omega) (by omega) hn]
  rfl

variable (m : (ℓ : Loc nD τ sig) → Buf (Elt F) ℓ) (ρ : Dev nD → PrngReg)

/-! ## The program up to its pallas_call -/

abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => main_chain c

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first step of row block `n`. -/
def base (n : ℕ) : Fin cfg0.N := ⟨(10 * n) % 160, Nat.mod_lt _ (by decide)⟩

theorem base_eq (t : Fin cfg0.N) (h : t.val % 10 = 0) : base (t.val / 10) = t :=
  Fin.ext (by
    have ht : t.val < 160 := t.isLt
    show (10 * (t.val / 10)) % 160 = t.val
    omega)

/-- Row block `n`'s normalized rows, which the scratch holds from its first step on. -/
def hvAt (c : Dev nD) (n : ℕ) : Vec F S512x4096 .bf16 :=
  hv (iblk m c 0 (base n)) (iblk m c 1 (base n)) (iblk m c 2 (base n)) (iblk m c 3 (base n))

def poolAt (c : Dev nD) (s : Fin cfg0.N) : Vec F S512x512 .bf16 := k0_pay3 (hvAt m c (s.val / 10)) (iblk m c 4 s)
def qtAt (c : Dev nD) (s : Fin cfg0.N) : Vec F S512x512 .bf16 := qtv (k0_pay2 (hvAt m c (s.val / 10)) (iblk m c 4 s)) (iblk m c 7 s) (iblk m c 5 s) (iblk m c 6 s)
def kAt (c : Dev nD) (s : Fin cfg0.N) : Vec F S512x512 .bf16 := kv (k0_pay2 (hvAt m c (s.val / 10)) (iblk m c 4 s)) (iblk m c 8 s) (iblk m c 5 s) (iblk m c 6 s)
def vtAt (c : Dev nD) (s : Fin cfg0.N) : Vec F S512x512 .bf16 := k0_pay6 (hvAt m c (s.val / 10)) (iblk m c 4 s)

/-- What is held between the steps: inside a row block the scratch is at its normalized rows. -/
def held (c : Dev nD) (n : ℕ) : sProp 𝕄 :=
  if n % 10 = 0 then Pipeline.ΦA spec0 c
  else iprop(owns (c : Thread nD τ) (Memref.whole cc0_scratch0) fullShare (hvAt m c (n / 10)) ∗ ∃ r, prngReg c r)

theorem held_start (c : Dev nD) (n : ℕ) (h : n % 10 = 0) : (held m c n : sProp 𝕄) = Pipeline.ΦA spec0 c := if_pos h
theorem held_in (c : Dev nD) (n : ℕ) (h : n % 10 ≠ 0) : (held m c n : sProp 𝕄)
    = iprop(owns (c : Thread nD τ) (Memref.whole cc0_scratch0) fullShare (hvAt m c (n / 10)) ∗ ∃ r, prngReg c r) := if_neg h

theorem held_open (c : Dev nD) : (Pipeline.ΦA spec0 c : sProp 𝕄)
    ⊢ iprop((∃ d, owns (c : Thread nD τ) (Memref.whole cc0_scratch0) fullShare d) ∗ ∃ r, prngReg c r) := by
  unfold Pipeline.ΦA
  rw [scopedRest0_eq]
  simp only [owns_whole]
  exact .rfl

theorem held_close (c : Dev nD) (v : Vec F S512x4096 .bf16) :
    iprop(owns (c : Thread nD τ) (Memref.whole cc0_scratch0) fullShare v ∗ ∃ r, prngReg c r) ⊢ (Pipeline.ΦA spec0 c : sProp 𝕄) := by
  unfold Pipeline.ΦA
  rw [scopedRest0_eq]
  simp only [owns_whole]
  iintro ⟨H, Hr⟩
  isplitl [H]
  · iexists _; iexact H
  iexact Hr

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => poolAt m c (src 0 3 (by decide) t)
    | ⟨10, _⟩ => qtAt m c (src 4 7 (by decide) t)
    | ⟨11, _⟩ => kAt m c (src 8 8 (by decide) t)
    | ⟨12, _⟩ => vtAt m c (src 9 9 (by decide) t)
  Φ t := held m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]; try rfl
theorem after_1 (c : Dev nD) (t : Fin cfg0.N) : (dats m 0 c).after 1 t = iblk m c 1 t := by dsimp only [dats]; try rfl
theorem after_2 (c : Dev nD) (t : Fin cfg0.N) : (dats m 0 c).after 2 t = iblk m c 2 t := by dsimp only [dats]; try rfl
theorem after_3 (c : Dev nD) (t : Fin cfg0.N) : (dats m 0 c).after 3 t = iblk m c 3 t := by dsimp only [dats]; try rfl
theorem after_4 (c : Dev nD) (t : Fin cfg0.N) : (dats m 0 c).after 4 t = iblk m c 4 t := by dsimp only [dats]; try rfl
theorem after_5 (c : Dev nD) (t : Fin cfg0.N) : (dats m 0 c).after 5 t = iblk m c 5 t := by dsimp only [dats]; try rfl
theorem after_6 (c : Dev nD) (t : Fin cfg0.N) : (dats m 0 c).after 6 t = iblk m c 6 t := by dsimp only [dats]; try rfl
theorem after_7 (c : Dev nD) (t : Fin cfg0.N) : (dats m 0 c).after 7 t = iblk m c 7 t := by dsimp only [dats]; try rfl
theorem after_8 (c : Dev nD) (t : Fin cfg0.N) : (dats m 0 c).after 8 t = iblk m c 8 t := by dsimp only [dats]; try rfl
theorem after_9 (c : Dev nD) (t : Fin cfg0.N) : (dats m 0 c).after 9 t = poolAt m c (src 0 3 (by decide) t) := by dsimp only [dats]; try rfl
theorem after_10 (c : Dev nD) (t : Fin cfg0.N) : (dats m 0 c).after 10 t = qtAt m c (src 4 7 (by decide) t) := by dsimp only [dats]; try rfl
theorem after_11 (c : Dev nD) (t : Fin cfg0.N) : (dats m 0 c).after 11 t = kAt m c (src 8 8 (by decide) t) := by dsimp only [dats]; try rfl
theorem after_12 (c : Dev nD) (t : Fin cfg0.N) : (dats m 0 c).after 12 t = vtAt m c (src 9 9 (by decide) t) := by dsimp only [dats]; try rfl
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-! ## The body obligation -/

abbrev buf0 (t : Fin cfg0.N) := win0_0.stage (cfg0.slots t 0)
abbrev buf1 (t : Fin cfg0.N) := win0_1.stage (cfg0.slots t 1)
abbrev buf2 (t : Fin cfg0.N) := win0_2.stage (cfg0.slots t 2)
abbrev buf3 (t : Fin cfg0.N) := win0_3.stage (cfg0.slots t 3)
abbrev buf4 (t : Fin cfg0.N) := win0_4.stage (cfg0.slots t 4)
abbrev buf5 (t : Fin cfg0.N) := win0_5.stage (cfg0.slots t 5)
abbrev buf6 (t : Fin cfg0.N) := win0_6.stage (cfg0.slots t 6)
abbrev buf7 (t : Fin cfg0.N) := win0_7.stage (cfg0.slots t 7)
abbrev buf8 (t : Fin cfg0.N) := win0_8.stage (cfg0.slots t 8)
abbrev buf9 (t : Fin cfg0.N) := win0_9.stage (cfg0.slots t 9)
abbrev buf10 (t : Fin cfg0.N) := win0_10.stage (cfg0.slots t 10)
abbrev buf11 (t : Fin cfg0.N) := win0_11.stage (cfg0.slots t 11)
abbrev buf12 (t : Fin cfg0.N) := win0_12.stage (cfg0.slots t 12)

/-- What a step owes window 9's buffer. -/
def out9 (c : Dev nD) (t : Fin cfg0.N) : sProp 𝕄 :=
  match cfg0.idle 9 (cfg0.grid.coords t) with
  | true =>
    match (cfg0.win 9).flush t with
    | false => iprop(∃ d, owns (c : Thread nD τ) (buf9 t) fullShare ((dats m 0 c).before 9 t d))
    | true => owns (c : Thread nD τ) (buf9 t) fullShare ((dats m 0 c).after 9 t)
  | false => owns (c : Thread nD τ) (buf9 t) fullShare ((dats m 0 c).after 9 t)

theorem out9_idle (c : Dev nD) (t : Fin cfg0.N) (h : ¬ (0 ≤ t.val % 10 ∧ t.val % 10 ≤ 3)) :
    iprop(∃ d, owns (c : Thread nD τ) (buf9 t) fullShare ((dats m 0 c).before 9 t d)) ⊢ out9 m c t := by
  have hi : cfg0.idle 9 (cfg0.grid.coords t) = true := (idle_9 t).trans (by rw [decide_eq_false h]; rfl)
  unfold out9
  rw [hi]
  cases hf : (cfg0.win 9).flush t with
  | false => exact .rfl
  | true =>
    iintro ⟨%d, H⟩
    rw [before_idle (dats m 0 c) 9 (lo := 0) (hi := 3) (by decide) (by decide) rfl (fun _ _ => rfl) idle_9 flush_9
      (fun t u hu h0 hn => by rw [after_9, after_9, src_pred (by decide) (by decide) t u hu h0 hn]) t hi hf d]
    iexact H

theorem out9_live (c : Dev nD) (t : Fin cfg0.N) (h : 0 ≤ t.val % 10 ∧ t.val % 10 ≤ 3) :
    owns (c : Thread nD τ) (buf9 t) fullShare (poolAt m c t) ⊢ out9 m c t := by
  have hi : cfg0.idle 9 (cfg0.grid.coords t) = false := (idle_9 t).trans (by rw [decide_eq_true h]; rfl)
  unfold out9
  rw [hi, after_9, src_live (by decide) t h]

/-- What a step owes window 10's buffer. -/
def out10 (c : Dev nD) (t : Fin cfg0.N) : sProp 𝕄 :=
  match cfg0.idle 10 (cfg0.grid.coords t) with
  | true =>
    match (cfg0.win 10).flush t with
    | false => iprop(∃ d, owns (c : Thread nD τ) (buf10 t) fullShare ((dats m 0 c).before 10 t d))
    | true => owns (c : Thread nD τ) (buf10 t) fullShare ((dats m 0 c).after 10 t)
  | false => owns (c : Thread nD τ) (buf10 t) fullShare ((dats m 0 c).after 10 t)

theorem out10_idle (c : Dev nD) (t : Fin cfg0.N) (h : ¬ (4 ≤ t.val % 10 ∧ t.val % 10 ≤ 7)) :
    iprop(∃ d, owns (c : Thread nD τ) (buf10 t) fullShare ((dats m 0 c).before 10 t d)) ⊢ out10 m c t := by
  have hi : cfg0.idle 10 (cfg0.grid.coords t) = true := (idle_10 t).trans (by rw [decide_eq_false h]; rfl)
  unfold out10
  rw [hi]
  cases hf : (cfg0.win 10).flush t with
  | false => exact .rfl
  | true =>
    iintro ⟨%d, H⟩
    rw [before_idle (dats m 0 c) 10 (lo := 4) (hi := 7) (by decide) (by decide) rfl (fun _ _ => rfl) idle_10 flush_10
      (fun t u hu h0 hn => by rw [after_10, after_10, src_pred (by decide) (by decide) t u hu h0 hn]) t hi hf d]
    iexact H

theorem out10_live (c : Dev nD) (t : Fin cfg0.N) (h : 4 ≤ t.val % 10 ∧ t.val % 10 ≤ 7) :
    owns (c : Thread nD τ) (buf10 t) fullShare (qtAt m c t) ⊢ out10 m c t := by
  have hi : cfg0.idle 10 (cfg0.grid.coords t) = false := (idle_10 t).trans (by rw [decide_eq_true h]; rfl)
  unfold out10
  rw [hi, after_10, src_live (by decide) t h]

/-- What a step owes window 11's buffer. -/
def out11 (c : Dev nD) (t : Fin cfg0.N) : sProp 𝕄 :=
  match cfg0.idle 11 (cfg0.grid.coords t) with
  | true =>
    match (cfg0.win 11).flush t with
    | false => iprop(∃ d, owns (c : Thread nD τ) (buf11 t) fullShare ((dats m 0 c).before 11 t d))
    | true => owns (c : Thread nD τ) (buf11 t) fullShare ((dats m 0 c).after 11 t)
  | false => owns (c : Thread nD τ) (buf11 t) fullShare ((dats m 0 c).after 11 t)

theorem out11_idle (c : Dev nD) (t : Fin cfg0.N) (h : ¬ (8 ≤ t.val % 10 ∧ t.val % 10 ≤ 8)) :
    iprop(∃ d, owns (c : Thread nD τ) (buf11 t) fullShare ((dats m 0 c).before 11 t d)) ⊢ out11 m c t := by
  have hi : cfg0.idle 11 (cfg0.grid.coords t) = true := (idle_11 t).trans (by rw [decide_eq_false h]; rfl)
  unfold out11
  rw [hi]
  cases hf : (cfg0.win 11).flush t with
  | false => exact .rfl
  | true =>
    iintro ⟨%d, H⟩
    rw [before_idle (dats m 0 c) 11 (lo := 8) (hi := 8) (by decide) (by decide) rfl (fun _ _ => rfl) idle_11 flush_11
      (fun t u hu h0 hn => by rw [after_11, after_11, src_pred (by decide) (by decide) t u hu h0 hn]) t hi hf d]
    iexact H

theorem out11_live (c : Dev nD) (t : Fin cfg0.N) (h : 8 ≤ t.val % 10 ∧ t.val % 10 ≤ 8) :
    owns (c : Thread nD τ) (buf11 t) fullShare (kAt m c t) ⊢ out11 m c t := by
  have hi : cfg0.idle 11 (cfg0.grid.coords t) = false := (idle_11 t).trans (by rw [decide_eq_true h]; rfl)
  unfold out11
  rw [hi, after_11, src_live (by decide) t h]

/-- What a step owes window 12's buffer. -/
def out12 (c : Dev nD) (t : Fin cfg0.N) : sProp 𝕄 :=
  match cfg0.idle 12 (cfg0.grid.coords t) with
  | true =>
    match (cfg0.win 12).flush t with
    | false => iprop(∃ d, owns (c : Thread nD τ) (buf12 t) fullShare ((dats m 0 c).before 12 t d))
    | true => owns (c : Thread nD τ) (buf12 t) fullShare ((dats m 0 c).after 12 t)
  | false => owns (c : Thread nD τ) (buf12 t) fullShare ((dats m 0 c).after 12 t)

theorem out12_idle (c : Dev nD) (t : Fin cfg0.N) (h : ¬ (9 ≤ t.val % 10 ∧ t.val % 10 ≤ 9)) :
    iprop(∃ d, owns (c : Thread nD τ) (buf12 t) fullShare ((dats m 0 c).before 12 t d)) ⊢ out12 m c t := by
  have hi : cfg0.idle 12 (cfg0.grid.coords t) = true := (idle_12 t).trans (by rw [decide_eq_false h]; rfl)
  unfold out12
  rw [hi]
  cases hf : (cfg0.win 12).flush t with
  | false => exact .rfl
  | true =>
    iintro ⟨%d, H⟩
    rw [before_idle (dats m 0 c) 12 (lo := 9) (hi := 9) (by decide) (by decide) rfl (fun _ _ => rfl) idle_12 flush_12
      (fun t u hu h0 hn => by rw [after_12, after_12, src_pred (by decide) (by decide) t u hu h0 hn]) t hi hf d]
    iexact H

theorem out12_live (c : Dev nD) (t : Fin cfg0.N) (h : 9 ≤ t.val % 10 ∧ t.val % 10 ≤ 9) :
    owns (c : Thread nD τ) (buf12 t) fullShare (vtAt m c t) ⊢ out12 m c t := by
  have hi : cfg0.idle 12 (cfg0.grid.coords t) = false := (idle_12 t).trans (by rw [decide_eq_true h]; rfl)
  unfold out12
  rw [hi, after_12, src_live (by decide) t h]

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d))
    ∗ (∃ d, owns (c : Thread nD τ) (buf12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ out9 m c t ∗ out10 m c t ∗ out11 m c t ∗ out12 m c t)

theorem body_first (c : Dev nD) (t : Fin cfg0.N) (h : t.val % 10 = 0) :
    bodyPre m c t ⊢ wp frame (wpE (defs₀ (F := F)) Variants.none c none) Set.univ (bodyAt0 (F := F) t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8,
    show (dats m 0 c).Φ t.castSucc = held m c t.val from rfl, show (dats m 0 c).Φ t.succ = held m c (t.val + 1) from rfl]
  rw [held_start m c t.val h, held_in m c (t.val + 1) (by omega), show (t.val + 1) / 10 = t.val / 10 by omega]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  ihave ⟨HS, Hr⟩ := (held_open (F := F) c) $$ HΦ
  icases H9 with ⟨%dl, H9⟩
  iapply (run_loop c (grid0.coords t) _ _ _ _ _ _ _ _ _ _ _ _ _ _ _ _ _ _ _ _ _ _ _ _ _ _ _ _ (iblk m c 0 t) (iblk m c 1 t) (iblk m c 2 t) (iblk m c 3 t) (iblk m c 4 t) ((cond1_iff t).mpr (by omega)) ((cond2_iff t).mpr (by omega)) (fun hc => absurd ((cond3_iff t).mp hc) (by omega)) (fun hc => absurd ((cond4_iff t).mp hc) (by omega)) (fun hc => absurd ((cond5_iff t).mp hc) (by omega)) Set.univ _)
  isplitl [H0]; · iexact H0
  isplitl [H1]; · iexact H1
  isplitl [H2]; · iexact H2
  isplitl [H3]; · iexact H3
  isplitl [H4]; · iexact H4
  isplitl [H9]; · iexists _; iexact H9
  isplitl [HS]; · iexact HS
  iintro ⟨H0, H1, H2, H3, H4, H9, HS⟩
  isplitl [HS Hr]
  · isplitl [HS]
    · unfold hvAt; rw [base_eq t h]; iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (out9_live m c t (by omega)); unfold poolAt hvAt; rw [base_eq t h]; iexact H9
  isplitl [H10]; · iapply (out10_idle m c t (by omega)); iexact H10
  isplitl [H11]; · iapply (out11_idle m c t (by omega)); iexact H11
  iapply (out12_idle m c t (by omega)); iexact H12

theorem body_pool (c : Dev nD) (t : Fin cfg0.N) (h : 1 ≤ t.val % 10 ∧ t.val % 10 ≤ 3) :
    bodyPre m c t ⊢ wp frame (wpE (defs₀ (F := F)) Variants.none c none) Set.univ (bodyAt0 (F := F) t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8,
    show (dats m 0 c).Φ t.castSucc = held m c t.val from rfl, show (dats m 0 c).Φ t.succ = held m c (t.val + 1) from rfl]
  rw [held_in m c t.val (by omega), held_in m c (t.val + 1) (by omega), show (t.val + 1) / 10 = t.val / 10 by omega]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  icases H9 with ⟨%dl, H9⟩
  iapply (run_pool c (grid0.coords t) _ _ _ _ _ _ _ _ _ _ _ _ _ _ _ _ _ _ _ _ _ _ _ _ _ _ _ _ (iblk m c 4 t) (hvAt m c (t.val / 10)) (fun hc => absurd ((cond1_iff t).mp hc) (by omega)) ((cond2_iff t).mpr (by omega)) (fun hc => absurd ((cond3_iff t).mp hc) (by omega)) (fun hc => absurd ((cond4_iff t).mp hc) (by omega)) (fun hc => absurd ((cond5_iff t).mp hc) (by omega)) Set.univ _)
  isplitl [H4]; · iexact H4
  isplitl [HS]; · iexact HS
  isplitl [H9]; · iexists _; iexact H9
  iintro ⟨H4, HS, H9⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (out9_live m c t (by omega)); iexact H9
  isplitl [H10]; · iapply (out10_idle m c t (by omega)); iexact H10
  isplitl [H11]; · iapply (out11_idle m c t (by omega)); iexact H11
  iapply (out12_idle m c t (by omega)); iexact H12

theorem body_q (c : Dev nD) (t : Fin cfg0.N) (h : 4 ≤ t.val % 10 ∧ t.val % 10 ≤ 7) :
    bodyPre m c t ⊢ wp frame (wpE (defs₀ (F := F)) Variants.none c none) Set.univ (bodyAt0 (F := F) t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8,
    show (dats m 0 c).Φ t.castSucc = held m c t.val from rfl, show (dats m 0 c).Φ t.succ = held m c (t.val + 1) from rfl]
  rw [held_in m c t.val (by omega), held_in m c (t.val + 1) (by omega), show (t.val + 1) / 10 = t.val / 10 by omega]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  icases H10 with ⟨%dl, H10⟩
  iapply (run_q c (grid0.coords t) _ _ _ _ _ _ _ _ _ _ _ _ _ _ _ _ _ _ _ _ _ _ _ _ _ _ _ _ (iblk m c 4 t) (iblk m c 5 t) (iblk m c 6 t) (iblk m c 7 t) (hvAt m c (t.val / 10)) (fun hc => absurd ((cond1_iff t).mp hc) (by omega)) (fun hc => absurd ((cond2_iff t).mp hc) (by omega)) ((cond3_iff t).mpr (by omega)) (fun hc => absurd ((cond4_iff t).mp hc) (by omega)) (fun hc => absurd ((cond5_iff t).mp hc) (by omega)) Set.univ _)
  isplitl [H4]; · iexact H4
  isplitl [H5]; · iexact H5
  isplitl [H6]; · iexact H6
  isplitl [H7]; · iexact H7
  isplitl [HS]; · iexact HS
  isplitl [H10]; · iexists _; iexact H10
  iintro ⟨H4, H5, H6, H7, HS, H10⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (out9_idle m c t (by omega)); iexact H9
  isplitl [H10]; · iapply (out10_live m c t (by omega)); iexact H10
  isplitl [H11]; · iapply (out11_idle m c t (by omega)); iexact H11
  iapply (out12_idle m c t (by omega)); iexact H12

theorem body_k (c : Dev nD) (t : Fin cfg0.N) (h : t.val % 10 = 8) :
    bodyPre m c t ⊢ wp frame (wpE (defs₀ (F := F)) Variants.none c none) Set.univ (bodyAt0 (F := F) t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8,
    show (dats m 0 c).Φ t.castSucc = held m c t.val from rfl, show (dats m 0 c).Φ t.succ = held m c (t.val + 1) from rfl]
  rw [held_in m c t.val (by omega), held_in m c (t.val + 1) (by omega), show (t.val + 1) / 10 = t.val / 10 by omega]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  icases H11 with ⟨%dl, H11⟩
  iapply (run_k c (grid0.coords t) _ _ _ _ _ _ _ _ _ _ _ _ _ _ _ _ _ _ _ _ _ _ _ _ _ _ _ _ (iblk m c 4 t) (iblk m c 5 t) (iblk m c 6 t) (iblk m c 8 t) (hvAt m c (t.val / 10)) (fun hc => absurd ((cond1_iff t).mp hc) (by omega)) (fun hc => absurd ((cond2_iff t).mp hc) (by omega)) (fun hc => absurd ((cond3_iff t).mp hc) (by omega)) ((cond4_iff t).mpr (by omega)) (fun hc => absurd ((cond5_iff t).mp hc) (by omega)) Set.univ _)
  isplitl [H4]; · iexact H4
  isplitl [H5]; · iexact H5
  isplitl [H6]; · iexact H6
  isplitl [H8]; · iexact H8
  isplitl [HS]; · iexact HS
  isplitl [H11]; · iexists _; iexact H11
  iintro ⟨H4, H5, H6, H8, HS, H11⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (out9_idle m c t (by omega)); iexact H9
  isplitl [H10]; · iapply (out10_idle m c t (by omega)); iexact H10
  isplitl [H11]; · iapply (out11_live m c t (by omega)); iexact H11
  iapply (out12_idle m c t (by omega)); iexact H12

theorem body_v (c : Dev nD) (t : Fin cfg0.N) (h : t.val % 10 = 9) :
    bodyPre m c t ⊢ wp frame (wpE (defs₀ (F := F)) Variants.none c none) Set.univ (bodyAt0 (F := F) t) (fun _ => bodyPost m c t) := by
  unfold bodyPre bodyPost
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8,
    show (dats m 0 c).Φ t.castSucc = held m c t.val from rfl, show (dats m 0 c).Φ t.succ = held m c (t.val + 1) from rfl]
  rw [held_in m c t.val (by omega), held_start m c (t.val + 1) (by omega)]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11, H12⟩
  icases H12 with ⟨%dl, H12⟩
  iapply (run_v c (grid0.coords t) _ _ _ _ _ _ _ _ _ _ _ _ _ _ _ _ _ _ _ _ _ _ _ _ _ _ _ _ (iblk m c 4 t) (hvAt m c (t.val / 10)) (fun hc => absurd ((cond1_iff t).mp hc) (by omega)) (fun hc => absurd ((cond2_iff t).mp hc) (by omega)) (fun hc => absurd ((cond3_iff t).mp hc) (by omega)) (fun hc => absurd ((cond4_iff t).mp hc) (by omega)) ((cond5_iff t).mpr (by omega)) Set.univ _)
  isplitl [H4]; · iexact H4
  isplitl [HS]; · iexact HS
  isplitl [H12]; · iexists _; iexact H12
  iintro ⟨H4, HS, H12⟩
  isplitl [HS Hr]
  · iapply (held_close (F := F) c)
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (out9_idle m c t (by omega)); iexact H9
  isplitl [H10]; · iapply (out10_idle m c t (by omega)); iexact H10
  isplitl [H11]; · iapply (out11_idle m c t (by omega)); iexact H11
  iapply (out12_live m c t (by omega)); iexact H12

theorem row_eq (t : Fin cfg0.N) :
    defs₀ (F := F) .tc cfg0.body (cfg0.bodyArgs t (cfg0.slots t)) = bodyAt0 (F := F) t := by
  unfold defs₀; rw [Defs.onTc_tc]

theorem body_all (c : Dev nD) (t : Fin cfg0.N) :
    bodyPre m c t ⊢ wp frame (wpE (defs₀ (F := F)) Variants.none c none) Set.univ (bodyAt0 (F := F) t) (fun _ => bodyPost m c t) := by
  by_cases h0 : t.val % 10 = 0
  · exact body_first m c t h0
  by_cases h1 : t.val % 10 ≤ 3
  · exact body_pool m c t (by omega)
  by_cases h2 : t.val % 10 ≤ 7
  · exact body_q m c t (by omega)
  by_cases h3 : t.val % 10 = 8
  · exact body_k m c t h3
  exact body_v m c t (by omega)

theorem body_obligation (c : Dev nD) : BodyObligation (dats (F := F) m 0 c) (defs₀ (F := F)) Variants.none () Set.univ := fun t => by
  rw [bigSep_W0, bigSep_W0, row_eq]
  exact triple_restated (body_all m c t) rfl .rfl fun _ => .rfl

/-! ## The run and the frame -/

set_option backward.isDefEq.respectTransparency.types false in
/-- Every run ends with the arrays at what the pipeline's data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m)
    (hin := fun c => by rw [show (dats m 0 c).Φ 0 = held m c 0 from rfl, held_start m c 0 rfl])
    (hout := fun c => by rw [show (dats m 0 c).Φ (Fin.last cfg0.N) = held m c 160 from rfl, held_start m c 160 rfl])

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r ⟨h, hs⟩ => ⟨fun c => ⟨((h c).1 0).trans (((dats m 0 c).arrAt_in 0 rfl _).trans (A_eq m c 0)),
      ((h c).1 2).trans (((dats m 0 c).arrAt_in 2 rfl _).trans (A_eq m c 2)),
      ((h c).1 1).trans (((dats m 0 c).arrAt_in 1 rfl _).trans (A_eq m c 1)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8))⟩, hs⟩) (run_all m ρ)

end Cert.Kernel5Ideal.Inproj

end
-- ==== Proof.Inproj.Heads.lean ====
/- The rows' norm, a head's norm and a head's rotation, read at an index: the kernel's and the reference's. -/
module

public import proofs.«01_k».proof.Proof.Inproj.RunIdeal
public import proofs.«01_k».proof.Proof.Gen.Reference5Ideal.Run
public import Idealize.ShloMosaic.Lib.Pipeline.ValueKit
public import Idealize.ShloMosaic.Lib.Pointwise
public import Idealize.ShloMosaic.Lib.KernelVsHost

@[expose] public section

set_option maxRecDepth 16384

noncomputable section

open Idealize.ShloMosaic

namespace Cert.Kernel5Ideal.Inproj

/-! ## In numbers -/

/-- A row over the root of its mean square, times the gains. -/
def normS (f g : Fin 128 → EReal) (d : Fin 128) : EReal :=
  f d * Ideal.rsqrt (Ideal.div (∑ x, f x * f x) (Ideal.ofBits FTy.f32 1124073472#32) + Ideal.ofBits FTy.f32 897988541#32) * g d

/-- The column a column is rotated with: the other half of its 64. -/
def partner (d : Fin 128) : Fin 128 :=
  ⟨d.val / 64 * 64 + (1 - d.val / 32 % 2) * 32 + d.val % 32, by have := d.isLt; omega⟩

def ropeS (f cs sn : Fin 128 → EReal) (d : Fin 128) : EReal := f d * cs d + f (partner d) * sn d

/-- 1/√128/ln 2, as the reference computes it. -/
def scaleS : EReal := Ideal.div (Ideal.div 1 (Ideal.sqrt (Ideal.ofBits FTy.f32 1124073472#32))) (Ideal.log (Ideal.ofBits FTy.f32 1073741824#32))

/-- A row normed over its 4096 columns and modulated. -/
def rowS (f g sc sh : Fin 4096 → EReal) (k : Fin 4096) : EReal :=
  f k * Ideal.rsqrt (Ideal.div (∑ x, f x * f x) (Ideal.ofBits FTy.f32 1166016512#32) + Ideal.ofBits FTy.f32 897988541#32) * g k * (1 + sc k) + sh k

/-! ## The kernel's -/

section
open Cert.Kernel5Ideal Cert.Kernel5Ideal.Gen

theorem row_at (x : Vec Ideal S16x4096 .f32) (g sc sh : Vec Ideal S1x4096 .f32) (r : Fin 16) (d : Fin 4096) :
    k0_pay1 x g sc sh (ix2 r d) = rowS (fun k => x (ix2 r k)) (fun k => g (ix2 0 k)) (fun k => sc (ix2 0 k)) (fun k => sh (ix2 0 k)) d := by
  pointwise [k0_pay1]
  rfl

theorem headNorm_at (v : FVec Ideal S512x128 .f32) (g : Vec Ideal S1x128 .f32) (r : Fin 512) (d : Fin 128) :
    headNorm v g (ix2 r d) = normS (fun e => v (ix2 r e)) (fun e => g (ix2 0 e)) d := by
  pointwise [headNorm]
  rfl

theorem mask_at (r : Fin 512) (d : Fin 128) : k0_pay10 (ix2 r d) = if d.val % 64 < 32 then 1#1 else 0#1 := by
  pointwise [k0_pay10]
  revert d
  decide +kernel

theorem headRope_at (n : FVec Ideal S512x128 .f32) (cs sn : Vec Ideal S512x128 .f32) (r : Fin 512) (d : Fin 128) :
    headRope n cs sn (ix2 r d) = ropeS (fun e => n (ix2 r e)) (fun e => cs (ix2 r e)) (fun e => sn (ix2 r e)) d := by
  pointwise [headRope]
  rw [mask_at]
  refine Ideal.add_congr rfl (Ideal.mul_congr ?_ rfl)
  have hd := d.isLt
  by_cases h : d.val % 64 < 32
  · rw [if_pos h]
    refine congrArg (fun e => n (ix2 r e)) (Fin.ext ?_)
    show (d.val + 128 - 96) % 128 = d.val / 64 * 64 + (1 - d.val / 32 % 2) * 32 + d.val % 32
    omega
  · rw [if_neg h]
    refine congrArg (fun e => n (ix2 r e)) (Fin.ext ?_)
    show (d.val + 128 - 32) % 128 = d.val / 64 * 64 + (1 - d.val / 32 % 2) * 32 + d.val % 32
    omega

theorem kHead_at (v : FVec Ideal S512x128 .f32) (g : Vec Ideal S1x128 .f32) (cs sn : Vec Ideal S512x128 .f32) (r : Fin 512) (d : Fin 128) :
    kHead v g cs sn (ix2 r d) = ropeS (normS (fun e => v (ix2 r e)) (fun e => g (ix2 0 e))) (fun e => cs (ix2 r e)) (fun e => sn (ix2 r e)) d := by
  pointwise [kHead]
  rw [headRope_at]
  exact congrArg (fun f => ropeS f _ _ d) (funext fun e => headNorm_at v g r e)

theorem scale_eq : (Named.named (F := Ideal) κ (φ := .f32) "q_scale" 0x3E0293EE#32 : EReal) = scaleS := by
  refine (IdealRules.named_const.ideal_named_scalar _ _ _ _ rfl).trans ?_
  unfold scaleS
  have h128 : Ideal.ofBits FTy.f32 1124073472#32 = ((128 : ℝ) : EReal) := by simp [Ideal.ofBits, Ideal.ieee, -EReal.coe_mul]; norm_num
  have h2 : Ideal.ofBits FTy.f32 1073741824#32 = ((2 : ℝ) : EReal) := by simp [Ideal.ofBits, Ideal.ieee, -EReal.coe_mul]; norm_num
  have hs : Real.sqrt 128 ≠ 0 := (Real.sqrt_pos.mpr (by norm_num)).ne'
  have hl : Real.log 2 ≠ 0 := (Real.log_pos (by norm_num)).ne'
  rw [h128, h2, Ideal.sqrt_coe, if_neg (by norm_num), Ideal.log_coe, if_neg (by norm_num), Ideal.div_coe hs, Ideal.div_coe hl, one_div, one_div, one_mul, EReal.coe_mul]

theorem qHead_at (v : FVec Ideal S512x128 .f32) (g : Vec Ideal S1x128 .f32) (cs sn : Vec Ideal S512x128 .f32) (r : Fin 512) (d : Fin 128) :
    qHead v g cs sn (ix2 d r) = ropeS (normS (fun e => v (ix2 r e)) (fun e => g (ix2 0 e))) (fun e => cs (ix2 r e)) (fun e => sn (ix2 r e)) d * scaleS := by
  pointwise [qHead]
  rw [headRope_at]
  refine Ideal.mul_congr (congrArg (fun f => ropeS f _ _ d) (funext fun e => headNorm_at v g r e)) scale_eq

end

end Cert.Kernel5Ideal.Inproj

namespace Cert.Reference5Ideal.Inproj

open Cert.Reference5Ideal Cert.Reference5Ideal.Gen Cert.Kernel5Ideal.Inproj

/-! ## The reference's -/

def Hn (x : FVec Ideal S8192x4096 .f32) (md : FVec Ideal S1x24576 .f32) (g1 : FVec Ideal S1x4096 .f32) : FVec Ideal S8192x4096 .f32 :=
  (addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 g1)) (broadcastInDim S8192x4096 ![0, 1] bcast_S1x4096_S8192x4096_0_1 (addf (broadcastInDim S1x4096 ![] bcast_S_S1x4096 (constant S_ .f32 0x3F800000#32)) (extractStridedSlice S1x4096 ![0, 4096] md slices_S1x24576_S1x4096_0_4096)))) (broadcastInDim S8192x4096 ![0, 1] bcast_S1x4096_S8192x4096_0_1 (extractStridedSlice S1x4096 ![0, 0] md slices_S1x24576_S1x4096_0_0)))
def Pr (h : FVec Ideal S8192x4096 .f32) (w : FVec Ideal S4096x5120 .bf16) : FVec Ideal S8192x5120 .f32 :=
  Host.dotGeneral dot_S8192x4096_S4096x5120_S8192x5120_1_0_0_1_n_n none h (extf .f32 w bitsLt_bf16_f32)

theorem Hn_at (x : FVec Ideal S8192x4096 .f32) (md : FVec Ideal S1x24576 .f32) (g1 : FVec Ideal S1x4096 .f32) (i : Fin 8192) (k : Fin 4096) :
    Hn x md g1 (ix2 i k) = rowS (fun k => x (ix2 i k)) (fun k => g1 (ix2 0 k)) (fun k => md (ix2 0 ⟨4096 + k.val, by have := k.isLt; omega⟩))
      (fun k => md (ix2 0 ⟨k.val, by have := k.isLt; omega⟩)) k := by
  pointwise [Hn]
  rfl

theorem Pr_at (h : FVec Ideal S8192x4096 .f32) (w : FVec Ideal S4096x5120 .bf16) (i : Fin 8192) (j : Fin 5120) :
    Pr h w (ix2 i j) = ∑ k, h (ix2 i k) * w (ix2 k j) := by
  pointwise [Pr]

def Pool (p : FVec Ideal S8192x5120 .f32) : FVec Ideal S8192x2048 .bf16 :=
  truncf .bf16 (extractStridedSlice S8192x2048 ![0, 0] p slices_S8192x5120_S8192x2048_0_0) bitsLt_bf16_f32
def Vt (p : FVec Ideal S8192x5120 .f32) : FVec Ideal S512x8192 .bf16 :=
  truncf .bf16 (transpose S512x8192 [1, 0] (extractStridedSlice S8192x512 ![0, 4608] p slices_S8192x5120_S8192x512_0_4608) transposes_S8192x512_S512x8192_1_0) bitsLt_bf16_f32

theorem Pool_at (p : FVec Ideal S8192x5120 .f32) (i : Fin 8192) (a : Fin 2048) : Pool p (ix2 i a) = p (ix2 i ⟨a.val, by have := a.isLt; omega⟩) := by
  pointwise [Pool]
  try rfl
theorem Vt_at (p : FVec Ideal S8192x5120 .f32) (i : Fin 8192) (a : Fin 512) : Vt p (ix2 a i) = p (ix2 i ⟨4608 + a.val, by have := a.isLt; omega⟩) := by
  pointwise [Vt]
  try rfl

def Slq (p : FVec Ideal S8192x5120 .f32) : FVec Ideal S8192x16x128 .f32 :=
  shapeCast S8192x16x128 (extractStridedSlice S8192x2048 ![0, 2048] p slices_S8192x5120_S8192x2048_0_2048) shapeCasts_S8192x2048_S8192x16x128
def Nq (P : FVec Ideal S8192x16x128 .f32) (g : FVec Ideal S1x128 .f32) : FVec Ideal S8192x16x128 .f32 :=
  mulf (mulf P (broadcastInDim S8192x16x128 ![0, 1, 2] bcast_S8192x16x1_S8192x16x128_0_1_2 (Host.rsqrt (addf (Host.divf (broadcastInDim S8192x16x1 ![0, 1] bcast_S8192x16_S8192x16x1_0_1 (Host.reduceAdd (mulf P P) (constant S_ .f32 0x00000000#32) reducesTo_S8192x16x128_S8192x16_d2 h_S_)) (broadcastInDim S8192x16x1 ![] bcast_S_S8192x16x1 (constant S_ .f32 0x43000000#32))) (broadcastInDim S8192x16x1 ![] bcast_S_S8192x16x1 (constant S_ .f32 0x358637BD#32))))))
    (broadcastInDim S8192x16x128 ![0, 1, 2] bcast_S1x1x128_S8192x16x128_0_1_2 (broadcastInDim S1x1x128 ![2] bcast_S128_S1x1x128_2 (shapeCast S128 g shapeCasts_S1x128_S128)))
def Swq (n : FVec Ideal S8192x16x128 .f32) : FVec Ideal S8192x16x128 .f32 :=
  shapeCast S8192x16x128 (Host.reverse [3] (shapeCast S8192x16x2x2x32 n shapeCasts_S8192x16x128_S8192x16x2x2x32)) shapeCasts_S8192x16x2x2x32_S8192x16x128
def Rq (n : FVec Ideal S8192x16x128 .f32) (cs sn : FVec Ideal S8192x128 .f32) : FVec Ideal S8192x16x128 .f32 :=
  addf (mulf n (broadcastInDim S8192x16x128 ![0, 1, 2] bcast_S8192x1x128_S8192x16x128_0_1_2 (broadcastInDim S8192x1x128 ![0, 2] bcast_S8192x128_S8192x1x128_0_2 cs)))
    (mulf (Swq n) (broadcastInDim S8192x16x128 ![0, 1, 2] bcast_S8192x1x128_S8192x16x128_0_1_2 (broadcastInDim S8192x1x128 ![0, 2] bcast_S8192x128_S8192x1x128_0_2 sn)))

theorem Slq_at (p : FVec Ideal S8192x5120 .f32) (i : Fin 8192) (h : Fin 16) (d : Fin 128) :
    Slq p (ix3 i h d) = p (ix2 i ⟨2048 + 128 * h.val + d.val, by have := h.isLt; have := d.isLt; omega⟩) := by
  pointwise [Slq]
  refine congrArg (fun e => p (ix2 i e)) (Fin.ext ?_)
  dsimp only
  omega
theorem Nq_at (P : FVec Ideal S8192x16x128 .f32) (g : FVec Ideal S1x128 .f32) (i : Fin 8192) (h : Fin 16) (d : Fin 128) :
    Nq P g (ix3 i h d) = normS (fun e => P (ix3 i h e)) (fun e => g (ix2 0 e)) d := by
  pointwise [Nq]
  rfl
theorem Swq_at (n : FVec Ideal S8192x16x128 .f32) (i : Fin 8192) (h : Fin 16) (d : Fin 128) : Swq n (ix3 i h d) = n (ix3 i h (partner d)) := by
  pointwise [Swq]
  have e0 : ¬ (0 : ℕ) ∈ [3] := by decide
  refine congrArg (fun e => n (ix3 i h e)) (Fin.ext ?_)
  have hd := d.isLt
  show d.val / 64 * 64 + (2 - (d.val / 32 % 2 + 1)) * 32 + d.val % 32 = d.val / 64 * 64 + (1 - d.val / 32 % 2) * 32 + d.val % 32
  omega
theorem Rq_at (n : FVec Ideal S8192x16x128 .f32) (cs sn : FVec Ideal S8192x128 .f32) (i : Fin 8192) (h : Fin 16) (d : Fin 128) :
    Rq n cs sn (ix3 i h d) = ropeS (fun e => n (ix3 i h e)) (fun e => cs (ix2 i e)) (fun e => sn (ix2 i e)) d := by
  pointwise [Rq]
  rw [Swq_at]
  rfl
theorem RNq_at (p : FVec Ideal S8192x5120 .f32) (g : FVec Ideal S1x128 .f32) (cs sn : FVec Ideal S8192x128 .f32) (i : Fin 8192) (h : Fin 16) (d : Fin 128) :
    Rq (Nq (Slq p) g) cs sn (ix3 i h d)
      = ropeS (normS (fun e => p (ix2 i ⟨2048 + 128 * h.val + e.val, by have := h.isLt; have := e.isLt; omega⟩)) (fun e => g (ix2 0 e))) (fun e => cs (ix2 i e)) (fun e => sn (ix2 i e)) d := by
  rw [Rq_at]
  refine congrArg (fun f => ropeS f _ _ d) (funext fun e => ?_)
  rw [Nq_at]
  exact congrArg (fun f => normS f _ e) (funext fun e' => Slq_at p i h e')

def Slk (p : FVec Ideal S8192x5120 .f32) : FVec Ideal S8192x4x128 .f32 :=
  shapeCast S8192x4x128 (extractStridedSlice S8192x512 ![0, 4096] p slices_S8192x5120_S8192x512_0_4096) shapeCasts_S8192x512_S8192x4x128
def Nk (P : FVec Ideal S8192x4x128 .f32) (g : FVec Ideal S1x128 .f32) : FVec Ideal S8192x4x128 .f32 :=
  mulf (mulf P (broadcastInDim S8192x4x128 ![0, 1, 2] bcast_S8192x4x1_S8192x4x128_0_1_2 (Host.rsqrt (addf (Host.divf (broadcastInDim S8192x4x1 ![0, 1] bcast_S8192x4_S8192x4x1_0_1 (Host.reduceAdd (mulf P P) (constant S_ .f32 0x00000000#32) reducesTo_S8192x4x128_S8192x4_d2 h_S_)) (broadcastInDim S8192x4x1 ![] bcast_S_S8192x4x1 (constant S_ .f32 0x43000000#32))) (broadcastInDim S8192x4x1 ![] bcast_S_S8192x4x1 (constant S_ .f32 0x358637BD#32))))))
    (broadcastInDim S8192x4x128 ![0, 1, 2] bcast_S1x1x128_S8192x4x128_0_1_2 (broadcastInDim S1x1x128 ![2] bcast_S128_S1x1x128_2 (shapeCast S128 g shapeCasts_S1x128_S128)))
def Swk (n : FVec Ideal S8192x4x128 .f32) : FVec Ideal S8192x4x128 .f32 :=
  shapeCast S8192x4x128 (Host.reverse [3] (shapeCast S8192x4x2x2x32 n shapeCasts_S8192x4x128_S8192x4x2x2x32)) shapeCasts_S8192x4x2x2x32_S8192x4x128
def Rk (n : FVec Ideal S8192x4x128 .f32) (cs sn : FVec Ideal S8192x128 .f32) : FVec Ideal S8192x4x128 .f32 :=
  addf (mulf n (broadcastInDim S8192x4x128 ![0, 1, 2] bcast_S8192x1x128_S8192x4x128_0_1_2 (broadcastInDim S8192x1x128 ![0, 2] bcast_S8192x128_S8192x1x128_0_2 cs)))
    (mulf (Swk n) (broadcastInDim S8192x4x128 ![0, 1, 2] bcast_S8192x1x128_S8192x4x128_0_1_2 (broadcastInDim S8192x1x128 ![0, 2] bcast_S8192x128_S8192x1x128_0_2 sn)))

theorem Slk_at (p : FVec Ideal S8192x5120 .f32) (i : Fin 8192) (h : Fin 4) (d : Fin 128) :
    Slk p (ix3 i h d) = p (ix2 i ⟨4096 + 128 * h.val + d.val, by have := h.isLt; have := d.isLt; omega⟩) := by
  pointwise [Slk]
  refine congrArg (fun e => p (ix2 i e)) (Fin.ext ?_)
  dsimp only
  omega
theorem Nk_at (P : FVec Ideal S8192x4x128 .f32) (g : FVec Ideal S1x128 .f32) (i : Fin 8192) (h : Fin 4) (d : Fin 128) :
    Nk P g (ix3 i h d) = normS (fun e => P (ix3 i h e)) (fun e => g (ix2 0 e)) d := by
  pointwise [Nk]
  rfl
theorem Swk_at (n : FVec Ideal S8192x4x128 .f32) (i : Fin 8192) (h : Fin 4) (d : Fin 128) : Swk n (ix3 i h d) = n (ix3 i h (partner d)) := by
  pointwise [Swk]
  have e0 : ¬ (0 : ℕ) ∈ [3] := by decide
  refine congrArg (fun e => n (ix3 i h e)) (Fin.ext ?_)
  have hd := d.isLt
  show d.val / 64 * 64 + (2 - (d.val / 32 % 2 + 1)) * 32 + d.val % 32 = d.val / 64 * 64 + (1 - d.val / 32 % 2) * 32 + d.val % 32
  omega
theorem Rk_at (n : FVec Ideal S8192x4x128 .f32) (cs sn : FVec Ideal S8192x128 .f32) (i : Fin 8192) (h : Fin 4) (d : Fin 128) :
    Rk n cs sn (ix3 i h d) = ropeS (fun e => n (ix3 i h e)) (fun e => cs (ix2 i e)) (fun e => sn (ix2 i e)) d := by
  pointwise [Rk]
  rw [Swk_at]
  rfl
theorem RNk_at (p : FVec Ideal S8192x5120 .f32) (g : FVec Ideal S1x128 .f32) (cs sn : FVec Ideal S8192x128 .f32) (i : Fin 8192) (h : Fin 4) (d : Fin 128) :
    Rk (Nk (Slk p) g) cs sn (ix3 i h d)
      = ropeS (normS (fun e => p (ix2 i ⟨4096 + 128 * h.val + e.val, by have := h.isLt; have := e.isLt; omega⟩)) (fun e => g (ix2 0 e))) (fun e => cs (ix2 i e)) (fun e => sn (ix2 i e)) d := by
  rw [Rk_at]
  refine congrArg (fun f => ropeS f _ _ d) (funext fun e => ?_)
  rw [Nk_at]
  exact congrArg (fun f => normS f _ e) (funext fun e' => Slk_at p i h e')

def Qt (p : FVec Ideal S8192x5120 .f32) (qg : FVec Ideal S1x128 .f32) (cs sn : FVec Ideal S8192x128 .f32) : FVec Ideal S2048x8192 .bf16 :=
  truncf .bf16 (transpose S2048x8192 [1, 0] (mulf (shapeCast S8192x2048 (Rq (Nq (Slq p) qg) cs sn) shapeCasts_S8192x16x128_S8192x2048)
    (broadcastInDim S8192x2048 ![] bcast_S_S8192x2048 (Host.divf (Host.divf (constant S_ .f32 0x3F800000#32) (Host.sqrt (constant S_ .f32 0x43000000#32))) (Host.log (constant S_ .f32 0x40000000#32)))))
    transposes_S8192x2048_S2048x8192_1_0) bitsLt_bf16_f32
def Kk (p : FVec Ideal S8192x5120 .f32) (kg : FVec Ideal S1x128 .f32) (cs sn : FVec Ideal S8192x128 .f32) : FVec Ideal S8192x512 .bf16 :=
  truncf .bf16 (shapeCast S8192x512 (Rk (Nk (Slk p) kg) cs sn) shapeCasts_S8192x4x128_S8192x512) bitsLt_bf16_f32

theorem Qt_at (p : FVec Ideal S8192x5120 .f32) (g : FVec Ideal S1x128 .f32) (cs sn : FVec Ideal S8192x128 .f32) (i : Fin 8192) (a : Fin 2048) :
    Qt p g cs sn (ix2 a i) = ropeS (normS (fun e => p (ix2 i ⟨2048 + 128 * (a.val / 128) + e.val, by have := a.isLt; have := e.isLt; omega⟩)) (fun e => g (ix2 0 e)))
      (fun e => cs (ix2 i e)) (fun e => sn (ix2 i e)) ⟨a.val % 128, Nat.mod_lt _ (by decide)⟩ * scaleS := by
  pointwise [Qt]
  exact Ideal.mul_congr (RNq_at p g cs sn i ⟨a.val / 128, by have := a.isLt; omega⟩ ⟨a.val % 128, Nat.mod_lt _ (by decide)⟩) rfl
theorem Kk_at (p : FVec Ideal S8192x5120 .f32) (g : FVec Ideal S1x128 .f32) (cs sn : FVec Ideal S8192x128 .f32) (i : Fin 8192) (a : Fin 512) :
    Kk p g cs sn (ix2 i a) = ropeS (normS (fun e => p (ix2 i ⟨4096 + 128 * (a.val / 128) + e.val, by have := a.isLt; have := e.isLt; omega⟩)) (fun e => g (ix2 0 e)))
      (fun e => cs (ix2 i e)) (fun e => sn (ix2 i e)) ⟨a.val % 128, Nat.mod_lt _ (by decide)⟩ := by
  pointwise [Kk]
  exact RNk_at p g cs sn i ⟨a.val / 128, by have := a.isLt; omega⟩ ⟨a.val % 128, Nat.mod_lt _ (by decide)⟩

end Cert.Reference5Ideal.Inproj

end
-- ==== Proof.Inproj.Value.lean ====
/- The input projection: the arrays the pipelined call leaves are the reference's terms. -/
module

public import proofs.«01_k».proof.Proof.Inproj.FrameIdeal
public import proofs.«01_k».proof.Proof.Inproj.Heads

@[expose] public section

set_option maxRecDepth 16384

noncomputable section

open Idealize.ShloMosaic Idealize.ShloMosaic.TcCoe Idealize.SL.Sem
open Idealize.ShloMosaic.Pipeline (Dat Window)

namespace Cert.Kernel5Ideal.Inproj

open Cert.Kernel5Ideal Cert.Kernel5Ideal.Gen
open Cert.Reference5Ideal.Inproj (Hn Pr Hn_at Pr_at Pool Vt Qt Kk Pool_at Vt_at Qt_at Kk_at)

variable (m : (ℓ : Loc nD τ sig) → Buf (Elt Ideal) ℓ)

/-! ## The blocks -/

theorem index_0 : ∀ t : Fin cfg0.N, (cfg0.win 0).index t = ![t.val / 10, 0] := (by decide +kernel : ∀ t : Fin grid0.N, win0_0.index t = ![t.val / 10, 0])
theorem index_1 : ∀ t : Fin cfg0.N, (cfg0.win 1).index t = ![0, 0] := (by decide +kernel : ∀ t : Fin grid0.N, win0_1.index t = ![0, 0])
theorem index_2 : ∀ t : Fin cfg0.N, (cfg0.win 2).index t = ![0, 1] := (by decide +kernel : ∀ t : Fin grid0.N, win0_2.index t = ![0, 1])
theorem index_3 : ∀ t : Fin cfg0.N, (cfg0.win 3).index t = ![0, 0] := (by decide +kernel : ∀ t : Fin grid0.N, win0_3.index t = ![0, 0])
theorem index_4 : ∀ t : Fin cfg0.N, (cfg0.win 4).index t = ![0, t.val % 10] := (by decide +kernel : ∀ t : Fin grid0.N, win0_4.index t = ![0, t.val % 10])
theorem index_5 : ∀ t : Fin cfg0.N, (cfg0.win 5).index t = ![t.val / 10, 0] := (by decide +kernel : ∀ t : Fin grid0.N, win0_5.index t = ![t.val / 10, 0])
theorem index_6 : ∀ t : Fin cfg0.N, (cfg0.win 6).index t = ![t.val / 10, 0] := (by decide +kernel : ∀ t : Fin grid0.N, win0_6.index t = ![t.val / 10, 0])
theorem index_7 : ∀ t : Fin cfg0.N, (cfg0.win 7).index t = ![0, 0] := (by decide +kernel : ∀ t : Fin grid0.N, win0_7.index t = ![0, 0])
theorem index_8 : ∀ t : Fin cfg0.N, (cfg0.win 8).index t = ![0, 0] := (by decide +kernel : ∀ t : Fin grid0.N, win0_8.index t = ![0, 0])
theorem index_9 : ∀ t : Fin cfg0.N, (cfg0.win 9).index t = ![t.val / 10, min (t.val % 10) 3] := (by decide +kernel : ∀ t : Fin grid0.N, win0_9.index t = ![t.val / 10, min (t.val % 10) 3])
theorem index_10 : ∀ t : Fin cfg0.N, (cfg0.win 10).index t = ![min 3 (t.val % 10 - 4), t.val / 10] := (by decide +kernel : ∀ t : Fin grid0.N, win0_10.index t = ![min 3 (t.val % 10 - 4), t.val / 10])
theorem index_11 : ∀ t : Fin cfg0.N, (cfg0.win 11).index t = ![t.val / 10, 0] := (by decide +kernel : ∀ t : Fin grid0.N, win0_11.index t = ![t.val / 10, 0])
theorem index_12 : ∀ t : Fin cfg0.N, (cfg0.win 12).index t = ![0, t.val / 10] := (by decide +kernel : ∀ t : Fin grid0.N, win0_12.index t = ![0, t.val / 10])

theorem blk_0 (c : Dev nD) (t : Fin cfg0.N) (p : Fin 512) (q : Fin 4096) (r : Fin 8192) (f : Fin 4096)
    (hr : r.val = t.val / 10 * 512 + p.val) (hf : f.val = 0 * 4096 + q.val) :
    (iblk m c 0 t : FVec Ideal S512x4096 .f32) (ix2 p q) = (m ((c : Thread nD τ).loc main_arg0) : FVec Ideal S8192x4096 .f32) (ix2 r f) := by
  have e1 : ((cfg0.win 0).rect t).emb (ix2 p q) = (ix2 r f : S8192x4096.Idx) := by
    funext a
    apply Fin.ext
    have h := Window.rect_emb_val (cfg0.win 0) t (ix2 p q) a rfl
    rw [index_0] at h
    refine h.trans ?_
    fin_cases a
    · exact hr.symm
    · exact hf.symm
  exact congrArg (m ((c : Thread nD τ).loc main_arg0)) e1

theorem blk_1 (c : Dev nD) (t : Fin cfg0.N) (p : Fin 1) (q : Fin 4096) (r : Fin 1) (f : Fin 4096)
    (hr : r.val = 0 * 1 + p.val) (hf : f.val = 0 * 4096 + q.val) :
    (iblk m c 1 t : FVec Ideal S1x4096 .f32) (ix2 p q) = (m ((c : Thread nD τ).loc main_arg2) : FVec Ideal S1x4096 .f32) (ix2 r f) := by
  have e1 : ((cfg0.win 1).rect t).emb (ix2 p q) = (ix2 r f : S1x4096.Idx) := by
    funext a
    apply Fin.ext
    have h := Window.rect_emb_val (cfg0.win 1) t (ix2 p q) a rfl
    rw [index_1] at h
    refine h.trans ?_
    fin_cases a
    · exact hr.symm
    · exact hf.symm
  exact congrArg (m ((c : Thread nD τ).loc main_arg2)) e1

theorem blk_2 (c : Dev nD) (t : Fin cfg0.N) (p : Fin 1) (q : Fin 4096) (r : Fin 1) (f : Fin 24576)
    (hr : r.val = 0 * 1 + p.val) (hf : f.val = 1 * 4096 + q.val) :
    (iblk m c 2 t : FVec Ideal S1x4096 .f32) (ix2 p q) = (m ((c : Thread nD τ).loc main_arg1) : FVec Ideal S1x24576 .f32) (ix2 r f) := by
  have e1 : ((cfg0.win 2).rect t).emb (ix2 p q) = (ix2 r f : S1x24576.Idx) := by
    funext a
    apply Fin.ext
    have h := Window.rect_emb_val (cfg0.win 2) t (ix2 p q) a rfl
    rw [index_2] at h
    refine h.trans ?_
    fin_cases a
    · exact hr.symm
    · exact hf.symm
  exact congrArg (m ((c : Thread nD τ).loc main_arg1)) e1

theorem blk_3 (c : Dev nD) (t : Fin cfg0.N) (p : Fin 1) (q : Fin 4096) (r : Fin 1) (f : Fin 24576)
    (hr : r.val = 0 * 1 + p.val) (hf : f.val = 0 * 4096 + q.val) :
    (iblk m c 3 t : FVec Ideal S1x4096 .f32) (ix2 p q) = (m ((c : Thread nD τ).loc main_arg1) : FVec Ideal S1x24576 .f32) (ix2 r f) := by
  have e1 : ((cfg0.win 3).rect t).emb (ix2 p q) = (ix2 r f : S1x24576.Idx) := by
    funext a
    apply Fin.ext
    have h := Window.rect_emb_val (cfg0.win 3) t (ix2 p q) a rfl
    rw [index_3] at h
    refine h.trans ?_
    fin_cases a
    · exact hr.symm
    · exact hf.symm
  exact congrArg (m ((c : Thread nD τ).loc main_arg1)) e1

theorem blk_4 (c : Dev nD) (t : Fin cfg0.N) (p : Fin 4096) (q : Fin 512) (r : Fin 4096) (f : Fin 5120)
    (hr : r.val = 0 * 4096 + p.val) (hf : f.val = t.val % 10 * 512 + q.val) :
    (iblk m c 4 t : FVec Ideal S4096x512 .bf16) (ix2 p q) = (m ((c : Thread nD τ).loc main_arg3) : FVec Ideal S4096x5120 .bf16) (ix2 r f) := by
  have e1 : ((cfg0.win 4).rect t).emb (ix2 p q) = (ix2 r f : S4096x5120.Idx) := by
    funext a
    apply Fin.ext
    have h := Window.rect_emb_val (cfg0.win 4) t (ix2 p q) a rfl
    rw [index_4] at h
    refine h.trans ?_
    fin_cases a
    · exact hr.symm
    · exact hf.symm
  exact congrArg (m ((c : Thread nD τ).loc main_arg3)) e1

theorem blk_5 (c : Dev nD) (t : Fin cfg0.N) (p : Fin 512) (q : Fin 128) (r : Fin 8192) (f : Fin 128)
    (hr : r.val = t.val / 10 * 512 + p.val) (hf : f.val = 0 * 128 + q.val) :
    (iblk m c 5 t : FVec Ideal S512x128 .f32) (ix2 p q) = (m ((c : Thread nD τ).loc main_arg4) : FVec Ideal S8192x128 .f32) (ix2 r f) := by
  have e1 : ((cfg0.win 5).rect t).emb (ix2 p q) = (ix2 r f : S8192x128.Idx) := by
    funext a
    apply Fin.ext
    have h := Window.rect_emb_val (cfg0.win 5) t (ix2 p q) a rfl
    rw [index_5] at h
    refine h.trans ?_
    fin_cases a
    · exact hr.symm
    · exact hf.symm
  exact congrArg (m ((c : Thread nD τ).loc main_arg4)) e1

theorem blk_6 (c : Dev nD) (t : Fin cfg0.N) (p : Fin 512) (q : Fin 128) (r : Fin 8192) (f : Fin 128)
    (hr : r.val = t.val / 10 * 512 + p.val) (hf : f.val = 0 * 128 + q.val) :
    (iblk m c 6 t : FVec Ideal S512x128 .f32) (ix2 p q) = (m ((c : Thread nD τ).loc main_arg5) : FVec Ideal S8192x128 .f32) (ix2 r f) := by
  have e1 : ((cfg0.win 6).rect t).emb (ix2 p q) = (ix2 r f : S8192x128.Idx) := by
    funext a
    apply Fin.ext
    have h := Window.rect_emb_val (cfg0.win 6) t (ix2 p q) a rfl
    rw [index_6] at h
    refine h.trans ?_
    fin_cases a
    · exact hr.symm
    · exact hf.symm
  exact congrArg (m ((c : Thread nD τ).loc main_arg5)) e1

theorem blk_7 (c : Dev nD) (t : Fin cfg0.N) (p : Fin 1) (q : Fin 128) (r : Fin 1) (f : Fin 128)
    (hr : r.val = 0 * 1 + p.val) (hf : f.val = 0 * 128 + q.val) :
    (iblk m c 7 t : FVec Ideal S1x128 .f32) (ix2 p q) = (m ((c : Thread nD τ).loc main_arg6) : FVec Ideal S1x128 .f32) (ix2 r f) := by
  have e1 : ((cfg0.win 7).rect t).emb (ix2 p q) = (ix2 r f : S1x128.Idx) := by
    funext a
    apply Fin.ext
    have h := Window.rect_emb_val (cfg0.win 7) t (ix2 p q) a rfl
    rw [index_7] at h
    refine h.trans ?_
    fin_cases a
    · exact hr.symm
    · exact hf.symm
  exact congrArg (m ((c : Thread nD τ).loc main_arg6)) e1

theorem blk_8 (c : Dev nD) (t : Fin cfg0.N) (p : Fin 1) (q : Fin 128) (r : Fin 1) (f : Fin 128)
    (hr : r.val = 0 * 1 + p.val) (hf : f.val = 0 * 128 + q.val) :
    (iblk m c 8 t : FVec Ideal S1x128 .f32) (ix2 p q) = (m ((c : Thread nD τ).loc main_arg7) : FVec Ideal S1x128 .f32) (ix2 r f) := by
  have e1 : ((cfg0.win 8).rect t).emb (ix2 p q) = (ix2 r f : S1x128.Idx) := by
    funext a
    apply Fin.ext
    have h := Window.rect_emb_val (cfg0.win 8) t (ix2 p q) a rfl
    rw [index_8] at h
    refine h.trans ?_
    fin_cases a
    · exact hr.symm
    · exact hf.symm
  exact congrArg (m ((c : Thread nD τ).loc main_arg7)) e1

/-! ## The normalized rows and the projection -/

abbrev arg0 (c : Dev nD) : FVec Ideal S8192x4096 .f32 := m ((c : Thread nD τ).loc main_arg0)
abbrev arg1 (c : Dev nD) : FVec Ideal S1x24576 .f32 := m ((c : Thread nD τ).loc main_arg1)
abbrev arg2 (c : Dev nD) : FVec Ideal S1x4096 .f32 := m ((c : Thread nD τ).loc main_arg2)
abbrev arg3 (c : Dev nD) : FVec Ideal S4096x5120 .bf16 := m ((c : Thread nD τ).loc main_arg3)
abbrev arg4 (c : Dev nD) : FVec Ideal S8192x128 .f32 := m ((c : Thread nD τ).loc main_arg4)
abbrev arg5 (c : Dev nD) : FVec Ideal S8192x128 .f32 := m ((c : Thread nD τ).loc main_arg5)
abbrev arg6 (c : Dev nD) : FVec Ideal S1x128 .f32 := m ((c : Thread nD τ).loc main_arg6)
abbrev arg7 (c : Dev nD) : FVec Ideal S1x128 .f32 := m ((c : Thread nD τ).loc main_arg7)

/-- The reference's normalized rows and its projection. -/
def HN (c : Dev nD) : FVec Ideal S8192x4096 .f32 := Hn (arg0 m c) (arg1 m c) (arg2 m c)
def PR (c : Dev nD) : FVec Ideal Cert.Reference5Ideal.S8192x5120 .f32 := Pr (HN m c) (arg3 m c)

theorem rowS_congr {f f' g g' a a' b b' : Fin 4096 → EReal} (hf : ∀ k, f k = f' k) (hg : ∀ k, g k = g' k) (ha : ∀ k, a k = a' k) (hb : ∀ k, b k = b' k) (k : Fin 4096) :
    rowS f g a b k = rowS f' g' a' b' k := by
  rw [funext hf, funext hg, funext ha, funext hb]

theorem rows_at (x0 : Vec Ideal S512x4096 .f32) (r : Fin 512) (k : Fin 4096) :
    rows x0 ⟨r.val / 16, by have := r.isLt; omega⟩ (ix2 ⟨r.val % 16, Nat.mod_lt _ (by norm_num)⟩ k) = x0 (ix2 r k) :=
  congrArg (fun e => x0 (ix2 e k)) (Fin.ext (by show 16 * (r.val / 16) + r.val % 16 = r.val; omega))

theorem hv_at (x0 : Vec Ideal S512x4096 .f32) (g sc sh : Vec Ideal S1x4096 .f32) (r : Fin 512) (k : Fin 4096) :
    hv x0 g sc sh (ix2 r k) = rowS (fun k => x0 (ix2 r k)) (fun k => g (ix2 0 k)) (fun k => sc (ix2 0 k)) (fun k => sh (ix2 0 k)) k :=
  (row_at (rows x0 ⟨r.val / 16, by have := r.isLt; omega⟩) g sc sh ⟨r.val % 16, Nat.mod_lt _ (by norm_num)⟩ k).trans
    (rowS_congr (fun k => rows_at x0 r k) (fun _ => rfl) (fun _ => rfl) (fun _ => rfl) k)

theorem hvAt_at (c : Dev nD) (b : Fin 16) (r : Fin 512) (k : Fin 4096) (i : Fin 8192) (hi : i.val = b.val * 512 + r.val) :
    hvAt m c b.val (ix2 r k) = HN m c (ix2 i k) := by
  have hb := b.isLt
  have hbase : (base b.val).val / 10 = b.val := by show (10 * b.val) % 160 / 10 = b.val; omega
  refine (hv_at (iblk m c 0 (base b.val)) (iblk m c 1 (base b.val)) (iblk m c 2 (base b.val)) (iblk m c 3 (base b.val)) r k).trans ?_
  refine Eq.trans ?_ (Hn_at (arg0 m c) (arg1 m c) (arg2 m c) i k).symm
  refine rowS_congr (fun k => ?_) (fun k => ?_) (fun k => ?_) (fun k => ?_) k
  · exact blk_0 m c (base b.val) r k i k (by rw [hbase, hi]) (by omega)
  · exact blk_1 m c (base b.val) 0 k 0 k (by rfl) (by omega)
  · exact blk_2 m c (base b.val) 0 k 0 ⟨4096 + k.val, by have := k.isLt; omega⟩ (by rfl) (by show 4096 + k.val = _; omega)
  · exact blk_3 m c (base b.val) 0 k 0 ⟨k.val, by have := k.isLt; omega⟩ (by rfl) (by show k.val = _; omega)

theorem pay2_at (h : Vec Ideal S512x4096 .bf16) (w : Vec Ideal S4096x512 .bf16) (r q : Fin 512) :
    k0_pay2 h w (ix2 r q) = ∑ k, h (ix2 r k) * w (ix2 k q) := by
  pointwise [k0_pay2]

/-- The projection at a point of the grid. -/
theorem proj_at (c : Dev nD) (s : Fin cfg0.N) (r q : Fin 512) (i : Fin 8192) (j : Fin 5120) (hi : i.val = s.val / 10 * 512 + r.val) (hj : j.val = s.val % 10 * 512 + q.val) :
    k0_pay2 (hvAt m c (s.val / 10)) (iblk m c 4 s) (ix2 r q) = PR m c (ix2 i j) := by
  have hs : s.val < 160 := s.isLt
  refine (pay2_at _ _ r q).trans (Eq.trans ?_ (Pr_at (HN m c) (arg3 m c) i j).symm)
  exact Finset.sum_congr rfl fun k _ => Ideal.mul_congr (hvAt_at m c ⟨s.val / 10, by omega⟩ r k i hi) (blk_4 m c s k q k j (by omega) hj)

/-! ## What the steps leave -/

theorem pool_at (c : Dev nD) (s : Fin cfg0.N) (r q : Fin 512) (i : Fin 8192) (a : Fin 2048) (hi : i.val = s.val / 10 * 512 + r.val) (ha : a.val = s.val % 10 * 512 + q.val) :
    poolAt m c s (ix2 r q) = Pool (PR m c) (ix2 i a) := by
  refine Eq.trans ?_ (Pool_at (PR m c) i a).symm
  refine Eq.trans ?_ (proj_at m c s r q i ⟨a.val, by have := a.isLt; omega⟩ hi ha)
  unfold poolAt
  pointwise [k0_pay3]

theorem vt_at (c : Dev nD) (s : Fin cfg0.N) (r q : Fin 512) (i : Fin 8192) (hs : s.val % 10 = 9) (hi : i.val = s.val / 10 * 512 + r.val) :
    vtAt m c s (ix2 q r) = Vt (PR m c) (ix2 q i) := by
  refine Eq.trans ?_ (Vt_at (PR m c) i q).symm
  refine Eq.trans ?_ (proj_at m c s r q i ⟨4608 + q.val, by have := q.isLt; omega⟩ hi (by show 4608 + q.val = _; omega))
  unfold vtAt
  pointwise [k0_pay6]

theorem head_congr {f f' g g' cs cs' sn sn' : Fin 128 → EReal} (hf : ∀ e, f e = f' e) (hg : ∀ e, g e = g' e) (hc : ∀ e, cs e = cs' e) (hs : ∀ e, sn e = sn' e) {d d' : Fin 128} (hd : d = d') :
    ropeS (normS f g) cs sn d = ropeS (normS f' g') cs' sn' d' := by
  rw [funext hf, funext hg, funext hc, funext hs, hd]

theorem k_at (c : Dev nD) (s : Fin cfg0.N) (r q : Fin 512) (i : Fin 8192) (hs : s.val % 10 = 8) (hi : i.val = s.val / 10 * 512 + r.val) :
    kAt m c s (ix2 r q) = Kk (PR m c) (arg7 m c) (arg4 m c) (arg5 m c) (ix2 i q) := by
  have hq := q.isLt
  refine Eq.trans ?_ (Kk_at (PR m c) (arg7 m c) (arg4 m c) (arg5 m c) i q).symm
  refine (kHead_at (sl (k0_pay2 (hvAt m c (s.val / 10)) (iblk m c 4 s)) ⟨q.val / 128, by omega⟩) (iblk m c 8 s) (iblk m c 5 s) (iblk m c 6 s) r ⟨q.val % 128, Nat.mod_lt _ (by norm_num)⟩).trans ?_
  refine head_congr (fun e => ?_) (fun e => ?_) (fun e => ?_) (fun e => ?_) rfl
  · exact proj_at m c s r ⟨128 * (q.val / 128) + e.val, by have := e.isLt; omega⟩ i ⟨4096 + 128 * (q.val / 128) + e.val, by have := e.isLt; omega⟩ hi (by show 4096 + 128 * (q.val / 128) + e.val = s.val % 10 * 512 + (128 * (q.val / 128) + e.val); omega)
  · exact blk_8 m c s 0 e 0 e (by rfl) (by omega)
  · exact blk_5 m c s r e i e hi (by omega)
  · exact blk_6 m c s r e i e hi (by omega)

theorem q_at (c : Dev nD) (s : Fin cfg0.N) (r q : Fin 512) (i : Fin 8192) (a : Fin 2048) (hs : 4 ≤ s.val % 10) (hi : i.val = s.val / 10 * 512 + r.val) (ha : a.val = (s.val % 10 - 4) * 512 + q.val) :
    qtAt m c s (ix2 q r) = Qt (PR m c) (arg6 m c) (arg4 m c) (arg5 m c) (ix2 a i) := by
  have hq := q.isLt
  refine Eq.trans ?_ (Qt_at (PR m c) (arg6 m c) (arg4 m c) (arg5 m c) i a).symm
  refine (qHead_at (sl (k0_pay2 (hvAt m c (s.val / 10)) (iblk m c 4 s)) ⟨q.val / 128, by omega⟩) (iblk m c 7 s) (iblk m c 5 s) (iblk m c 6 s) r ⟨q.val % 128, Nat.mod_lt _ (by norm_num)⟩).trans ?_
  refine Ideal.mul_congr (head_congr (fun e => ?_) (fun e => ?_) (fun e => ?_) (fun e => ?_) (Fin.ext (by show q.val % 128 = a.val % 128; omega))) rfl
  · exact proj_at m c s r ⟨128 * (q.val / 128) + e.val, by have := e.isLt; omega⟩ i ⟨2048 + 128 * (a.val / 128) + e.val, by have := e.isLt; omega⟩ hi (by show 2048 + 128 * (a.val / 128) + e.val = s.val % 10 * 512 + (128 * (q.val / 128) + e.val); omega)
  · exact blk_7 m c s 0 e 0 e (by rfl) (by omega)
  · exact blk_5 m c s r e i e hi (by omega)
  · exact blk_6 m c s r e i e hi (by omega)

/-! ## The arrays after the run -/

theorem src_val (lo hi : ℕ) (hl : lo ≤ hi) (hh : hi < 10) (t : Fin cfg0.N) : (src lo hi hh t).val / 10 = t.val / 10 ∧ (src lo hi hh t).val % 10 = max lo (min hi (t.val % 10)) := by
  show (10 * (t.val / 10) + max lo (min hi (t.val % 10)) % 10) / 10 = _ ∧ (10 * (t.val / 10) + max lo (min hi (t.val % 10)) % 10) % 10 = _
  omega

theorem final_9 (c : Dev nD) : (dats m 0 c).arrAt 9 cfg0.N = Pool (PR m c) := by
  refine (dats m 0 c).arrAt_eq_of_covers 9 _ (by decide +kernel) fun t _ y => ?_
  have hN : t.val < 160 := t.isLt
  obtain ⟨h1, h2⟩ := src_val 0 3 (by decide) (by decide) t
  let p : Fin 512 := ⟨(y (0 : Fin 2)).val, (y (0 : Fin 2)).isLt⟩
  let q : Fin 512 := ⟨(y (1 : Fin 2)).val, (y (1 : Fin 2)).isLt⟩
  let r : Fin 8192 := ⟨t.val / 10 * 512 + p.val, by have := p.isLt; omega⟩
  let f : Fin 2048 := ⟨min (t.val % 10) 3 * 512 + q.val, by have := q.isLt; omega⟩
  have e1 : ((cfg0.win 9).rect t).emb y = (ix2 r f : S8192x2048.Idx) := by
    funext a
    apply Fin.ext
    have h := Window.rect_emb_val (cfg0.win 9) t y a rfl
    rw [index_9] at h
    refine h.trans ?_
    fin_cases a <;> rfl
  have e2 : (cfg0.win 9).xinj (cfg0.grid.coords t) y = (ix2 p q : S512x512.Idx) := by
    funext a
    apply Fin.ext
    fin_cases a <;> rfl
  have e3 := pool_at m c (src 0 3 (by decide) t) p q r f (by rw [h1]) (by show min (t.val % 10) 3 * 512 + q.val = _; rw [h2]; omega)
  exact (congrFun (after_9 m c t) _).trans ((congrArg (poolAt m c (src 0 3 (by decide) t)) e2).trans (e3.trans (congrArg (Pool (PR m c)) e1.symm)))

theorem final_10 (c : Dev nD) : (dats m 0 c).arrAt 10 cfg0.N = Qt (PR m c) (arg6 m c) (arg4 m c) (arg5 m c) := by
  refine (dats m 0 c).arrAt_eq_of_covers 10 _ (by decide +kernel) fun t _ y => ?_
  have hN : t.val < 160 := t.isLt
  obtain ⟨h1, h2⟩ := src_val 4 7 (by decide) (by decide) t
  let p : Fin 512 := ⟨(y (0 : Fin 2)).val, (y (0 : Fin 2)).isLt⟩
  let q : Fin 512 := ⟨(y (1 : Fin 2)).val, (y (1 : Fin 2)).isLt⟩
  let r : Fin 2048 := ⟨min 3 (t.val % 10 - 4) * 512 + p.val, by have := p.isLt; omega⟩
  let f : Fin 8192 := ⟨t.val / 10 * 512 + q.val, by have := q.isLt; omega⟩
  have e1 : ((cfg0.win 10).rect t).emb y = (ix2 r f : S2048x8192.Idx) := by
    funext a
    apply Fin.ext
    have h := Window.rect_emb_val (cfg0.win 10) t y a rfl
    rw [index_10] at h
    refine h.trans ?_
    fin_cases a <;> rfl
  have e2 : (cfg0.win 10).xinj (cfg0.grid.coords t) y = (ix2 p q : S512x512.Idx) := by
    funext a
    apply Fin.ext
    fin_cases a <;> rfl
  have e3 := q_at m c (src 4 7 (by decide) t) q p f r (by rw [h2]; omega) (by rw [h1]) (by show min 3 (t.val % 10 - 4) * 512 + p.val = _; rw [h2]; omega)
  exact (congrFun (after_10 m c t) _).trans ((congrArg (qtAt m c (src 4 7 (by decide) t)) e2).trans (e3.trans (congrArg (Qt (PR m c) (arg6 m c) (arg4 m c) (arg5 m c)) e1.symm)))

theorem final_11 (c : Dev nD) : (dats m 0 c).arrAt 11 cfg0.N = Kk (PR m c) (arg7 m c) (arg4 m c) (arg5 m c) := by
  refine (dats m 0 c).arrAt_eq_of_covers 11 _ (by decide +kernel) fun t _ y => ?_
  have hN : t.val < 160 := t.isLt
  obtain ⟨h1, h2⟩ := src_val 8 8 (by decide) (by decide) t
  let p : Fin 512 := ⟨(y (0 : Fin 2)).val, (y (0 : Fin 2)).isLt⟩
  let q : Fin 512 := ⟨(y (1 : Fin 2)).val, (y (1 : Fin 2)).isLt⟩
  let r : Fin 8192 := ⟨t.val / 10 * 512 + p.val, by have := p.isLt; omega⟩
  let f : Fin 512 := q
  have e1 : ((cfg0.win 11).rect t).emb y = (ix2 r f : S8192x512.Idx) := by
    funext a
    apply Fin.ext
    have h := Window.rect_emb_val (cfg0.win 11) t y a rfl
    rw [index_11] at h
    refine h.trans ?_
    fin_cases a
    · rfl
    · show 0 * 512 + q.val = q.val
      omega
  have e2 : (cfg0.win 11).xinj (cfg0.grid.coords t) y = (ix2 p q : S512x512.Idx) := by
    funext a
    apply Fin.ext
    fin_cases a <;> rfl
  have e3 := k_at m c (src 8 8 (by decide) t) p q r (by rw [h2]; omega) (by rw [h1])
  exact (congrFun (after_11 m c t) _).trans ((congrArg (kAt m c (src 8 8 (by decide) t)) e2).trans (e3.trans (congrArg (Kk (PR m c) (arg7 m c) (arg4 m c) (arg5 m c)) e1.symm)))

theorem final_12 (c : Dev nD) : (dats m 0 c).arrAt 12 cfg0.N = Vt (PR m c) := by
  refine (dats m 0 c).arrAt_eq_of_covers 12 _ (by decide +kernel) fun t _ y => ?_
  have hN : t.val < 160 := t.isLt
  obtain ⟨h1, h2⟩ := src_val 9 9 (by decide) (by decide) t
  let p : Fin 512 := ⟨(y (0 : Fin 2)).val, (y (0 : Fin 2)).isLt⟩
  let q : Fin 512 := ⟨(y (1 : Fin 2)).val, (y (1 : Fin 2)).isLt⟩
  let r : Fin 512 := p
  let f : Fin 8192 := ⟨t.val / 10 * 512 + q.val, by have := q.isLt; omega⟩
  have e1 : ((cfg0.win 12).rect t).emb y = (ix2 r f : S512x8192.Idx) := by
    funext a
    apply Fin.ext
    have h := Window.rect_emb_val (cfg0.win 12) t y a rfl
    rw [index_12] at h
    refine h.trans ?_
    fin_cases a
    · show 0 * 512 + p.val = p.val
      omega
    · rfl
  have e2 : (cfg0.win 12).xinj (cfg0.grid.coords t) y = (ix2 p q : S512x512.Idx) := by
    funext a
    apply Fin.ext
    fin_cases a <;> rfl
  have e3 := vt_at m c (src 9 9 (by decide) t) q p f (by rw [h2]; omega) (by rw [h1])
  exact (congrFun (after_12 m c t) _).trans ((congrArg (vtAt m c (src 9 9 (by decide) t)) e2).trans (e3.trans (congrArg (Vt (PR m c)) e1.symm)))

end Cert.Kernel5Ideal.Inproj

end
-- ==== Proof.Inproj.Claim.lean ====
/- The input projection with the norms and rotations of the queries and keys: the frames and the value claim. -/
module

public import proofs.«01_k».proof.Defs
public import proofs.«01_k».proof.Proof.Inproj.Frame
public import proofs.«01_k».proof.Proof.Inproj.Value
public import Idealize.ShloMosaic.Lib.Claim
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Kernel5Ideal.Inproj

open Cert.Kernel5Ideal Cert.Kernel5Ideal.Gen
open Cert.Reference5Ideal.Inproj (Pool Qt Kk Vt)

/-- Every run leaves the reference's four terms, and the arguments as they were. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Pool (PR m c)
      ∧ r.2.mem ((c.tc : Thread nD τ).loc main_v0_1) = Qt (PR m c) (arg6 m c) (arg4 m c) (arg5 m c)
      ∧ r.2.mem ((c.tc : Thread nD τ).loc main_v0_2) = Kk (PR m c) (arg7 m c) (arg4 m c) (arg5 m c)
      ∧ r.2.mem ((c.tc : Thread nD τ).loc main_v0_3) = Vt (PR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r ⟨h, _⟩ c => ⟨((h c).1 9).trans (final_9 m c), ((h c).1 10).trans (final_10 m c), ((h c).1 11).trans (final_11 m c), ((h c).1 12).trans (final_12 m c),
      ((h c).1 0).trans (((dats m 0 c).arrAt_in 0 rfl _).trans (A_eq m c 0)),
      ((h c).1 2).trans (((dats m 0 c).arrAt_in 2 rfl _).trans (A_eq m c 2)),
      ((h c).1 1).trans (((dats m 0 c).arrAt_in 1 rfl _).trans (A_eq m c 1)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8))⟩) (run_all m ρ)

end Cert.Kernel5Ideal.Inproj

namespace Cert.Reference5Ideal.Inproj

/-- The reference's run, its results by name. -/
theorem run_named (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => ∀ c : Dev Cert.Reference5Ideal.nD,
      r.2.mem ((c.tc : Thread Cert.Reference5Ideal.nD Cert.Reference5Ideal.τ).loc Cert.Reference5Ideal.main_v88) = Pool (Pr (Hn (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) (m ((c.tc : Thread Cert.Reference5Ideal.nD Cert.Reference5Ideal.τ).loc Cert.Reference5Ideal.main_arg3)))
      ∧ r.2.mem ((c.tc : Thread Cert.Reference5Ideal.nD Cert.Reference5Ideal.τ).loc Cert.Reference5Ideal.main_v90) = Qt (Pr (Hn (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) (m ((c.tc : Thread Cert.Reference5Ideal.nD Cert.Reference5Ideal.τ).loc Cert.Reference5Ideal.main_arg3))) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_v91) = Kk (Pr (Hn (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) (m ((c.tc : Thread Cert.Reference5Ideal.nD Cert.Reference5Ideal.τ).loc Cert.Reference5Ideal.main_arg3))) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))
      ∧ r.2.mem ((c.tc : Thread Cert.Reference5Ideal.nD Cert.Reference5Ideal.τ).loc Cert.Reference5Ideal.main_v93) = Vt (Pr (Hn (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) (m ((c.tc : Thread Cert.Reference5Ideal.nD Cert.Reference5Ideal.τ).loc Cert.Reference5Ideal.main_arg3)))
      ∧ r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)) :=
  (θ_run Cert.Reference5Ideal.defs _ _).mono (fun _ h c => ⟨(h c).1.trans (by rfl), (h c).2.1.trans (by unfold Cert.Reference5Ideal.Value.res_main_v90; rfl), (h c).2.2.1.trans (by unfold Cert.Reference5Ideal.Value.res_main_v91; rfl),
      (h c).2.2.2.1.trans (by rfl), (h c).2.2.2.2⟩) (Cert.Reference5Ideal.Value.run (F := Ideal) m g)

end Cert.Reference5Ideal.Inproj

namespace Cert.Proof

/-- The program keeps its arguments and ends quiescent. -/
theorem inproj_frame : Cert.quiescent_Kernel5 (hKernel5 := Cert.Kernel5.Gen.facts) := fun m ρ _ => Cert.Kernel5.Inproj.frame m ρ

theorem inproj_ideal_frame : Cert.quiescent_Kernel5Ideal (hKernel5Ideal := Cert.Kernel5Ideal.Gen.facts) := fun m ρ _ => Cert.Kernel5Ideal.Inproj.frame m ρ

theorem inproj_ref_frame : Cert.quiescent_Reference5Ideal (hReference5Ideal := Cert.Reference5Ideal.Gen.facts) := fun m ρ _ =>
  (θ_run Cert.Reference5Ideal.defs _ _).mono
    (fun r h => ⟨fun c => (h c).2.2.2.2, Idealize.ShloMosaic.sem_eq_zero_of_no_sems (by decide) r.2⟩)
    (Cert.Reference5Ideal.Value.run (F := Ideal) m ρ)

/-- The queries' scale: the printed constant is the literal's word, and the named number where it is exact. -/
theorem inproj_preserves : Cert.preserves_Kernel5_Kernel5Ideal :=
  IdealRules.named_const.statement Cert.Kernel5Ideal.κ "q_scale" .f32 0x3E0293EE#32 (((Real.sqrt 128)⁻¹ * (Real.log 2)⁻¹ : ℝ) : EReal) rfl

/-- The input projection's four results. -/
theorem inproj_value : Cert.algebraic_Kernel5Ideal_Reference5Ideal (hKernel5Ideal := Cert.Kernel5Ideal.Gen.facts) (hReference5Ideal := Cert.Reference5Ideal.Gen.facts) := fun m g m' g' _ heq => by
  refine ⟨fun c => Cert.Reference5Ideal.Inproj.Pool (Cert.Kernel5Ideal.Inproj.PR m c),
    fun c => Cert.Reference5Ideal.Inproj.Qt (Cert.Kernel5Ideal.Inproj.PR m c) (Cert.Kernel5Ideal.Inproj.arg6 m c) (Cert.Kernel5Ideal.Inproj.arg4 m c) (Cert.Kernel5Ideal.Inproj.arg5 m c),
    fun c => Cert.Reference5Ideal.Inproj.Kk (Cert.Kernel5Ideal.Inproj.PR m c) (Cert.Kernel5Ideal.Inproj.arg7 m c) (Cert.Kernel5Ideal.Inproj.arg4 m c) (Cert.Kernel5Ideal.Inproj.arg5 m c),
    fun c => Cert.Reference5Ideal.Inproj.Vt (Cert.Kernel5Ideal.Inproj.PR m c), ?_, ?_⟩
  · exact Cert.Kernel5Ideal.Inproj.run_value m g
  · refine (θ_run _ _ _).mono (fun r h c => ?_) (Cert.Reference5Ideal.Inproj.run_named m' g')
    obtain ⟨e0, e1, e2, e3, e4, e5, e6, e7⟩ := heq c
    obtain ⟨h0, h1, h2, h3, hr⟩ := h c
    refine ⟨h0.trans ?_, h1.trans ?_, h2.trans ?_, h3.trans ?_, hr⟩
    · rw [e0, e1, e2, e3]
      rfl
    · rw [e0, e1, e2, e3, e4, e5, e6]
      rfl
    · rw [e0, e1, e2, e3, e4, e5, e7]
      rfl
    · rw [e0, e1, e2, e3]
      rfl

end Cert.Proof

end
-- ==== Proof.Mod.Value.lean ====
/- The modulation call: the array the pipelined call leaves is the reference's term. -/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat Window)

namespace Cert.Kernel7Ideal.Mod

open Cert.Kernel7Ideal Cert.Kernel7Ideal.Gen

/-! ## The loop over the chunks of rows -/

/-- The activated row's contribution to column `q`. -/
def term (x0 : FVec Ideal S4096x1 .f32) (x1 : FVec Ideal S4096x512 .f32) (q : Fin 512) (r : Fin 4096) : EReal :=
  x1 (ix2 r q) * (x0 (ix2 r 0) * Ideal.logistic (x0 (ix2 r 0)))

/-- The same on the naturals, zero past the last row. -/
def termN (x0 : FVec Ideal S4096x1 .f32) (x1 : FVec Ideal S4096x512 .f32) (q : Fin 512) (r : ℕ) : EReal :=
  if h : r < 4096 then term x0 x1 q ⟨r, h⟩ else 0

/-- The carried vector before trip `n`: at sublane `p`, the sum of the rows `8 i + p` read so far. -/
def part (x0 : FVec Ideal S4096x1 .f32) (x1 : FVec Ideal S4096x512 .f32) (n : ℕ) : FVec Ideal S8x512 .f32 :=
  fun y => ∑ i ∈ Finset.range (32 * n), termN x0 x1 (y 1) (8 * i + (y 0).val)

theorem off1_eq : ∀ k : Fin k0_t1_loop.trips, k0_off1 k = ![k.val * 256, 0] := by decide +kernel
theorem off2_eq : ∀ k : Fin k0_t1_loop.trips, k0_off2 k = ![k.val * 256, 0] := by decide +kernel
theorem trips_eq : k0_t1_loop.trips = 16 := by decide +kernel

theorem read_c (arg1 : Memref sig .tc .vmem S4096x1 .f32) (harg1 : arg1.IsWhole) (x0 : FVec Ideal S4096x1 .f32)
    (k : Fin k0_t1_loop.trips) (h) (p : Fin 256) (r : Fin 4096) (hr : r.val = k.val * 256 + p.val) :
    View.readAt (Elt Ideal) arg1.view (Rect.unit (s := S4096x1) (k0_off1 k) ![256, 1] h).toLoadRect (harg1.unread x0) (ix2 p 0)
      = x0 (ix2 r 0) := by
  rw [harg1.readAt_unread]
  refine congrArg x0 (funext fun a => Fin.ext ?_)
  have e := off1_eq k
  match a with
  | ⟨0, _⟩ => show k0_off1 k 0 + 1 * p.val = _; rw [e]; show k.val * 256 + 1 * p.val = r.val; omega
  | ⟨1, _⟩ => show k0_off1 k 1 + 1 * 0 = _; rw [e]; rfl

theorem read_w (arg2 : Memref sig .tc .vmem S4096x512 .f32) (harg2 : arg2.IsWhole) (x1 : FVec Ideal S4096x512 .f32)
    (k : Fin k0_t1_loop.trips) (h) (p : Fin 256) (q : Fin 512) (r : Fin 4096) (hr : r.val = k.val * 256 + p.val) :
    View.readAt (Elt Ideal) arg2.view (Rect.unit (s := S4096x512) (k0_off2 k) ![256, 512] h).toLoadRect (harg2.unread x1) (ix2 p q)
      = x1 (ix2 r q) := by
  rw [harg2.readAt_unread]
  refine congrArg x1 (funext fun a => Fin.ext ?_)
  have e := off2_eq k
  match a with
  | ⟨0, _⟩ => show k0_off2 k 0 + 1 * p.val = _; rw [e]; show k.val * 256 + 1 * p.val = r.val; omega
  | ⟨1, _⟩ => show k0_off2 k 1 + 1 * q.val = _; rw [e]; show 0 + 1 * q.val = q.val; omega

theorem pay2_at (a : FVec Ideal S8x512 .f32) (v : Vec Ideal S256x1 .f32) (w : Vec Ideal S256x512 .f32) (p : Fin 8) (q : Fin 512) :
    k0_pay2 a v w (ix2 p q) = a (ix2 p q)
      + ∑ x : Fin 32, w (ix2 (⟨x.val * 8 + p.val, by have := x.isLt; have := p.isLt; omega⟩ : Fin 256) q)
          * (v (ix2 (⟨x.val * 8 + p.val, by have := x.isLt; have := p.isLt; omega⟩ : Fin 256) 0)
            * Ideal.logistic (v (ix2 (⟨x.val * 8 + p.val, by have := x.isLt; have := p.isLt; omega⟩ : Fin 256) 0))) := by
  pointwise [k0_pay2]

theorem pay3_at (a : FVec Ideal S8x512 .f32) (v : Vec Ideal S1x512 .f32) (q : Fin 512) :
    k0_pay3 a v (ix2 0 q) = ∑ x : Fin 8, a (ix2 x q) + v (ix2 0 q) := by
  pointwise [k0_pay3]

theorem trip_eq (c : Dev nD) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole)
    (x0 : FVec Ideal S4096x1 .f32) (x1 : FVec Ideal S4096x512 .f32) (k : Fin k0_t1_loop.trips) :
    tripR_k0_t1 (F := Ideal) Variants.none c none i arg1 harg1 arg2 harg2 arg3 harg3 arg4 harg4 (harg1.unread x0) (harg2.unread x1) k (part x0 x1 k.val)
      = part x0 x1 (k.val + 1) := by
  have hk : k.val < 16 := Nat.lt_of_lt_of_eq k.isLt trips_eq
  unfold tripR_k0_t1 trip_k0_t1
  dsimp only
  funext y
  obtain ⟨p, q, rfl⟩ : ∃ (p : Fin 8) (q : Fin 512), y = ix2 p q := ⟨y 0, y 1, by funext a; fin_cases a <;> rfl⟩
  rw [pay2_at]
  show (∑ i ∈ Finset.range (32 * k.val), termN x0 x1 q (8 * i + p.val)) + _ = ∑ i ∈ Finset.range (32 * (k.val + 1)), termN x0 x1 q (8 * i + p.val)
  rw [Nat.mul_add, Nat.mul_one, Finset.sum_range_add, Finset.sum_range (fun x => termN x0 x1 q (8 * (32 * k.val + x) + p.val))]
  refine congrArg _ (Finset.sum_congr rfl fun x _ => ?_)
  have hx := x.isLt
  have hp := p.isLt
  have hr : 8 * (32 * k.val + x.val) + p.val < 4096 := by omega
  rw [read_c arg1 harg1 x0 k _ _ ⟨_, hr⟩ (by show 8 * (32 * k.val + x.val) + p.val = k.val * 256 + (x.val * 8 + p.val); omega),
    read_w arg2 harg2 x1 k _ _ q ⟨_, hr⟩ (by show 8 * (32 * k.val + x.val) + p.val = k.val * 256 + (x.val * 8 + p.val); omega),
    termN, dif_pos hr, term]

theorem part_zero (x0 : FVec Ideal S4096x1 .f32) (x1 : FVec Ideal S4096x512 .f32) : (k0_pay1 : FVec Ideal S8x512 .f32) = part x0 x1 0 := by
  funext y
  pointwise [k0_pay1]
  simp [part]

theorem st_eq (c : Dev nD) (i : grid0.Coords) (arg1 : Memref sig .tc .vmem S4096x1 .f32) (harg1 : arg1.IsWhole) (arg2 : Memref sig .tc .vmem S4096x512 .f32) (harg2 : arg2.IsWhole) (arg3 : Memref sig .tc .vmem S1x512 .f32) (harg3 : arg3.IsWhole) (arg4 : Memref sig .tc .vmem S1x512 .f32) (harg4 : arg4.IsWhole)
    (x0 : FVec Ideal S4096x1 .f32) (x1 : FVec Ideal S4096x512 .f32) (n : ℕ) (hn : n ≤ 16) :
    st_k0_t1 (F := Ideal) Variants.none c none i arg1 harg1 arg2 harg2 arg3 harg3 arg4 harg4 (harg1.unread x0) (harg2.unread x1) k0_pay1 n
      = part x0 x1 n := by
  induction n with
  | zero => exact part_zero x0 x1
  | succ n ih =>
    have hn' : n < k0_t1_loop.trips := by rw [trips_eq]; omega
    refine (st_k0_t1_succ (F := Ideal) Variants.none c none i arg1 harg1 arg2 harg2 arg3 harg3 arg4 harg4 (harg1.unread x0) (harg2.unread x1) k0_pay1 ⟨n, hn'⟩).trans ?_
    dsimp only
    rw [ih (by omega)]
    exact trip_eq c i arg1 harg1 arg2 harg2 arg3 harg3 arg4 harg4 x0 x1 ⟨n, hn'⟩

/-- Sums by eights, put together. -/
theorem sum_eights (g : ℕ → EReal) (n : ℕ) : ∑ p ∈ Finset.range 8, ∑ i ∈ Finset.range n, g (8 * i + p) = ∑ r ∈ Finset.range (8 * n), g r := by
  rw [Finset.sum_comm]
  induction n with
  | zero => simp
  | succ n ih => rw [Finset.sum_range_succ, ih, Nat.mul_add, Nat.mul_one, Finset.sum_range_add]

theorem part_sum (x0 : FVec Ideal S4096x1 .f32) (x1 : FVec Ideal S4096x512 .f32) (q : Fin 512) :
    ∑ p : Fin 8, part x0 x1 16 (ix2 p q) = ∑ r : Fin 4096, term x0 x1 q r := by
  have e := sum_eights (termN x0 x1 q) 512
  rw [Finset.sum_range, Finset.sum_range] at e
  refine (Finset.sum_congr rfl fun p _ => ?_).trans (e.trans (Finset.sum_congr rfl fun r _ => ?_))
  · rfl
  · rw [termN, dif_pos r.isLt]

/-! ## The blocks -/

/-- The reference's result as a function of the three arguments. -/
def Ref (x : FVec Ideal S1x4096 .f32) (w : FVec Ideal S1x4096x24576 .f32) (b : FVec Ideal S1x24576 .f32) : FVec Ideal S1x24576 .f32 :=
  addf (Host.dotGeneral Cert.Reference7Ideal.dot_S1x4096_S4096x24576_S1x24576_1_0_0_1_n_n none (mulf x (Host.divf (broadcastInDim S1x4096 ![] Cert.Reference7Ideal.Gen.bcast_S_S1x4096 (constant Cert.Reference7Ideal.S_ .f32 0x3F800000#32)) (addf (broadcastInDim S1x4096 ![] Cert.Reference7Ideal.Gen.bcast_S_S1x4096 (constant Cert.Reference7Ideal.S_ .f32 0x3F800000#32)) (Host.exp (Host.negf x))))) (shapeCast _ w Cert.Reference7Ideal.Gen.shapeCasts_S1x4096x24576_S4096x24576)) b

theorem Ref_at (x : FVec Ideal S1x4096 .f32) (w : FVec Ideal S1x4096x24576 .f32) (b : FVec Ideal S1x24576 .f32) (j : Fin 24576) :
    Ref x w b (ix2 0 j) = ∑ r : Fin 4096, x (ix2 0 r) * Ideal.logistic (x (ix2 0 r)) * w (ix3 0 r j) + b (ix2 0 j) := by
  pointwise [Ref]
  rfl

variable (m : (ℓ : Loc nD τ sig) → Buf (Elt Ideal) ℓ)

abbrev arg0 (c : Dev nD) : FVec Ideal S1x4096 .f32 := m ((c : Thread nD τ).loc main_arg0)
abbrev arg1 (c : Dev nD) : FVec Ideal S1x4096x24576 .f32 := m ((c : Thread nD τ).loc main_arg1)
abbrev arg2 (c : Dev nD) : FVec Ideal S1x24576 .f32 := m ((c : Thread nD τ).loc main_arg2)

theorem steps (t : Fin cfg0.N) : t.val < 48 := t.isLt
theorem index_0 : ∀ t : Fin cfg0.N, (cfg0.win 0).index t = ![0, 0] := (by decide +kernel : ∀ t : Fin grid0.N, win0_0.index t = ![0, 0])
theorem index_1 : ∀ t : Fin cfg0.N, (cfg0.win 1).index t = ![0, t.val] := (by decide +kernel : ∀ t : Fin grid0.N, win0_1.index t = ![0, t.val])
theorem index_2 : ∀ t : Fin cfg0.N, (cfg0.win 2).index t = ![0, t.val] := (by decide +kernel : ∀ t : Fin grid0.N, win0_2.index t = ![0, t.val])
theorem index_3 : ∀ t : Fin cfg0.N, (cfg0.win 3).index t = ![0, t.val] := (by decide +kernel : ∀ t : Fin grid0.N, win0_3.index t = ![0, t.val])

theorem blk_0 (c : Dev nD) (t : Fin cfg0.N) (r : Fin 4096) :
    (iblk m c 0 t : FVec Ideal S4096x1 .f32) (ix2 r 0) = arg0 m c (ix2 0 r) := by
  have e1 : ((cfg0.win 0).rect t).emb (ix2 r 0) = (ix2 r 0 : S4096x1.Idx) := by
    funext a
    apply Fin.ext
    have h := Window.rect_emb_val (cfg0.win 0) t (ix2 r 0) a rfl
    rw [index_0] at h
    refine h.trans ?_
    fin_cases a <;> exact Nat.zero_add _
  have e2 : V m c main_v0 (ix2 r 0) = arg0 m c (ix2 0 r) := by
    have e3 : V m c main_v0 = shapeCast S4096x1 (arg0 m c) shapeCasts_S1x4096_S4096x1 := by
      unfold V
      after_results_simp <;> rfl
    rw [e3]
    pointwise
  exact (congrArg (V m c main_v0) e1).trans e2

theorem blk_1 (c : Dev nD) (t : Fin cfg0.N) (r : Fin 4096) (q : Fin 512) (j : Fin 24576) (hj : j.val = t.val * 512 + q.val) :
    (iblk m c 1 t : FVec Ideal S4096x512 .f32) (ix2 r q) = arg1 m c (ix3 0 r j) := by
  have e1 : ((cfg0.win 1).rect t).emb (ix2 r q) = (ix2 r j : S4096x24576.Idx) := by
    funext a
    apply Fin.ext
    have h := Window.rect_emb_val (cfg0.win 1) t (ix2 r q) a rfl
    rw [index_1] at h
    refine h.trans ?_
    fin_cases a
    · exact Nat.zero_add _
    · exact hj.symm
  have e2 : V m c main_v1 (ix2 r j) = arg1 m c (ix3 0 r j) := by
    have e3 : V m c main_v1 = shapeCast S4096x24576 (arg1 m c) shapeCasts_S1x4096x24576_S4096x24576 := by
      unfold V
      after_results_simp <;> rfl
    rw [e3]
    pointwise
  exact (congrArg (V m c main_v1) e1).trans e2

theorem blk_2 (c : Dev nD) (t : Fin cfg0.N) (q : Fin 512) (j : Fin 24576) (hj : j.val = t.val * 512 + q.val) :
    (iblk m c 2 t : FVec Ideal S1x512 .f32) (ix2 0 q) = arg2 m c (ix2 0 j) := by
  have e1 : ((cfg0.win 2).rect t).emb (ix2 0 q) = (ix2 0 j : S1x24576.Idx) := by
    funext a
    apply Fin.ext
    have h := Window.rect_emb_val (cfg0.win 2) t (ix2 0 q) a rfl
    rw [index_2] at h
    refine h.trans ?_
    fin_cases a
    · rfl
    · exact hj.symm
  exact congrArg (arg2 m c) e1

theorem out_emb (t : Fin cfg0.N) (q : Fin 512) (j : Fin 24576) (hj : j.val = t.val * 512 + q.val) :
    ((cfg0.win 3).rect t).emb (ix2 0 q) = (ix2 0 j : S1x24576.Idx) := by
  funext a
  apply Fin.ext
  have h := Window.rect_emb_val (cfg0.win 3) t (ix2 0 q) a rfl
  rw [index_3] at h
  refine h.trans ?_
  fin_cases a
  · rfl
  · exact hj.symm

theorem out_at (c : Dev nD) (t : Fin cfg0.N) (q : Fin 512) (j : Fin 24576) (hj : j.val = t.val * 512 + q.val) :
    outsAt0 m c t (ix2 0 q) = Ref (arg0 m c) (arg1 m c) (arg2 m c) (ix2 0 j) := by
  unfold outsAt0; frame_out
  have e : (Scf.trips (0#32) (Scalar.addi 0#32 16#32) 1#32) = 16 := trips_eq
  rw [e, st_eq (x0 := iblk m c 0 t) (x1 := iblk m c 1 t) (hn := le_refl 16), pay3_at, part_sum, Ref_at, blk_2 m c t q j hj]
  refine congrArg (· + _) (Finset.sum_congr rfl fun r _ => ?_)
  rw [term, blk_0 m c t r, blk_1 m c t r q j hj, mul_comm]

/-- The result array after the run is the reference's term. -/
theorem final (c : Dev nD) : (dats m 0 c).arrAt 3 (cfgs 0).N = Ref (arg0 m c) (arg1 m c) (arg2 m c) := by
  refine (dats m 0 c).arrAt_eq_of_covers 3 _ (by decide +kernel) fun t _ y => ?_
  blk_simp
  rw [after0_3]
  obtain ⟨q, rfl⟩ : ∃ q : Fin 512, y = ix2 0 q := ⟨y 1, by funext a; fin_cases a; exact Subsingleton.elim (α := Fin 1) _ _; rfl⟩
  have ht := steps t
  have hj : t.val * 512 + q.val < 24576 := by have := q.isLt; omega
  exact (out_at m c t q ⟨_, hj⟩ rfl).trans (congrArg (Ref (arg0 m c) (arg1 m c) (arg2 m c)) (out_emb t q ⟨_, hj⟩ rfl).symm)

end Cert.Kernel7Ideal.Mod

end
-- ==== Proof.Norm.Host.lean ====
/- The arrays the host lines prepare for the second norm: the padded router weights, their rounding remainder beside them, and the padded bias. -/
module
public import proofs.«01_k».proof.Proof.Gen.Kernel8Ideal.Value
public import Idealize.ShloMosaic.Lib.Pipeline.ValueKit
public import Idealize.ShloMosaic.Lib.Pointwise
public import Idealize.ShloMosaic.Lib.KernelVsHost
@[expose] public section
set_option maxRecDepth 16384
noncomputable section
open Idealize.ShloMosaic Idealize.ShloMosaic.TcCoe Idealize.SL.Sem
open Idealize.ShloMosaic.Pipeline (Dat Window)
namespace Cert.Kernel8Ideal.Norm
open Cert.Kernel8Ideal Cert.Kernel8Ideal.Gen
variable (m : (ℓ : Loc nD τ sig) → Buf (Elt Ideal) ℓ)

def arg0 (c : Dev nD) : FVec Ideal S8192x4096 .f32 := m ((c : Thread nD τ).loc main_arg0)
def arg1 (c : Dev nD) : FVec Ideal S1x4096 .f32 := m ((c : Thread nD τ).loc main_arg1)
def arg2 (c : Dev nD) : FVec Ideal S1x24576 .f32 := m ((c : Thread nD τ).loc main_arg2)
def arg3 (c : Dev nD) : FVec Ideal S1x4096x32 .f32 := m ((c : Thread nD τ).loc main_arg3)
def arg4 (c : Dev nD) : FVec Ideal S1x32 .f32 := m ((c : Thread nD τ).loc main_arg4)

def wf (m : (ℓ : Loc nD τ sig) → Buf (Elt Ideal) ℓ) (c : Dev nD) : FVec Ideal S4096x32 .f32 := shapeCast _ (arg3 m c) shapeCasts_S1x4096x32_S4096x32
def whi (m : (ℓ : Loc nD τ sig) → Buf (Elt Ideal) ℓ) (c : Dev nD) : FVec Ideal S4096x32 .bf16 := truncf (F := Ideal) .bf16 (wf m c)
def wlo (m : (ℓ : Loc nD τ sig) → Buf (Elt Ideal) ℓ) (c : Dev nD) : FVec Ideal S4096x32 .bf16 := truncf (F := Ideal) .bf16 (subf (wf m c) (extf .f32 (whi m c)))
def wpad (w : FVec Ideal S4096x32 .bf16) : FVec Ideal S4096x128 .bf16 := pad S4096x128 ![0, 0] ![0, 96] ![0, 0] w (sitofp .bf16 (constantI S_ 32 0#32)) pads_S4096x32_S4096x128_000_0960 h_S_

theorem V9 (c : Dev nD) : V m c main_v9 = pad S1x128 ![0, 0] ![0, 96] ![0, 0] (arg4 m c) (sitofp .f32 (constantI S_ 32 0#32)) pads_S1x32_S1x128_000_0960 h_S_ := by
  simp only [V, hostOps0, hostOps0_1, hostOps0_2, hostOps0_3, hostOps0_4, hostOps0_5, hostOps0_6, hostOps0_7, List.flatten_cons, List.flatten_nil, List.append_nil, List.cons_append, List.nil_append]
  after_results_simp <;> rfl

theorem V8 (c : Dev nD) : V m c main_v8 = wpad (whi m c) := by
  simp only [V, hostOps0, hostOps0_1, hostOps0_2, hostOps0_3, hostOps0_4, hostOps0_5, hostOps0_6, hostOps0_7, List.flatten_cons, List.flatten_nil, List.append_nil, List.cons_append, List.nil_append]
  after_results_simp <;> rfl

theorem V7 (c : Dev nD) : V m c main_v7 = concatenate S4096x256 1 [⟨S4096x128, wpad (whi m c)⟩, ⟨S4096x128, wpad (wlo m c)⟩] concatenates_S4096x128_S4096x128_S4096x256_d1 := by
  simp only [V, hostOps0, hostOps0_1, hostOps0_2, hostOps0_3, hostOps0_4, hostOps0_5, hostOps0_6, hostOps0_7, List.flatten_cons, List.flatten_nil, List.append_nil, List.cons_append, List.nil_append]
  after_results_simp <;> rfl

theorem wpad_at (w : FVec Ideal S4096x32 .bf16) (k : Fin 4096) (e : Fin 32) (j : Fin 128) (h : j.val = e.val) : wpad w (ix2 k j) = w (ix2 k e) := by
  unfold wpad
  refine pad_apply_of_inside _ _ _ w _ _ _ (ix2 k j) (ix2 k e) ?_
  intro a
  fin_cases a
  · show k.val = 0 + k.val * (0 + 1); omega
  · show j.val = 0 + e.val * (0 + 1); omega

theorem cat_lo (a b : FVec Ideal S4096x128 .bf16) (k : Fin 4096) (j : Fin 128) :
    (concatenate S4096x256 1 [⟨S4096x128, a⟩, ⟨S4096x128, b⟩] concatenates_S4096x128_S4096x128_S4096x256_d1 : FVec Ideal S4096x256 .bf16) (ix2 k ⟨j.val, by have := j.isLt; omega⟩) = a (ix2 k j) := by
  pointwise

theorem cat_hi (a b : FVec Ideal S4096x128 .bf16) (k : Fin 4096) (j : Fin 128) :
    (concatenate S4096x256 1 [⟨S4096x128, a⟩, ⟨S4096x128, b⟩] concatenates_S4096x128_S4096x128_S4096x256_d1 : FVec Ideal S4096x256 .bf16) (ix2 k ⟨128 + j.val, by have := j.isLt; omega⟩) = b (ix2 k j) := by
  pointwise

end Cert.Kernel8Ideal.Norm
end
-- ==== Proof.Norm.Row.lean ====
/- The second norm of one row, the reference's two results read at an index, and why the normed row is finite. -/
module

public import proofs.«01_k».proof.Pre_finite8
public import proofs.«01_k».proof.Proof.Attn.Pre
public import proofs.«01_k».proof.Proof.Gen.Reference8Ideal.Run
public import Idealize.ShloMosaic.Lib.Pointwise
public import Idealize.ShloMosaic.Lib.ReduceAll

@[expose] public section

set_option maxRecDepth 16384

noncomputable section

open Idealize.ShloMosaic

namespace Cert.Norm

/-- One row, normed, scaled and shifted. -/
def rowN (f g sc sh : Fin 4096 → EReal) (k : Fin 4096) : EReal :=
  f k * Ideal.rsqrt (Ideal.div (∑ x, f x * f x) (Ideal.ofBits FTy.f32 1166016512#32) + Ideal.ofBits FTy.f32 897988541#32) * g k * (1 + sc k) + sh k

def IsR (x : EReal) : Prop := ∃ r : ℝ, x = ((r : ℝ) : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub_self {x : EReal} (hx : IsR x) : x - x = 0 := by
  obtain ⟨a, rfl⟩ := hx; rw [← EReal.coe_sub, _root_.sub_self, EReal.coe_zero]

theorem bits_width : Ideal.ofBits FTy.f32 1166016512#32 = ((4096 : ℝ) : EReal) := by simp [Ideal.ofBits, Ideal.ieee, -EReal.coe_mul]; norm_num

theorem bits_eps : ∃ e : ℝ, 0 < e ∧ Ideal.ofBits FTy.f32 897988541#32 = ((e : ℝ) : EReal) := by
  refine ⟨8796093 / 2 ^ 43, by norm_num, ?_⟩
  simp [Ideal.ofBits, Ideal.ieee, -EReal.coe_mul]; norm_num

theorem sq_nonneg (x : EReal) : 0 ≤ x * x := by
  rcases le_total 0 x with h | h
  · exact mul_nonneg h h
  · have := EReal.neg_nonneg.mpr h
    have h2 := mul_nonneg this this
    rwa [neg_mul_neg] at h2

/-- A normed element is finite even where the row is not: a row with an infinite element has an infinite mean square, whose inverse root is zero. -/
theorem normed_real (f : Fin 4096 → EReal) (k : Fin 4096) :
    IsR (f k * Ideal.rsqrt (Ideal.div (∑ x, f x * f x) (Ideal.ofBits FTy.f32 1166016512#32) + Ideal.ofBits FTy.f32 897988541#32)) := by
  obtain ⟨e, he, hb⟩ := bits_eps
  rw [bits_width, hb, Ideal.div_coe (by norm_num)]
  have h0 : 0 ≤ ∑ x, f x * f x := Finset.sum_nonneg fun x _ => sq_nonneg (f x)
  have hk : f k * f k ≤ ∑ x, f x * f x := Finset.single_le_sum (fun x _ => sq_nonneg (f x)) (Finset.mem_univ k)
  generalize (∑ x, f x * f x) = S at h0 hk
  induction S with
  | bot => exact absurd h0 (by simp)
  | top =>
    rw [EReal.top_mul_coe_of_pos (by norm_num), EReal.top_add_coe, Ideal.rsqrt_top, mul_zero]
    exact ⟨0, EReal.coe_zero.symm⟩
  | coe s =>
    have hs : 0 ≤ s := EReal.coe_nonneg.mp h0
    have hp : 0 < s * (1 / 4096) + e := by positivity
    rw [← EReal.coe_mul, ← EReal.coe_add, Ideal.rsqrt_coe, if_neg (not_lt.mpr hp.le), if_neg hp.ne']
    refine IsR.mul ?_ ⟨_, rfl⟩
    generalize f k = z at hk
    induction z with
    | bot => exact absurd hk (by simp)
    | top => exact absurd hk (by simp)
    | coe z => exact ⟨z, rfl⟩

theorem one_real : IsR 1 := ⟨1, EReal.coe_one.symm⟩

theorem rowN_real (f g sc sh : Fin 4096 → EReal) (k : Fin 4096) (hg : IsR (g k)) (hsc : IsR (sc k)) (hsh : IsR (sh k)) : IsR (rowN f g sc sh k) :=
  (((normed_real f k).mul hg).mul (one_real.add hsc)).add hsh

/-! ## The precondition -/

theorem pre_facts : Cert.Pre_finite8.Facts where
  bcast_S_S1x4096 := by decide
  reducesTo_S1x4096_S_d0_1 := by decide
  h_S_ := by decide
  slices_S1x24576_S1x8192_0_12288 := by decide
  bcast_S_S1x8192 := by decide
  reducesTo_S1x8192_S_d0_1 := by decide
  bcast_S_S1x4096x32 := by decide
  reducesTo_S1x4096x32_S_d0_1_2 := by decide

instance : Subsingleton Cert.Pre_finite8.S_.Idx := ⟨fun a b => funext fun i => i.elim0⟩

theorem real_all {s : Shape} {axes : List (Fin s.rank)} (x : FVec Ideal s .f32)
    (B : FVec Ideal s .f32) (hB : ∀ i, B i = Ideal.ofBits .f32 0x7F800000#32) (h : s.ReducesTo axes Cert.Pre_finite8.S_) (hu : 0 < Cert.Pre_finite8.S_.numel) (j : Cert.Pre_finite8.S_.Idx)
    (e : Host.reduce IntOp.andi (cmpf .olt (Host.absf x) B) (constantI Cert.Pre_finite8.S_ 1 1#1) h hu j = 1#1) : ∀ i, IsR (x i) := by
  intro i
  have h1 := Host.reduce_andi_all _ _ _ _ j e i
  refine Cert.Pre_finite_qk.real_of_cmp (x i) ?_
  rw [← hB i]
  exact h1

/-- What the precondition says, element by element. -/
theorem real_of_fn (hf : Cert.Pre_finite8.Facts) (x : FVec Ideal Cert.Pre_finite8.S8192x4096 .f32) (g : FVec Ideal Cert.Pre_finite8.S1x4096 .f32) (md : FVec Ideal Cert.Pre_finite8.S1x24576 .f32)
    (w : FVec Ideal Cert.Pre_finite8.S1x4096x32 .f32) (b : FVec Ideal Cert.Pre_finite8.S1x32 .f32) (h : Cert.Pre_finite8.fn (F := Ideal) x g md w b = fun _ => 1#1) :
    (∀ i, IsR (g i)) ∧ (∀ j : Fin 24576, 12288 ≤ j.val → j.val < 20480 → IsR (md (ix2 0 j))) ∧ ∀ i, IsR (w i) := by
  have hj := congrFun h (fun i => i.elim0)
  obtain ⟨h01, h2⟩ := Cert.Pre_finite_qk.and_one _ _ hj
  obtain ⟨h0, h1⟩ := Cert.Pre_finite_qk.and_one _ _ h01
  refine ⟨real_all g _ (fun _ => rfl) _ _ _ h0, fun j ha hb => ?_, real_all w _ (fun _ => rfl) _ _ _ h2⟩
  have h3 := real_all _ _ (fun _ => rfl) _ _ _ h1 (ix2 0 ⟨j.val - 12288, by omega⟩)
  have e : extractStridedSlice Cert.Pre_finite8.S1x8192 ![0, 12288] md hf.slices_S1x24576_S1x8192_0_12288 (ix2 0 ⟨j.val - 12288, by omega⟩) = md (ix2 0 j) := by
    pointwise
    exact congrArg (fun j => md (ix2 0 j)) (Fin.ext (by show 12288 + (j.val - 12288) = j.val; omega))
  rw [← e]
  exact h3

/-! ## The reference's results -/

open Cert.Reference8Ideal Cert.Reference8Ideal.Gen

def Rh (x : FVec Ideal S8192x4096 .f32) (g : FVec Ideal S1x4096 .f32) (md : FVec Ideal S1x24576 .f32) : FVec Ideal S8192x4096 .f32 :=
  addf (mulf (mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 g)) (broadcastInDim S8192x4096 ![0, 1] bcast_S1x4096_S8192x4096_0_1 (addf (broadcastInDim S1x4096 ![] bcast_S_S1x4096 (constant S_ .f32 0x3F800000#32)) (extractStridedSlice S1x4096 ![0, 16384] md slices_S1x24576_S1x4096_0_16384)))) (broadcastInDim S8192x4096 ![0, 1] bcast_S1x4096_S8192x4096_0_1 (extractStridedSlice S1x4096 ![0, 12288] md slices_S1x24576_S1x4096_0_12288))

def Rl (h : FVec Ideal S8192x4096 .f32) (w : FVec Ideal S1x4096x32 .f32) (b : FVec Ideal S1x32 .f32) : FVec Ideal S32x8192 .f32 :=
  transpose S32x8192 [1, 0] (addf (Host.dotGeneral dot_S8192x4096_S4096x32_S8192x32_1_0_0_1_n_n none h (shapeCast _ w shapeCasts_S1x4096x32_S4096x32)) (broadcastInDim S8192x32 ![0, 1] bcast_S1x32_S8192x32_0_1 b)) transposes_S8192x32_S32x8192_1_0

theorem Rh_at (x : FVec Ideal S8192x4096 .f32) (g : FVec Ideal S1x4096 .f32) (md : FVec Ideal S1x24576 .f32) (i : Fin 8192) (k : Fin 4096) :
    Rh x g md (ix2 i k) = rowN (fun k => x (ix2 i k)) (fun k => g (ix2 0 k)) (fun k => md (ix2 0 ⟨16384 + k.val, by have := k.isLt; omega⟩))
      (fun k => md (ix2 0 ⟨12288 + k.val, by have := k.isLt; omega⟩)) k := by
  pointwise [Rh]
  rfl

theorem Rl_at (h : FVec Ideal S8192x4096 .f32) (w : FVec Ideal S1x4096x32 .f32) (b : FVec Ideal S1x32 .f32) (i : Fin 8192) (e : Fin 32) :
    Rl h w b (ix2 e i) = ∑ k, h (ix2 i k) * w (ix3 0 k e) + b (ix2 0 e) := by
  pointwise [Rl]

end Cert.Norm

end
-- ==== Proof.Norm.Loop.lean ====
/- The second norm's loop over the 16-row strips: what the three buffers hold after it. -/
module

public import proofs.«01_k».proof.Proof.Norm.Row
public import proofs.«01_k».proof.Proof.FfnAux
public import proofs.«01_k».proof.Proof.Gen.Kernel8Ideal.Value
public import Idealize.ShloMosaic.Lib.Pipeline.ValueKit
public import Idealize.ShloMosaic.Lib.Pointwise
public import Idealize.ShloMosaic.Lib.WholeRead

@[expose] public section

set_option maxRecDepth 16384

noncomputable section

open Idealize.ShloMosaic Idealize.ShloMosaic.TcCoe Idealize.SL.Sem
open Idealize.ShloMosaic.Pipeline (Dat Window)

namespace Cert.Kernel8Ideal.Norm

open Cert.Kernel8Ideal Cert.Kernel8Ideal.Gen Cert.Norm

theorem trips_eq : k0_t1_loop.trips = 16 := by decide +kernel
theorem off1_eq : ∀ k : Fin k0_t1_loop.trips, k0_off1 k = ![16 * k.val, 0] := by decide +kernel

/-- A block of rows, normed. -/
def hval (x0 : FVec Ideal S256x4096 .f32) (g sc sh : FVec Ideal S1x4096 .f32) (y : S256x4096.Idx) : EReal :=
  rowN (fun k => x0 (ix2 (y 0) k)) (fun k => g (ix2 0 k)) (fun k => sc (ix2 0 k)) (fun k => sh (ix2 0 k)) (y 1)

theorem pay1_at (x : Vec Ideal S16x4096 .f32) (g sc sh : Vec Ideal S1x4096 .f32) (p : Fin 16) (q : Fin 4096) :
    k0_pay1 x g sc sh (ix2 p q) = rowN (fun k => x (ix2 p k)) (fun k => g (ix2 0 k)) (fun k => sc (ix2 0 k)) (fun k => sh (ix2 0 k)) q := by
  pointwise [k0_pay1]
  rfl

theorem pay3_at (x : Vec Ideal S16x4096 .f32) (g sc sh : Vec Ideal S1x4096 .f32) (p : Fin 16) (q : Fin 4096) :
    k0_pay3 x g sc sh (ix2 p q) = k0_pay1 x g sc sh (ix2 p q) := by
  pointwise [k0_pay3, k0_pay2]

theorem pay4_at (x : Vec Ideal S16x4096 .f32) (g sc sh : Vec Ideal S1x4096 .f32) (p : Fin 16) (q : Fin 4096) :
    k0_pay4 x g sc sh (ix2 p q) = k0_pay1 x g sc sh (ix2 p q) - k0_pay1 x g sc sh (ix2 p q) := by
  pointwise [k0_pay4, k0_pay2]

/-- The place of an element of a trip's rows in the block. -/
theorem off1_idx (k : Fin k0_t1_loop.trips) (x : S16x4096.Idx) (hk : k.val < 16) :
    (Rect.unit (s := S256x4096) (k0_off1 k) S16x4096.size (k0_off1_inb k)).emb x
      = ix2 ⟨16 * k.val + (x 0).val, by have h1 : (x 0).val < 16 := (x 0).isLt; omega⟩ (x 1) := by
  funext a
  refine Fin.ext ?_
  show (k0_off1 k) a + 1 * (x a).val = _
  rw [off1_eq]
  fin_cases a
  · show 16 * k.val + 1 * (x 0).val = 16 * k.val + (x 0).val; omega
  · show 0 + 1 * (x 1).val = (x 1).val; omega

/-- The pieces agree with `G` and cover the first `16 n` rows. -/
def Good {e : _} (G : S256x4096.Idx → Elt Ideal e) (L : List (View.Piece (Elt Ideal) S256x4096 e)) (n : ℕ) : Prop :=
  (∀ p ∈ L, ∀ x : p.1.shape.Idx, p.2 x = G (p.1.emb x)) ∧ ∀ y : S256x4096.Idx, (y 0).val < 16 * n → ∃ p ∈ L, y ∈ p.1.set

theorem Good.zero {e : _} (G : S256x4096.Idx → Elt Ideal e) : Good G [] 0 :=
  ⟨fun p hp => absurd hp List.not_mem_nil, fun y hy => absurd hy (by omega)⟩

theorem Good.step {e : _} {G : S256x4096.Idx → Elt Ideal e} {L : List (View.Piece (Elt Ideal) S256x4096 e)} (k : Fin k0_t1_loop.trips) (hk : k.val < 16)
    (hL : Good G L k.val) (v : S16x4096.Idx → Elt Ideal e)
    (hv : ∀ (p : Fin 16) (q : Fin 4096), v (ix2 p q) = G (ix2 ⟨16 * k.val + p.val, by have := p.isLt; omega⟩ q)) :
    Good G (⟨Rect.unit (s := S256x4096) (k0_off1 k) S16x4096.size (k0_off1_inb k), v⟩ :: L) (k.val + 1) := by
  obtain ⟨h1, h2⟩ := hL
  constructor
  · intro p hp x
    rcases List.mem_cons.mp hp with rfl | hp
    · rw [off1_idx k x hk]
      refine Eq.trans ?_ (hv (x 0) (x 1))
      refine congrArg v ?_
      funext a; fin_cases a <;> rfl
    · exact h1 p hp x
  · intro y hy
    by_cases hlt : (y 0).val < 16 * k.val
    · obtain ⟨p, hp, hy'⟩ := h2 y hlt
      exact ⟨p, List.mem_cons_of_mem _ hp, hy'⟩
    · refine ⟨_, List.mem_cons_self, ?_⟩
      rw [Rect.mem_set_unit]
      intro a
      rw [off1_eq]
      have h4096 : (y 1).val < 4096 := (y 1).isLt
      fin_cases a
      · show 16 * k.val ≤ (y 0).val ∧ (y 0).val < 16 * k.val + 16; omega
      · show 0 ≤ (y 1).val ∧ (y 1).val < 0 + 4096; omega

theorem Good.canon {e : _} {G : S256x4096.Idx → Elt Ideal e} {L : List (View.Piece (Elt Ideal) S256x4096 e)} (h : Good G L 16) (y : S256x4096.Idx) :
    View.canon L y = G y :=
  View.canon_apply_of_pieces (Val := Elt Ideal) G L h.1 y (h.2 y (y 0).isLt)

theorem load_row (a : Memref sig .tc .vmem S1x4096 .f32) (ha : a.IsWhole) (x : Vec Ideal S1x4096 .f32) :
    View.readAt (Elt Ideal) a.view (Rect.unit (s := S1x4096) ![0, 0] S1x4096.size inb_S1x4096_S1x4096_0_0).toLoadRect (ha.unread x) = x :=
  FfnAux.load_whole (Val := Elt Ideal) ha x (by funext a; fin_cases a <;> rfl) _

/-- One trip stores one piece into each of the three buffers. -/
theorem trip_piece (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S256x4096 .f32) (harg8 : arg8.IsWhole) (arg9 : Memref sig .tc .vmem S32x256 .f32) (harg9 : arg9.IsWhole) (arg10 : Memref sig .tc .vmem S256x4096 .bf16) (harg10 : arg10.IsWhole) (arg11 : Memref sig .tc .vmem S256x4096 .bf16) (harg11 : arg11.IsWhole) (x0 : FVec Ideal S256x4096 .f32) (g sc sh : FVec Ideal S1x4096 .f32) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread g) (harg3.unread sc) (harg4.unread sh) k
      = ([⟨Rect.unit (s := S256x4096) (k0_off1 k) S16x4096.size (k0_off1_inb k), k0_pay1 (View.readAt (Elt Ideal) arg1.view (Rect.unit (s := S256x4096) (k0_off1 k) S16x4096.size (k0_off1_inb k)).toLoadRect (harg1.unread x0)) g sc sh⟩],
        [⟨Rect.unit (s := S256x4096) (k0_off1 k) S16x4096.size (k0_off1_inb k), k0_pay3 (View.readAt (Elt Ideal) arg1.view (Rect.unit (s := S256x4096) (k0_off1 k) S16x4096.size (k0_off1_inb k)).toLoadRect (harg1.unread x0)) g sc sh⟩],
        [⟨Rect.unit (s := S256x4096) (k0_off1 k) S16x4096.size (k0_off1_inb k), k0_pay4 (View.readAt (Elt Ideal) arg1.view (Rect.unit (s := S256x4096) (k0_off1 k) S16x4096.size (k0_off1_inb k)).toLoadRect (harg1.unread x0)) g sc sh⟩]) := by
  have e2 : View.readAt (Elt Ideal) arg2.view (Rect.unit (s := S1x4096) ![0, 0] S1x4096.size inb_S1x4096_S1x4096_0_0).toLoadRect (harg2.unread g) = g :=
    load_row _ harg2 g
  have e3 : View.readAt (Elt Ideal) arg3.view (Rect.unit (s := S1x4096) ![0, 0] S1x4096.size inb_S1x4096_S1x4096_0_0).toLoadRect (harg3.unread sc) = sc :=
    load_row _ harg3 sc
  have e4 : View.readAt (Elt Ideal) arg4.view (Rect.unit (s := S1x4096) ![0, 0] S1x4096.size inb_S1x4096_S1x4096_0_0).toLoadRect (harg4.unread sh) = sh :=
    load_row _ harg4 sh
  unfold tripL_k0_t1 trip_k0_t1
  dsimp only
  rw [e2, e3, e4]

/-- A trip's rows, normed, are the block's. -/
theorem rows_at (arg1 : Memref sig .tc .vmem S256x4096 .f32) (harg1 : arg1.IsWhole) (x0 : FVec Ideal S256x4096 .f32) (g sc sh : FVec Ideal S1x4096 .f32) (k : Fin k0_t1_loop.trips) (hk : k.val < 16) (p : Fin 16) (q : Fin 4096) :
    k0_pay1 (View.readAt (Elt Ideal) arg1.view (Rect.unit (s := S256x4096) (k0_off1 k) S16x4096.size (k0_off1_inb k)).toLoadRect (harg1.unread x0)) g sc sh (ix2 p q)
      = hval x0 g sc sh (ix2 ⟨16 * k.val + p.val, by have := p.isLt; omega⟩ q) := by
  rw [pay1_at, hval]
  refine congrArg (fun f => rowN f _ _ _ q) (funext fun j => ?_)
  rw [harg1.readAt_unread]
  exact congrArg x0 (off1_idx k (ix2 p j) hk)

theorem pieces (c : Dev nD) (i : grid0.Coords) (arg1 : Memref sig .tc .vmem S256x4096 .f32) (harg1 : arg1.IsWhole) (arg2 : Memref sig .tc .vmem S1x4096 .f32) (harg2 : arg2.IsWhole) (arg3 : Memref sig .tc .vmem S1x4096 .f32) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x128 .bf16) (harg6 : arg6.IsWhole) (arg7 : Memref sig .tc .vmem S1x128 .f32) (harg7 : arg7.IsWhole) (arg8 : Memref sig .tc .vmem S256x4096 .f32) (harg8 : arg8.IsWhole) (arg9 : Memref sig .tc .vmem S32x256 .f32) (harg9 : arg9.IsWhole) (arg10 : Memref sig .tc .vmem S256x4096 .bf16) (harg10 : arg10.IsWhole) (arg11 : Memref sig .tc .vmem S256x4096 .bf16) (harg11 : arg11.IsWhole) (x0 : FVec Ideal S256x4096 .f32) (g sc sh : FVec Ideal S1x4096 .f32) (n : ℕ) (hn : n ≤ 16) :
    Good (e := .f32) (hval x0 g sc sh) (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread g) (harg3.unread sc) (harg4.unread sh) n).1 n
    ∧ Good (e := .bf16) (hval x0 g sc sh) (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread g) (harg3.unread sc) (harg4.unread sh) n).2.1 n
    ∧ Good (e := .bf16) (fun y => (hval x0 g sc sh y - hval x0 g sc sh y : EReal)) (pb_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread g) (harg3.unread sc) (harg4.unread sh) n).2.2 n := by
  induction n with
  | zero => exact ⟨Good.zero _, Good.zero _, Good.zero _⟩
  | succ n ih =>
    obtain ⟨h1, h2, h3⟩ := ih (by omega)
    have hk : n < 16 := hn
    have hn' : n < k0_t1_loop.trips := by rw [trips_eq]; exact hk
    have hs := pb_k0_t1_succ (F := Ideal) Variants.none c none i arg1 harg1 arg2 harg2 arg3 harg3 arg4 harg4 arg5 harg5 arg6 harg6 arg7 harg7 arg8 harg8 arg9 harg9 arg10 harg10 arg11 harg11 (harg1.unread x0) (harg2.unread g) (harg3.unread sc) (harg4.unread sh) ⟨n, hn'⟩
    rw [trip_piece] at hs
    rw [show n + 1 = (⟨n, hn'⟩ : Fin k0_t1_loop.trips).val + 1 from rfl, hs]
    refine ⟨h1.step ⟨n, hn'⟩ hk _ fun p q => ?_, h2.step ⟨n, hn'⟩ hk _ fun p q => ?_, h3.step ⟨n, hn'⟩ hk _ fun p q => ?_⟩
    · exact rows_at arg1 harg1 x0 g sc sh ⟨n, hn'⟩ hk p q
    · exact (pay3_at _ g sc sh p q).trans (rows_at arg1 harg1 x0 g sc sh ⟨n, hn'⟩ hk p q)
    · refine (pay4_at _ g sc sh p q).trans ?_
      rw [rows_at arg1 harg1 x0 g sc sh ⟨n, hn'⟩ hk p q]

theorem pay5_at (a : Vec Ideal S256x4096 .bf16) (b : Vec Ideal S4096x256 .bf16) (v : Vec Ideal S256x4096 .bf16) (w : Vec Ideal S4096x128 .bf16) (z : Vec Ideal S1x128 .f32) (p : Fin 32) (q : Fin 256) :
    k0_pay5 a b v w z (ix2 p q) = ∑ x, a (ix2 q x) * b (ix2 x ⟨p.val, by have := p.isLt; omega⟩) + ∑ x, a (ix2 q x) * b (ix2 x ⟨128 + p.val, by have := p.isLt; omega⟩)
      + ∑ x, v (ix2 q x) * w (ix2 x ⟨p.val, by have := p.isLt; omega⟩) + z (ix2 0 ⟨p.val, by have := p.isLt; omega⟩) := by
  pointwise [k0_pay5]

end Cert.Kernel8Ideal.Norm

end
-- ==== Proof.Norm.Value.lean ====
/- The second norm's call: the arrays the pipelined call leaves are the reference's terms. -/
module

public import proofs.«01_k».proof.Proof.Norm.Host
public import proofs.«01_k».proof.Proof.Norm.Loop

@[expose] public section

set_option maxRecDepth 16384

noncomputable section

open Idealize.ShloMosaic Idealize.ShloMosaic.TcCoe Idealize.SL.Sem
open Idealize.ShloMosaic.Pipeline (Dat Window)

namespace Cert.Kernel8Ideal.Norm

open Cert.Kernel8Ideal Cert.Kernel8Ideal.Gen Cert.Norm

variable (m : (ℓ : Loc nD τ sig) → Buf (Elt Ideal) ℓ)

theorem steps (t : Fin cfg0.N) : t.val < 32 := t.isLt
theorem index_0 : ∀ t : Fin cfg0.N, (cfg0.win 0).index t = ![t.val, 0] := by decide +kernel
theorem index_1 : ∀ t : Fin cfg0.N, (cfg0.win 1).index t = ![0, 0] := by decide +kernel
theorem index_2 : ∀ t : Fin cfg0.N, (cfg0.win 2).index t = ![0, 4] := by decide +kernel
theorem index_3 : ∀ t : Fin cfg0.N, (cfg0.win 3).index t = ![0, 3] := by decide +kernel
theorem index_4 : ∀ t : Fin cfg0.N, (cfg0.win 4).index t = ![0, 0] := by decide +kernel
theorem index_5 : ∀ t : Fin cfg0.N, (cfg0.win 5).index t = ![0, 0] := by decide +kernel
theorem index_6 : ∀ t : Fin cfg0.N, (cfg0.win 6).index t = ![0, 0] := by decide +kernel
theorem index_7 : ∀ t : Fin cfg0.N, (cfg0.win 7).index t = ![t.val, 0] := by decide +kernel
theorem index_8 : ∀ t : Fin cfg0.N, (cfg0.win 8).index t = ![0, t.val] := by decide +kernel

/-! ## The blocks -/

theorem blk_0 (c : Dev nD) (t : Fin cfg0.N) (p : Fin 256) (k : Fin 4096) (i : Fin 8192) (hi : i.val = t.val * 256 + p.val) :
    (iblk m c 0 t : FVec Ideal S256x4096 .f32) (ix2 p k) = arg0 m c (ix2 i k) := by
  have e1 : ((cfg0.win 0).rect t).emb (ix2 p k) = (ix2 i k : S8192x4096.Idx) := by
    funext a
    apply Fin.ext
    have h := Window.rect_emb_val (cfg0.win 0) t (ix2 p k) a rfl
    rw [index_0] at h
    refine h.trans ?_
    fin_cases a
    · exact hi.symm
    · exact Nat.zero_add _
  have e2 : V m c main_arg0 = arg0 m c := V_main_arg0 m c
  exact (congrArg (V m c main_arg0) e1).trans (congrFun e2 _)

theorem blk_1 (c : Dev nD) (t : Fin cfg0.N) (k : Fin 4096) : (iblk m c 1 t : FVec Ideal S1x4096 .f32) (ix2 0 k) = arg1 m c (ix2 0 k) := by
  have e1 : ((cfg0.win 1).rect t).emb (ix2 0 k) = (ix2 0 k : S1x4096.Idx) := by
    funext a
    apply Fin.ext
    have h := Window.rect_emb_val (cfg0.win 1) t (ix2 0 k) a rfl
    rw [index_1] at h
    refine h.trans ?_
    fin_cases a
    · rfl
    · exact Nat.zero_add _
  have e2 : V m c main_arg1 = arg1 m c := V_main_arg1 m c
  exact (congrArg (V m c main_arg1) e1).trans (congrFun e2 _)

theorem blk_2 (c : Dev nD) (t : Fin cfg0.N) (k : Fin 4096) :
    (iblk m c 2 t : FVec Ideal S1x4096 .f32) (ix2 0 k) = arg2 m c (ix2 0 ⟨16384 + k.val, by have := k.isLt; omega⟩) := by
  have e1 : ((cfg0.win 2).rect t).emb (ix2 0 k) = (ix2 0 ⟨16384 + k.val, by have := k.isLt; omega⟩ : S1x24576.Idx) := by
    funext a
    apply Fin.ext
    have h := Window.rect_emb_val (cfg0.win 2) t (ix2 0 k) a rfl
    rw [index_2] at h
    refine h.trans ?_
    fin_cases a <;> rfl
  have e2 : V m c main_arg2 = arg2 m c := V_main_arg2 m c
  exact (congrArg (V m c main_arg2) e1).trans (congrFun e2 _)

theorem blk_3 (c : Dev nD) (t : Fin cfg0.N) (k : Fin 4096) :
    (iblk m c 3 t : FVec Ideal S1x4096 .f32) (ix2 0 k) = arg2 m c (ix2 0 ⟨12288 + k.val, by have := k.isLt; omega⟩) := by
  have e1 : ((cfg0.win 3).rect t).emb (ix2 0 k) = (ix2 0 ⟨12288 + k.val, by have := k.isLt; omega⟩ : S1x24576.Idx) := by
    funext a
    apply Fin.ext
    have h := Window.rect_emb_val (cfg0.win 3) t (ix2 0 k) a rfl
    rw [index_3] at h
    refine h.trans ?_
    fin_cases a <;> rfl
  have e2 : V m c main_arg2 = arg2 m c := V_main_arg2 m c
  exact (congrArg (V m c main_arg2) e1).trans (congrFun e2 _)

theorem wf_at (c : Dev nD) (k : Fin 4096) (e : Fin 32) : wf m c (ix2 k e) = arg3 m c (ix3 0 k e) := by
  unfold wf
  pointwise

theorem blk_4 (c : Dev nD) (t : Fin cfg0.N) (k : Fin 4096) (j : Fin 256) : (iblk m c 4 t : FVec Ideal S4096x256 .bf16) (ix2 k j) = V m c main_v7 (ix2 k j) := by
  have e1 : ((cfg0.win 4).rect t).emb (ix2 k j) = (ix2 k j : S4096x256.Idx) := by
    funext a
    apply Fin.ext
    have h := Window.rect_emb_val (cfg0.win 4) t (ix2 k j) a rfl
    rw [index_4] at h
    refine h.trans ?_
    fin_cases a <;> exact Nat.zero_add _
  exact congrArg (V m c main_v7) e1

/-- The first half of the joined weights. -/
theorem blk_hi (c : Dev nD) (t : Fin cfg0.N) (k : Fin 4096) (e : Fin 32) :
    (iblk m c 4 t : FVec Ideal S4096x256 .bf16) (ix2 k ⟨e.val, by have := e.isLt; omega⟩) = arg3 m c (ix3 0 k e) := by
  refine (blk_4 m c t k _).trans ?_
  rw [V7]
  refine (cat_lo _ _ k ⟨e.val, by have := e.isLt; omega⟩).trans ?_
  refine (wpad_at _ k e _ rfl).trans ?_
  exact wf_at m c k e

/-- The second half: the remainder of the rounding. -/
theorem blk_lo (c : Dev nD) (t : Fin cfg0.N) (k : Fin 4096) (e : Fin 32) :
    (iblk m c 4 t : FVec Ideal S4096x256 .bf16) (ix2 k ⟨128 + e.val, by have := e.isLt; omega⟩) = (arg3 m c (ix3 0 k e) - arg3 m c (ix3 0 k e) : EReal) := by
  refine (blk_4 m c t k _).trans ?_
  rw [V7]
  refine (cat_hi _ _ k ⟨e.val, by have := e.isLt; omega⟩).trans ?_
  refine (wpad_at _ k e _ rfl).trans ?_
  rw [← wf_at m c k e]
  rfl

theorem blk_5 (c : Dev nD) (t : Fin cfg0.N) (k : Fin 4096) (e : Fin 32) :
    (iblk m c 5 t : FVec Ideal S4096x128 .bf16) (ix2 k ⟨e.val, by have := e.isLt; omega⟩) = arg3 m c (ix3 0 k e) := by
  have e1 : ((cfg0.win 5).rect t).emb (ix2 k ⟨e.val, by have := e.isLt; omega⟩) = (ix2 k ⟨e.val, by have := e.isLt; omega⟩ : S4096x128.Idx) := by
    funext a
    apply Fin.ext
    have h := Window.rect_emb_val (cfg0.win 5) t (ix2 k ⟨e.val, by have := e.isLt; omega⟩) a rfl
    rw [index_5] at h
    refine h.trans ?_
    fin_cases a <;> exact Nat.zero_add _
  refine (congrArg (V m c main_v8) e1).trans ?_
  rw [V8]
  exact (wpad_at _ k e _ rfl).trans (wf_at m c k e)

theorem blk_6 (c : Dev nD) (t : Fin cfg0.N) (e : Fin 32) :
    (iblk m c 6 t : FVec Ideal S1x128 .f32) (ix2 0 ⟨e.val, by have := e.isLt; omega⟩) = arg4 m c (ix2 0 e) := by
  have e1 : ((cfg0.win 6).rect t).emb (ix2 0 ⟨e.val, by have := e.isLt; omega⟩) = (ix2 0 ⟨e.val, by have := e.isLt; omega⟩ : S1x128.Idx) := by
    funext a
    apply Fin.ext
    have h := Window.rect_emb_val (cfg0.win 6) t (ix2 0 ⟨e.val, by have := e.isLt; omega⟩) a rfl
    rw [index_6] at h
    refine h.trans ?_
    fin_cases a
    · rfl
    · exact Nat.zero_add _
  refine (congrArg (V m c main_v9) e1).trans ?_
  rw [V9]
  refine pad_apply_of_inside _ _ _ (arg4 m c) _ _ _ (ix2 0 ⟨e.val, by have := e.isLt; omega⟩) (ix2 0 e) ?_
  intro a
  fin_cases a
  · rfl
  · show e.val = 0 + e.val * (0 + 1); omega

/-- A block's normed rows are the reference's. -/
theorem hval_eq (c : Dev nD) (t : Fin cfg0.N) (p : Fin 256) (q : Fin 4096) (i : Fin 8192) (hi : i.val = t.val * 256 + p.val) :
    hval (iblk m c 0 t) (iblk m c 1 t) (iblk m c 2 t) (iblk m c 3 t) (ix2 p q) = Rh (arg0 m c) (arg1 m c) (arg2 m c) (ix2 i q) := by
  rw [Rh_at, hval]
  have f0 := funext fun k => blk_0 m c t p k i hi
  have f1 := funext fun k => blk_1 m c t k
  have f2 := funext fun k => blk_2 m c t k
  have f3 := funext fun k => blk_3 m c t k
  exact (congrArg (fun f => rowN f _ _ _ q) f0).trans ((congrArg (fun f => rowN _ f _ _ q) f1).trans ((congrArg (fun f => rowN _ _ f _ q) f2).trans (congrArg (fun f => rowN _ _ _ f q) f3)))

/-! ## The first result -/

theorem out7_at (c : Dev nD) (t : Fin cfg0.N) (p : Fin 256) (q : Fin 4096) (i : Fin 8192) (hi : i.val = t.val * 256 + p.val) :
    (outsAt0 m c t).1 (ix2 p q) = Rh (arg0 m c) (arg1 m c) (arg2 m c) (ix2 i q) := by
  unfold outsAt0; frame_out
  have e : (Scf.trips (0#32) (Scalar.addi 0#32 16#32) 1#32) = 16 := trips_eq
  rw [e]
  exact ((pieces c (grid0.coords t) _ _ _ _ _ _ _ _ _ _ _ _ _ _ _ _ _ _ _ _ _ _ (iblk m c 0 t) (iblk m c 1 t) (iblk m c 2 t) (iblk m c 3 t) 16 le_rfl).1.canon _).trans (hval_eq m c t p q i hi)

theorem final7 (c : Dev nD) : (dats m 0 c).arrAt 7 (cfgs 0).N = Rh (arg0 m c) (arg1 m c) (arg2 m c) := by
  refine (dats m 0 c).arrAt_eq_of_covers 7 _ (by decide +kernel) fun t _ y => ?_
  blk_simp
  rw [after0_7]
  obtain ⟨p, q, rfl⟩ : ∃ (p : Fin 256) (q : Fin 4096), y = ix2 p q := ⟨y 0, y 1, by funext a; fin_cases a <;> rfl⟩
  have ht := steps t
  have hi : t.val * 256 + p.val < 8192 := by have := p.isLt; omega
  have e1 : ((cfg0.win 7).rect t).emb (ix2 p q) = (ix2 ⟨_, hi⟩ q : S8192x4096.Idx) := by
    funext a
    apply Fin.ext
    have h := Window.rect_emb_val (cfg0.win 7) t (ix2 p q) a rfl
    rw [index_7] at h
    refine h.trans ?_
    fin_cases a
    · rfl
    · exact Nat.zero_add _
  exact (out7_at m c t p q ⟨_, hi⟩ rfl).trans (congrArg (Rh (arg0 m c) (arg1 m c) (arg2 m c)) e1.symm)

/-! ## The second result -/

variable {m} in
theorem Rh_real {c : Dev nD} (hg : ∀ i, IsR (arg1 m c i)) (hm : ∀ j : Fin 24576, 12288 ≤ j.val → j.val < 20480 → IsR (arg2 m c (ix2 0 j))) (i : Fin 8192) (k : Fin 4096) :
    IsR (Rh (arg0 m c) (arg1 m c) (arg2 m c) (ix2 i k)) := by
  rw [Rh_at]
  have hk := k.isLt
  exact rowN_real _ _ _ _ k (hg _) (hm ⟨16384 + k.val, by omega⟩ (by show 12288 ≤ 16384 + k.val; omega) (by show 16384 + k.val < 20480; omega))
    (hm ⟨12288 + k.val, by omega⟩ (by show 12288 ≤ 12288 + k.val; omega) (by show 12288 + k.val < 20480; omega))

/-- With both remainders zero, the three products are one. -/
theorem pay5_real (a : Vec Ideal S256x4096 .bf16) (b : Vec Ideal S4096x256 .bf16) (v : Vec Ideal S256x4096 .bf16) (w : Vec Ideal S4096x128 .bf16) (z : Vec Ideal S1x128 .f32) (p : Fin 32) (q : Fin 256)
    (h u : Fin 4096 → EReal) (z0 : EReal) (ha : ∀ k, a (ix2 q k) = h k) (hb : ∀ k, b (ix2 k ⟨p.val, by have := p.isLt; omega⟩) = u k) (hb2 : ∀ k, b (ix2 k ⟨128 + p.val, by have := p.isLt; omega⟩) = (0 : EReal))
    (hv : ∀ k, v (ix2 q k) = (0 : EReal)) (hz : z (ix2 0 ⟨p.val, by have := p.isLt; omega⟩) = z0) :
    k0_pay5 a b v w z (ix2 p q) = ∑ k, h k * u k + z0 := by
  rw [pay5_at, hz]
  simp only [ha, hb, hb2, hv, mul_zero, zero_mul, Finset.sum_const_zero, add_zero]

theorem out8_at (c : Dev nD) (hg : ∀ i, IsR (arg1 m c i)) (hm : ∀ j : Fin 24576, 12288 ≤ j.val → j.val < 20480 → IsR (arg2 m c (ix2 0 j)))
    (hw : ∀ i, IsR (arg3 m c i)) (t : Fin cfg0.N) (p : Fin 32) (q : Fin 256) (i : Fin 8192) (hi : i.val = t.val * 256 + q.val) :
    (outsAt0 m c t).2 (ix2 p q) = Rl (Rh (arg0 m c) (arg1 m c) (arg2 m c)) (arg3 m c) (arg4 m c) (ix2 p i) := by
  unfold outsAt0; frame_out
  have e : (Scf.trips (0#32) (Scalar.addi 0#32 16#32) 1#32) = 16 := trips_eq
  rw [e]
  have hp := pieces c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    (iblk m c 0 t) (iblk m c 1 t) (iblk m c 2 t) (iblk m c 3 t) 16 le_rfl
  have idx : ∀ k : Fin 4096, ((Rect.unit (s := S256x4096) ![0, 0] ![256, 4096] inb_S256x4096_S256x4096_0_0).toLoadRect).idx (ix2 q k) = (ix2 q k : S256x4096.Idx) := by
    intro k
    funext a
    refine Fin.ext ?_
    fin_cases a
    · show 0 + 1 * q.val = q.val; omega
    · show 0 + 1 * k.val = k.val; omega
  rw [Rl_at]
  refine pay5_real _ _ _ _ _ p q (fun k => Rh (arg0 m c) (arg1 m c) (arg2 m c) (ix2 i k)) (fun k => arg3 m c (ix3 0 k p)) _ (fun k => ?_) (fun k => blk_hi m c t k p)
    (fun k => (blk_lo m c t k p).trans (hw _).sub_self) (fun k => ?_) (blk_6 m c t p)
  · rw [View.readCov_eq_canon']
    exact (hp.2.1.canon _).trans ((congrArg _ (idx k)).trans (hval_eq m c t q k i hi))
  · rw [View.readCov_eq_canon']
    refine (hp.2.2.canon _).trans ((congrArg (fun y => (hval (iblk m c 0 t) (iblk m c 1 t) (iblk m c 2 t) (iblk m c 3 t) y - hval (iblk m c 0 t) (iblk m c 1 t) (iblk m c 2 t) (iblk m c 3 t) y : EReal)) (idx k)).trans ?_)
    show (hval (iblk m c 0 t) (iblk m c 1 t) (iblk m c 2 t) (iblk m c 3 t) (ix2 q k) - hval (iblk m c 0 t) (iblk m c 1 t) (iblk m c 2 t) (iblk m c 3 t) (ix2 q k) : EReal) = 0
    rw [hval_eq m c t q k i hi]
    exact (Rh_real hg hm i k).sub_self

theorem final8 (c : Dev nD) (hg : ∀ i, IsR (arg1 m c i)) (hm : ∀ j : Fin 24576, 12288 ≤ j.val → j.val < 20480 → IsR (arg2 m c (ix2 0 j)))
    (hw : ∀ i, IsR (arg3 m c i)) : (dats m 0 c).arrAt 8 (cfgs 0).N = Rl (Rh (arg0 m c) (arg1 m c) (arg2 m c)) (arg3 m c) (arg4 m c) := by
  refine (dats m 0 c).arrAt_eq_of_covers 8 _ (by decide +kernel) fun t _ y => ?_
  blk_simp
  rw [after0_8]
  obtain ⟨p, q, rfl⟩ : ∃ (p : Fin 32) (q : Fin 256), y = ix2 p q := ⟨y 0, y 1, by funext a; fin_cases a <;> rfl⟩
  have ht := steps t
  have hi : t.val * 256 + q.val < 8192 := by have := q.isLt; omega
  have e1 : ((cfg0.win 8).rect t).emb (ix2 p q) = (ix2 p ⟨_, hi⟩ : S32x8192.Idx) := by
    funext a
    apply Fin.ext
    have h := Window.rect_emb_val (cfg0.win 8) t (ix2 p q) a rfl
    rw [index_8] at h
    refine h.trans ?_
    fin_cases a
    · exact Nat.zero_add _
    · rfl
  exact (out8_at m c hg hm hw t p q ⟨_, hi⟩ rfl).trans (congrArg (Rl (Rh (arg0 m c) (arg1 m c) (arg2 m c)) (arg3 m c) (arg4 m c)) e1.symm)

end Cert.Kernel8Ideal.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Attn.Pre
public import proofs.«01_k».proof.Proof.Attn.Final
public import proofs.«01_k».proof.Proof.Pool.Value
public import proofs.«01_k».proof.Proof.Out.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Loops
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Loops
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Ffn1.Claim
public import proofs.«01_k».proof.Proof.Ffn2.Claim
public import proofs.«01_k».proof.Proof.Inproj.Claim
public import Idealize.ShloMosaic.Lib.Claim
public import Idealize.ShloMosaic.Lib.Quiescent
public import Idealize.ShloMosaic.Adequacy
public import Idealize.ShloMosaic.Init
public import proofs.«01_k».proof.Proof.Mod.Value
public import proofs.«01_k».proof.Proof.Norm.Value

@[expose] public section

set_option maxRecDepth 16384

noncomputable section

namespace Cert.Proof

open Idealize.ShloMosaic Idealize.SL.Sem Cert.Kernel

/-- The attention reference runs, keeps its arguments and ends quiescent. -/
theorem ref_frame : Cert.quiescent_ReferenceIdeal := fun m ρ _ =>
  (θ_run Cert.ReferenceIdeal.defs _ _).mono
    (fun r h => ⟨fun c => ⟨(h c).2.1, (h c).2.2.1, (h c).2.2.2⟩, Idealize.ShloMosaic.sem_eq_zero_of_no_sems (by decide) r.2⟩)
    (Cert.ReferenceIdeal.Value.run (F := Ideal) m ρ)

/-- The output-projection reference runs, keeps its arguments and ends quiescent. -/
theorem ref2_frame : Cert.quiescent_Reference2Ideal := fun m ρ _ =>
  (θ_run Cert.Reference2Ideal.defs _ _).mono
    (fun r h => ⟨fun c => ⟨(h c).2.1, (h c).2.2.1, (h c).2.2.2.1, (h c).2.2.2.2.1, (h c).2.2.2.2.2⟩, Idealize.ShloMosaic.sem_eq_zero_of_no_sems (by decide) r.2⟩)
    (Cert.Reference2Ideal.Value.run (F := Ideal) m ρ)

open Cert.ReferenceIdeal.AttnRef in
/-- The attention reference's result, in its named stages. -/
theorem ref_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v32)
        = Res (Dv (Sm (Ex (Sc (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))))) (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun _ h c => ⟨(h c).1.trans (res_eq m c), (h c).2⟩) (Cert.ReferenceIdeal.Value.run (F := Ideal) m g)

/-- The attention call computes attention, where queries and keys are finite. -/
theorem attn_value : Cert.algebraic_KernelIdeal_ReferenceIdeal_pre_finite_qk (hPre_finite_qk := Cert.Pre_finite_qk.facts) := by
  pair_intro
  · run_from Cert.KernelIdeal.Gen.run_main m g
  · run_from ref_run m' g'
    refine Eq.symm ?_
    have hr := Cert.Pre_finite_qk.real_of_fn Cert.Pre_finite_qk.facts _ _ _ (hpre c)
    exact Cert.KernelIdeal.AttnVal.final m c hr.1 hr.2

/-- The output projection computes its gated residual product. -/
theorem out_value : Cert.algebraic_Kernel2Ideal_Reference2Ideal := by
  pair_intro
  · run_from Cert.Kernel2Ideal.Gen.run_main m g
  · run_from Cert.Reference2Ideal.Value.run m' g'
    exact (Cert.Kernel2Ideal.OutVal.final m c).symm

theorem pool_ref_frame : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The pooling. -/
theorem pool_value : Cert.algebraic_Kernel6Ideal_Reference6Ideal := by
  pair_intro
  · run_from Cert.Kernel6Ideal.Gen.run_main m g
  · run_from Cert.Reference6Ideal.Value.run m' g'
    exact (Cert.Kernel6Ideal.Pool.final m c).symm

theorem mod_ref_frame : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The modulation. -/
theorem mod_value : Cert.algebraic_Kernel7Ideal_Reference7Ideal := by
  pair_intro
  · run_from Cert.Kernel7Ideal.Gen.run_main m g
  · run_from Cert.Reference7Ideal.Value.run m' g'
    exact (Cert.Kernel7Ideal.Mod.final m c).symm

theorem norm_ref_frame : Cert.quiescent_Reference8Ideal := fun m ρ _ =>
  (θ_run Cert.Reference8Ideal.defs _ _).mono
    (fun r h => ⟨fun c => (h c).2.2, Idealize.ShloMosaic.sem_eq_zero_of_no_sems (by decide) r.2⟩)
    (Cert.Reference8Ideal.Value.run (F := Ideal) m ρ)

/-- The second norm and the router's logits, where the weights are finite. -/
theorem norm_value : Cert.algebraic_Kernel8Ideal_Reference8Ideal_pre_finite8 (hPre_finite8 := Cert.Norm.pre_facts) := by
  pair_intro
  · run_from Cert.Kernel8Ideal.Gen.run_main m g
    · exact Cert.Kernel8Ideal.Gen.V_main_arg3 m c
    · exact Cert.Kernel8Ideal.Gen.V_main_arg4 m c
  · run_from Cert.Reference8Ideal.Value.run m' g'
    all_goals
      have hr := Cert.Norm.real_of_fn Cert.Norm.pre_facts _ _ _ _ _ (hpre c)
    · exact (Cert.Kernel8Ideal.Norm.final7 m c).symm
    · exact (Cert.Kernel8Ideal.Norm.final8 m c hr.1 hr.2.1 hr.2.2).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite_qk.facts, Cert.Pre_tables3.Gen.facts, Cert.Pre_tables4.Gen.facts, Cert.Norm.pre_facts, Cert.On_used3.Gen.facts, Cert.On_used4.Gen.facts,
  fun m ρ _ => Cert.Kernel.Gen.frame m ρ, fun m ρ _ => Cert.KernelIdeal.Gen.frame m ρ, fun m ρ _ => Cert.KernelIdeal.Gen.frame m ρ,
  ref_frame, fun m ρ _ => ref_frame m ρ trivial, fun m ρ _ => Cert.Kernel2.Gen.frame m ρ, fun m ρ _ => Cert.Kernel2Ideal.Gen.frame m ρ, ref2_frame,
  ffn1_frame, ffn1_ideal_frame, ffn1_ref_frame, fun m ρ _ => ffn1_ref_frame m ρ trivial,
  ffn2_frame, ffn2_ideal_frame, ffn2_ref_frame, fun m ρ _ => ffn2_ref_frame m ρ trivial,
  inproj_frame, inproj_ideal_frame, inproj_ref_frame,
  fun m ρ _ => Cert.Kernel6.Gen.frame m ρ, fun m ρ _ => Cert.Kernel6Ideal.Gen.frame m ρ, pool_ref_frame,
  fun m ρ _ => Cert.Kernel7.Gen.frame m ρ, fun m ρ _ => Cert.Kernel7Ideal.Gen.frame m ρ, mod_ref_frame,
  fun m ρ _ => Cert.Kernel8.Gen.frame m ρ, fun m ρ _ => Cert.Kernel8Ideal.Gen.frame m ρ, fun m ρ _ => Cert.Kernel8Ideal.Gen.frame m ρ,
  norm_ref_frame, fun m ρ _ => norm_ref_frame m ρ trivial,
  trivial, attn_value, trivial, out_value, trivial, ffn1_value, trivial, ffn2_value, inproj_preserves, inproj_value, trivial, pool_value, trivial, mod_value, trivial, norm_value⟩

end Cert.Proof

end
